-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_classes [hPre_in_classes : Cert.Pre_in_classes.Facts] (m : (ℓ : Loc Cert.KernelIdeal.nD Cert.KernelIdeal.τ Cert.KernelIdeal.sig) → Buf (Elt Ideal) ℓ) : Prop :=
  ∀ c : Dev Cert.KernelIdeal.nD,
    (Cert.Pre_in_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_classes [hPre_in_classes : Cert.Pre_in_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_classes [hKernelIdeal : Cert.KernelIdeal.Facts] [hPre_in_classes : Cert.Pre_in_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_classes m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_classes [hReferenceIdeal : Cert.ReferenceIdeal.Facts] [hPre_in_classes : Cert.Pre_in_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_classes [hKernelIdeal : Cert.KernelIdeal.Facts] [hReferenceIdeal : Cert.ReferenceIdeal.Facts] [hPre_in_classes : Cert.Pre_in_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_classes : Cert.Pre_in_classes.Facts),
    quiescent_Kernel (hKernel := hKernel)
    ∧ quiescent_KernelIdeal (hKernelIdeal := hKernelIdeal)
    ∧ quiescent_KernelIdeal_pre_in_classes (hKernelIdeal := hKernelIdeal) (hPre_in_classes := hPre_in_classes)
    ∧ quiescent_ReferenceIdeal (hReferenceIdeal := hReferenceIdeal)
    ∧ quiescent_ReferenceIdeal_pre_in_classes (hReferenceIdeal := hReferenceIdeal) (hPre_in_classes := hPre_in_classes)
    ∧ preserves_Kernel_KernelIdeal
    ∧ algebraic_KernelIdeal_ReferenceIdeal_pre_in_classes (hKernelIdeal := hKernelIdeal) (hReferenceIdeal := hReferenceIdeal) (hPre_in_classes := hPre_in_classes)
-- ==== Pre_in_classes.lean ====
abbrev S5000x4 : Shape := ⟨2, ![5000, 4]⟩
abbrev S5000 : Shape := ⟨1, ![5000]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : FVec F S5000x4 .f32) (main_arg1 : IVec S5000 32) (main_arg2 : FVec F S5000 .f32) : IVec S_ 1 :=
  let main_c : IVec S_ 32 := constantI S_ 32 0#32
  let main_v0 : IVec S5000 32 := broadcastInDim S5000 ![] bcast_S_S5000 main_c
  let main_v1 : IVec S5000 1 := cmpi .sge main_arg1 main_v0
  let main_c_0 : IVec S_ 32 := constantI S_ 32 8#32
  let main_v2 : IVec S5000 32 := broadcastInDim S5000 ![] bcast_S_S5000 main_c_0
  let main_v3 : IVec S5000 1 := cmpi .slt main_arg1 main_v2
  let main_v4 : IVec S5000 1 := andi main_v1 main_v3
  let main_c_1 : IVec S_ 1 := constantI S_ 1 1#1
  let main_v5 : IVec S_ 1 := (fun x v => Host.reduce IntOp.andi x v reducesTo_S5000_S_d0 h_S_) main_v4 main_c_1
  main_v5
-- ==== Kernel.lean ====
abbrev S5000x4 : Shape := ⟨2, ![5000, 4]⟩
abbrev S5000 : Shape := ⟨1, ![5000]⟩
abbrev S_ : Shape := ⟨0, ![]⟩
abbrev S8 : Shape := ⟨1, ![8]⟩
abbrev S5000x1 : Shape := ⟨2, ![5000, 1]⟩
abbrev S1 : Shape := ⟨1, ![1]⟩
abbrev S7 : Shape := ⟨1, ![7]⟩
abbrev S16 : Shape := ⟨1, ![16]⟩
abbrev S5008 : Shape := ⟨1, ![5008]⟩
abbrev S8x5008 : Shape := ⟨2, ![8, 5008]⟩
abbrev S5024 : Shape := ⟨1, ![5024]⟩
abbrev S15 : Shape := ⟨1, ![15]⟩
abbrev S14 : Shape := ⟨1, ![14]⟩
abbrev S2 : Shape := ⟨1, ![2]⟩
abbrev S12 : Shape := ⟨1, ![12]⟩
abbrev S4 : Shape := ⟨1, ![4]⟩
abbrev S1x5008 : Shape := ⟨2, ![1, 5008]⟩
abbrev S5000x5 : Shape := ⟨2, ![5000, 5]⟩

abbrev nBuf : Table → Nat
  | .hbm => 85
  | .local .scVector .vmem => 12
  | _ => 0

abbrev bufTy : (tb : Table) → Fin (nBuf tb) → BufTy
  | .hbm, ⟨0, _⟩ => ⟨S5000x4, .f32⟩
  | .hbm, ⟨1, _⟩ => ⟨S5000, .i32⟩
  | .hbm, ⟨2, _⟩ => ⟨S5000, .f32⟩
  | .hbm, ⟨3, _⟩ => ⟨S5000, .f32⟩
  | .hbm, ⟨4, _⟩ => ⟨S5000, .i32⟩
  | .hbm, ⟨5, _⟩ => ⟨S5000, .i32⟩
  | .hbm, ⟨6, _⟩ => ⟨S5000, .f32⟩
  | .hbm, ⟨7, _⟩ => ⟨S5000, .i32⟩
  | .hbm, ⟨8, _⟩ => ⟨S_, .i32⟩
  | .hbm, ⟨9, _⟩ => ⟨S8, .i32⟩
  | .hbm, ⟨10, _⟩ => ⟨S_, .i32⟩
  | .hbm, ⟨11, _⟩ => ⟨S5000, .i32⟩
  | .hbm, ⟨12, _⟩ => ⟨S5000, .i1⟩
  | .hbm, ⟨13, _⟩ => ⟨S_, .i32⟩
  | .hbm, ⟨14, _⟩ => ⟨S5000, .i32⟩
  | .hbm, ⟨15, _⟩ => ⟨S5000, .i32⟩
  | .hbm, ⟨16, _⟩ => ⟨S5000, .i32⟩
  | .hbm, ⟨17, _⟩ => ⟨S5000x1, .i32⟩
  | .hbm, ⟨18, _⟩ => ⟨S_, .i32⟩
  | .hbm, ⟨19, _⟩ => ⟨S5000, .i32⟩
  | .hbm, ⟨20, _⟩ => ⟨S8, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S8, .i32⟩
  | .hbm, ⟨26, _⟩ => ⟨S7, .i32⟩
  | .hbm, ⟨27, _⟩ => ⟨S8, .i32⟩
  | .hbm, ⟨28, _⟩ => ⟨S16, .i32⟩
  | .hbm, ⟨29, _⟩ => ⟨S16, .f32⟩
  | .hbm, ⟨30, _⟩ => ⟨S_, .f32⟩
  | .hbm, ⟨31, _⟩ => ⟨S5008, .f32⟩
  | .hbm, ⟨32, _⟩ => ⟨S5000, .f32⟩
  | .hbm, ⟨33, _⟩ => ⟨S_, .i32⟩
  | .hbm, ⟨34, _⟩ => ⟨S1, .i32⟩
  | .hbm, ⟨35, _⟩ => ⟨S5008, .f32⟩
  | .hbm, ⟨36, _⟩ => ⟨S5000x1, .f32⟩
  | .hbm, ⟨37, _⟩ => ⟨S5000, .f32⟩
  | .hbm, ⟨38, _⟩ => ⟨S_, .f32⟩
  | .hbm, ⟨39, _⟩ => ⟨S5008, .f32⟩
  | .hbm, ⟨40, _⟩ => ⟨S_, .i32⟩
  | .hbm, ⟨41, _⟩ => ⟨S1, .i32⟩
  | .hbm, ⟨42, _⟩ => ⟨S5008, .f32⟩
  | .hbm, ⟨43, _⟩ => ⟨S5000x1, .f32⟩
  | .hbm, ⟨44, _⟩ => ⟨S5000, .f32⟩
  | .hbm, ⟨45, _⟩ => ⟨S_, .f32⟩
  | .hbm, ⟨46, _⟩ => ⟨S5008, .f32⟩
  | .hbm, ⟨47, _⟩ => ⟨S_, .i32⟩
  | .hbm, ⟨48, _⟩ => ⟨S1, .i32⟩
  | .hbm, ⟨49, _⟩ => ⟨S5008, .f32⟩
  | .hbm, ⟨50, _⟩ => ⟨S5000x1, .f32⟩
  | .hbm, ⟨51, _⟩ => ⟨S5000, .f32⟩
  | .hbm, ⟨52, _⟩ => ⟨S_, .f32⟩
  | .hbm, ⟨53, _⟩ => ⟨S5008, .f32⟩
  | .hbm, ⟨54, _⟩ => ⟨S_, .i32⟩
  | .hbm, ⟨55, _⟩ => ⟨S1, .i32⟩
  | .hbm, ⟨56, _⟩ => ⟨S5008, .f32⟩
  | .hbm, ⟨57, _⟩ => ⟨S5000x1, .f32⟩
  | .hbm, ⟨58, _⟩ => ⟨S5000, .f32⟩
  | .hbm, ⟨59, _⟩ => ⟨S_, .f32⟩
  | .hbm, ⟨60, _⟩ => ⟨S5008, .f32⟩
  | .hbm, ⟨61, _⟩ => ⟨S_, .i32⟩
  | .hbm, ⟨62, _⟩ => ⟨S1, .i32⟩
  | .hbm, ⟨63, _⟩ => ⟨S5008, .f32⟩
  | .hbm, ⟨64, _⟩ => ⟨S8x5008, .f32⟩
  | .hbm, ⟨65, _⟩ => ⟨S_, .f32⟩
  | .hbm, ⟨66, _⟩ => ⟨S5008, .f32⟩
  | .hbm, ⟨67, _⟩ => ⟨S5000, .f32⟩
  | .hbm, ⟨68, _⟩ => ⟨S_, .f32⟩
  | .hbm, ⟨69, _⟩ => ⟨S5000, .f32⟩
  | .hbm, ⟨70, _⟩ => ⟨S_, .i32⟩
  | .hbm, ⟨71, _⟩ => ⟨S5000, .i32⟩
  | .hbm, ⟨72, _⟩ => ⟨S5000, .i1⟩
  | .hbm, ⟨73, _⟩ => ⟨S_, .i32⟩
  | .hbm, ⟨74, _⟩ => ⟨S5000, .i32⟩
  | .hbm, ⟨75, _⟩ => ⟨S5000, .i32⟩
  | .hbm, ⟨76, _⟩ => ⟨S5000, .i32⟩
  | .hbm, ⟨77, _⟩ => ⟨S5000x1, .i32⟩
  | .hbm, ⟨78, _⟩ => ⟨S5000, .f32⟩
  | .hbm, ⟨79, _⟩ => ⟨S5000x1, .f32⟩
  | .hbm, ⟨80, _⟩ => ⟨S5000x4, .f32⟩
  | .hbm, ⟨81, _⟩ => ⟨S5000x4, .f32⟩
  | .hbm, ⟨82, _⟩ => ⟨S5000, .f32⟩
  | .hbm, ⟨83, _⟩ => ⟨S5000x1, .f32⟩
  | .hbm, ⟨84, _⟩ => ⟨S5000x5, .f32⟩
  | .local .scVector .vmem, ⟨0, _⟩ => ⟨S5008, .f32⟩
  | .local .scVector .vmem, ⟨1, _⟩ => ⟨S5008, .f32⟩
  | .local .scVector .vmem, ⟨2, _⟩ => ⟨S5008, .f32⟩
  | .local .scVector .vmem, ⟨3, _⟩ => ⟨S5008, .f32⟩
  | .local .scVector .vmem, ⟨4, _⟩ => ⟨S5008, .f32⟩
  | .local .scVector .vmem, ⟨5, _⟩ => ⟨S16, .f32⟩
  | .local .scVector .vmem, ⟨6, _⟩ => ⟨S5024, .f32⟩
  | .local .scVector .vmem, ⟨7, _⟩ => ⟨S5024, .f32⟩
  | .local .scVector .vmem, ⟨8, _⟩ => ⟨S5024, .f32⟩
  | .local .scVector .vmem, ⟨9, _⟩ => ⟨S5024, .f32⟩
  | .local .scVector .vmem, ⟨10, _⟩ => ⟨S5024, .f32⟩
  | .local .scVector .vmem, ⟨11, _⟩ => ⟨S5008, .f32⟩
  | _, _ => ⟨S5000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_call0_v1_1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_call1_call0_c : Ref sig .tc := ⟨.hbm, 23, rfl⟩
abbrev main_call1_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_c_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_c_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_c_15 : Ref sig .tc := ⟨.hbm, 70, rfl⟩
abbrev main_v45 : Ref sig .tc := ⟨.hbm, 71, rfl⟩
abbrev main_v46 : Ref sig .tc := ⟨.hbm, 72, rfl⟩
abbrev main_c_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v25_scv : Ref sig .scVector := ⟨.hbm, 42, rfl⟩
abbrev main_v30_scv : Ref sig .scVector := ⟨.hbm, 49, rfl⟩
abbrev main_v35_scv : Ref sig .scVector := ⟨.hbm, 56, rfl⟩
abbrev main_v40_scv : Ref sig .scVector := ⟨.hbm, 63, rfl⟩
abbrev main_v20_scv : Ref sig .scVector := ⟨.hbm, 35, rfl⟩
abbrev main_v16_scv : Ref sig .scVector := ⟨.hbm, 29, rfl⟩
abbrev main_v41_scv : Ref sig .scVector := ⟨.hbm, 64, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k0_chk1 (i : grid0.Coords) (v6 : IVec S16 32) : Prop :=
  (∀ (k0_h1 : k0_cond1 i = 1#1), ∀ a x, ((![v6] : Fin 1 → IVec S16 32) a x).toNat < S16.size a)
theorem k0_idx1_inb : ∀ (i : grid0.Coords) (v6 : IVec S16 32) (k0_hw1 : k0_chk1 i v6), ∀ (k0_h1 : k0_cond1 i = 1#1), ∀ a x, ((![v6] : Fin 1 → IVec S16 32) a x).toNat < S16.size a := fun i v6 k0_hw1 k0_h1 => k0_hw1 k0_h1

def k0_chk2 (i : grid0.Coords) (v12 : IVec S16 32) : Prop :=
  (∀ (k0_h1 : k0_cond1 i = 1#1), ∀ a x, ((![v12] : Fin 1 → IVec S16 32) a x).toNat < S16.size a)
theorem k0_idx2_inb : ∀ (i : grid0.Coords) (v12 : IVec S16 32) (k0_hw2 : k0_chk2 i v12), ∀ (k0_h1 : k0_cond1 i = 1#1), ∀ a x, ((![v12] : Fin 1 → IVec S16 32) a x).toNat < S16.size a := fun i v12 k0_hw2 k0_h1 => k0_hw2 k0_h1
@[reducible] def k0_t1_loop : Scf.Loop 32 :=
  let c0_i32_3 : BitVec 32 := 0#32
  let c313_i32 : BitVec 32 := 313#32
  let v17 : BitVec 32 := Scalar.addi c0_i32_3 c313_i32
  let c1_i32 : BitVec 32 := 1#32
  ⟨c0_i32_3, v17, c1_i32⟩
def k0_off1 (k0_t1 : Fin k0_t1_loop.trips) : Fin 1 → Nat :=
  let c0_i32_3 : BitVec 32 := 0#32
  let c1_i32 : BitVec 32 := 1#32
  let arg21 : BitVec 32 := Scf.iv c0_i32_3 c1_i32 k0_t1
  let c16_i32 : BitVec 32 := 16#32
  let v50 : BitVec 32 := Scalar.muli arg21 c16_i32
  let v51 : Index := Scalar.indexCast v50
  ![v51.toNat]
@[reducible] def k0_t2_loop : Scf.Loop 32 :=
  let c0_i32_8 : BitVec 32 := 0#32
  let c314_i32 : BitVec 32 := 314#32
  let v21 : BitVec 32 := Scalar.addi c0_i32_8 c314_i32
  let c1_i32_9 : BitVec 32 := 1#32
  ⟨c0_i32_8, v21, c1_i32_9⟩
def k0_off2 (k0_t2 : Fin k0_t2_loop.trips) : Fin 1 → Nat :=
  let c0_i32_8 : BitVec 32 := 0#32
  let c1_i32_9 : BitVec 32 := 1#32
  let arg21 : BitVec 32 := Scf.iv c0_i32_8 c1_i32_9 k0_t2
  let c16_i32 : BitVec 32 := 16#32
  let v49 : BitVec 32 := Scalar.muli arg21 c16_i32
  let v50 : Index := Scalar.indexCast v49
  ![v50.toNat]
@[reducible] def k0_t3_loop (v16 : BitVec 32) : Scf.Loop 32 :=
  let c0_i32_19 : BitVec 32 := 0#32
  let c1_i32_12 : BitVec 32 := 1#32
  let v24 : BitVec 32 := Scalar.addi v16 c1_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c2_i32 : BitVec 32 := 2#32
  let c0_i32_15 : BitVec 32 := 0#32
  let v31 : BitVec 1 := Scalar.cmpi .sgt c2_i32 c0_i32_15
  let v32 : BitVec 32 := Scalar.extui v31
  let c0_i32_16 : BitVec 32 := 0#32
  let v33 : BitVec 1 := Scalar.cmpi .slt c2_i32 c0_i32_16
  let v34 : BitVec 32 := Scalar.extui v33
  let v35 : BitVec 32 := Scalar.subi v32 v34
  let v36 : BitVec 1 := Scalar.cmpi .ne v30 v35
  let v37 : BitVec 32 := Scalar.remsi v24 c2_i32
  let c0_i32_17 : BitVec 32 := 0#32
  let v38 : BitVec 1 := Scalar.cmpi .ne v37 c0_i32_17
  let v39 : BitVec 1 := Scalar.andi v36 v38
  let v25 : BitVec 32 := Scalar.divsi v24 c2_i32
  let c1_i32_18 : BitVec 32 := 1#32
  let v40 : BitVec 32 := Scalar.subi v25 c1_i32_18
  let v41 : BitVec 32 := Scalar.select v39 v40 v25
  let v42 : BitVec 32 := Scalar.subi v41 c0_i32_19
  let c1_i32_21 : BitVec 32 := 1#32
  let v44 : BitVec 32 := Scalar.divsi v42 c1_i32_21
  let v45 : BitVec 32 := Scalar.muli v44 c1_i32_21
  let v46 : BitVec 32 := Scalar.addi c0_i32_19 v45
  let c1_i32_22 : BitVec 32 := 1#32
  ⟨c0_i32_19, v46, c1_i32_22⟩

def k0_chk5 (i : grid0.Coords) (v55 : IVec S16 32) : Prop :=
  (∀ (k0_h1 : k0_cond1 i = 1#1), ∀ a x, ((![v55] : Fin 1 → IVec S16 32) a x).toNat < S5008.size a) ∧
  (∀ (k0_h1 : k0_cond1 i = 1#1), ∀ a x, ((![v55] : Fin 1 → IVec S16 32) a x).toNat < S5008.size a) ∧
  (∀ (k0_h1 : k0_cond1 i = 1#1), ∀ a x, ((![v55] : Fin 1 → IVec S16 32) a x).toNat < S5008.size a) ∧
  (∀ (k0_h1 : k0_cond1 i = 1#1), ∀ a x, ((![v55] : Fin 1 → IVec S16 32) a x).toNat < S5008.size a)
theorem k0_idx4_inb : ∀ (i : grid0.Coords) (v55 : IVec S16 32) (k0_hw5 : k0_chk5 i v55), ∀ (k0_h1 : k0_cond1 i = 1#1), ∀ a x, ((![v55] : Fin 1 → IVec S16 32) a x).toNat < S5008.size a := fun i v55 k0_hw5 k0_h1 => k0_hw5.1 k0_h1
theorem k0_idx5_inb : ∀ (i : grid0.Coords) (v55 : IVec S16 32) (k0_hw5 : k0_chk5 i v55), ∀ (k0_h1 : k0_cond1 i = 1#1), ∀ a x, ((![v55] : Fin 1 → IVec S16 32) a x).toNat < S5008.size a := fun i v55 k0_hw5 k0_h1 => k0_hw5.2.1 k0_h1
theorem k0_idx6_inb : ∀ (i : grid0.Coords) (v55 : IVec S16 32) (k0_hw5 : k0_chk5 i v55), ∀ (k0_h1 : k0_cond1 i = 1#1), ∀ a x, ((![v55] : Fin 1 → IVec S16 32) a x).toNat < S5008.size a := fun i v55 k0_hw5 k0_h1 => k0_hw5.2.2.1 k0_h1
theorem k0_idx7_inb : ∀ (i : grid0.Coords) (v55 : IVec S16 32) (k0_hw5 : k0_chk5 i v55), ∀ (k0_h1 : k0_cond1 i = 1#1), ∀ a x, ((![v55] : Fin 1 → IVec S16 32) a x).toNat < S5008.size a := fun i v55 k0_hw5 k0_h1 => k0_hw5.2.2.2 k0_h1

def k0_chk7 (i : grid0.Coords) (v76 : IVec S16 32) : Prop :=
  (∀ (k0_h1 : k0_cond1 i = 1#1), ∀ a x, ((![v76] : Fin 1 → IVec S16 32) a x).toNat < S5008.size a) ∧
  (∀ (k0_h1 : k0_cond1 i = 1#1), ∀ a x, ((![v76] : Fin 1 → IVec S16 32) a x).toNat < S5008.size a) ∧
  (∀ (k0_h1 : k0_cond1 i = 1#1), ∀ a x, ((![v76] : Fin 1 → IVec S16 32) a x).toNat < S5008.size a) ∧
  (∀ (k0_h1 : k0_cond1 i = 1#1), ∀ a x, ((![v76] : Fin 1 → IVec S16 32) a x).toNat < S5008.size a)
theorem k0_idx9_inb : ∀ (i : grid0.Coords) (v76 : IVec S16 32) (k0_hw7 : k0_chk7 i v76), ∀ (k0_h1 : k0_cond1 i = 1#1), ∀ a x, ((![v76] : Fin 1 → IVec S16 32) a x).toNat < S5008.size a := fun i v76 k0_hw7 k0_h1 => k0_hw7.1 k0_h1
theorem k0_idx10_inb : ∀ (i : grid0.Coords) (v76 : IVec S16 32) (k0_hw7 : k0_chk7 i v76), ∀ (k0_h1 : k0_cond1 i = 1#1), ∀ a x, ((![v76] : Fin 1 → IVec S16 32) a x).toNat < S5008.size a := fun i v76 k0_hw7 k0_h1 => k0_hw7.2.1 k0_h1
theorem k0_idx11_inb : ∀ (i : grid0.Coords) (v76 : IVec S16 32) (k0_hw7 : k0_chk7 i v76), ∀ (k0_h1 : k0_cond1 i = 1#1), ∀ a x, ((![v76] : Fin 1 → IVec S16 32) a x).toNat < S5008.size a := fun i v76 k0_hw7 k0_h1 => k0_hw7.2.2.1 k0_h1
theorem k0_idx12_inb : ∀ (i : grid0.Coords) (v76 : IVec S16 32) (k0_hw7 : k0_chk7 i v76), ∀ (k0_h1 : k0_cond1 i = 1#1), ∀ a x, ((![v76] : Fin 1 → IVec S16 32) a x).toNat < S5008.size a := fun i v76 k0_hw7 k0_h1 => k0_hw7.2.2.2 k0_h1
@[reducible] def k0_t4_loop (arg22 : BitVec 32) : Scf.Loop 32 :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let c1_i32_43 : BitVec 32 := 1#32
  ⟨c0_i32_41, v119, c1_i32_43⟩

def k0_off3 (arg22 : BitVec 32) (k0_t4 : Fin (k0_t4_loop arg22).trips) : Fin 1 → Nat :=
  let c0_i32_41 : BitVec 32 := 0#32
  let c1_i32_43 : BitVec 32 := 1#32
  let arg23 : BitVec 32 := Scf.iv c0_i32_41 c1_i32_43 k0_t4
  let c32_i32_80 : BitVec 32 := 32#32
  let v273 : BitVec 32 := Scalar.muli arg23 c32_i32_80
  let v274 : Index := Scalar.indexCast v273
  ![v274.toNat]
def k0_off4 (arg22 : BitVec 32) (k0_t4 : Fin (k0_t4_loop arg22).trips) : Fin 1 → Nat :=
  let c0_i32_41 : BitVec 32 := 0#32
  let c1_i32_43 : BitVec 32 := 1#32
  let arg23 : BitVec 32 := Scf.iv c0_i32_41 c1_i32_43 k0_t4
  let c32_i32_80 : BitVec 32 := 32#32
  let v273 : BitVec 32 := Scalar.muli arg23 c32_i32_80
  let c16_i32 : BitVec 32 := 16#32
  let v328 : BitVec 32 := Scalar.addi v273 c16_i32
  let v329 : Index := Scalar.indexCast v328
  ![v329.toNat]
@[reducible] def k0_t5_loop (arg22 : BitVec 32) : Scf.Loop 32 :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let v116 : BitVec 32 := Scalar.addi c0_i32_41 v115
  let c1_i32_44 : BitVec 32 := 1#32
  ⟨v119, v116, c1_i32_44⟩
def k0_off5 (arg22 : BitVec 32) (k0_t5 : Fin (k0_t5_loop arg22).trips) : Fin 1 → Nat :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let c1_i32_44 : BitVec 32 := 1#32
  let arg23 : BitVec 32 := Scf.iv v119 c1_i32_44 k0_t5
  let c32_i32_80 : BitVec 32 := 32#32
  let v273 : BitVec 32 := Scalar.muli arg23 c32_i32_80
  let v274 : Index := Scalar.indexCast v273
  ![v274.toNat]
def k0_off6 (arg22 : BitVec 32) (k0_t5 : Fin (k0_t5_loop arg22).trips) : Fin 1 → Nat :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let c1_i32_44 : BitVec 32 := 1#32
  let arg23 : BitVec 32 := Scf.iv v119 c1_i32_44 k0_t5
  let c32_i32_80 : BitVec 32 := 32#32
  let v273 : BitVec 32 := Scalar.muli arg23 c32_i32_80
  let c16_i32 : BitVec 32 := 16#32
  let v328 : BitVec 32 := Scalar.addi v273 c16_i32
  let v329 : Index := Scalar.indexCast v328
  ![v329.toNat]

def k0_chk8 (i : grid0.Coords) (arg22 : BitVec 32) : Prop :=
  (∀ (k0_h1 : k0_cond1 i = 1#1), (k0_t4_loop arg22).OK) ∧
  (∀ k0_t4 : Fin (k0_t4_loop arg22).trips, ∀ (k0_h1 : k0_cond1 i = 1#1), ∀ a, (k0_off3 arg22 k0_t4) a + S16.size a ≤ S5024.size a) ∧
  (∀ k0_t4 : Fin (k0_t4_loop arg22).trips, ∀ (k0_h1 : k0_cond1 i = 1#1), ∀ a, (k0_off4 arg22 k0_t4) a + S16.size a ≤ S5024.size a) ∧
  (∀ (k0_h1 : k0_cond1 i = 1#1), (k0_t5_loop arg22).OK) ∧
  (∀ k0_t5 : Fin (k0_t5_loop arg22).trips, ∀ (k0_h1 : k0_cond1 i = 1#1), ∀ a, (k0_off5 arg22 k0_t5) a + S16.size a ≤ S5024.size a) ∧
  (∀ k0_t5 : Fin (k0_t5_loop arg22).trips, ∀ (k0_h1 : k0_cond1 i = 1#1), ∀ a, (k0_off6 arg22 k0_t5) a + S16.size a ≤ S5024.size a)
theorem k0_t4_ok : ∀ (i : grid0.Coords) (arg22 : BitVec 32) (k0_hw8 : k0_chk8 i arg22), ∀ (k0_h1 : k0_cond1 i = 1#1), (k0_t4_loop arg22).OK := fun i arg22 k0_hw8 k0_h1 => k0_hw8.1 k0_h1
theorem k0_off3_inb : ∀ (i : grid0.Coords) (arg22 : BitVec 32) (k0_hw8 : k0_chk8 i arg22) (k0_t4 : Fin (k0_t4_loop arg22).trips), ∀ (k0_h1 : k0_cond1 i = 1#1), ∀ a, (k0_off3 arg22 k0_t4) a + S16.size a ≤ S5024.size a := fun i arg22 k0_hw8 k0_t4 k0_h1 => k0_hw8.2.1 k0_t4 k0_h1
theorem k0_off4_inb : ∀ (i : grid0.Coords) (arg22 : BitVec 32) (k0_hw8 : k0_chk8 i arg22) (k0_t4 : Fin (k0_t4_loop arg22).trips), ∀ (k0_h1 : k0_cond1 i = 1#1), ∀ a, (k0_off4 arg22 k0_t4) a + S16.size a ≤ S5024.size a := fun i arg22 k0_hw8 k0_t4 k0_h1 => k0_hw8.2.2.1 k0_t4 k0_h1
theorem k0_t5_ok : ∀ (i : grid0.Coords) (arg22 : BitVec 32) (k0_hw8 : k0_chk8 i arg22), ∀ (k0_h1 : k0_cond1 i = 1#1), (k0_t5_loop arg22).OK := fun i arg22 k0_hw8 k0_h1 => k0_hw8.2.2.2.1 k0_h1
theorem k0_off5_inb : ∀ (i : grid0.Coords) (arg22 : BitVec 32) (k0_hw8 : k0_chk8 i arg22) (k0_t5 : Fin (k0_t5_loop arg22).trips), ∀ (k0_h1 : k0_cond1 i = 1#1), ∀ a, (k0_off5 arg22 k0_t5) a + S16.size a ≤ S5024.size a := fun i arg22 k0_hw8 k0_t5 k0_h1 => k0_hw8.2.2.2.2.1 k0_t5 k0_h1
theorem k0_off6_inb : ∀ (i : grid0.Coords) (arg22 : BitVec 32) (k0_hw8 : k0_chk8 i arg22) (k0_t5 : Fin (k0_t5_loop arg22).trips), ∀ (k0_h1 : k0_cond1 i = 1#1), ∀ a, (k0_off6 arg22 k0_t5) a + S16.size a ≤ S5024.size a := fun i arg22 k0_hw8 k0_t5 k0_h1 => k0_hw8.2.2.2.2.2 k0_t5 k0_h1

def k0_chk4 (i : grid0.Coords) (v51 : IVec S16 32) : Prop :=
  (∀ (k0_h1 : k0_cond1 i = 1#1), ∀ a x, ((![v51] : Fin 1 → IVec S16 32) a x).toNat < S5008.size a) ∧
  (∀ (k0_h1 : k0_cond1 i = 1#1), ∀ a x, ((![v51] : Fin 1 → IVec S16 32) a x).toNat < S5008.size a)
theorem k0_idx3_inb : ∀ (i : grid0.Coords) (v51 : IVec S16 32) (k0_hw4 : k0_chk4 i v51), ∀ (k0_h1 : k0_cond1 i = 1#1), ∀ a x, ((![v51] : Fin 1 → IVec S16 32) a x).toNat < S5008.size a := fun i v51 k0_hw4 k0_h1 => k0_hw4.1 k0_h1
theorem k0_idx13_inb : ∀ (i : grid0.Coords) (v51 : IVec S16 32) (k0_hw4 : k0_chk4 i v51), ∀ (k0_h1 : k0_cond1 i = 1#1), ∀ a x, ((![v51] : Fin 1 → IVec S16 32) a x).toNat < S5008.size a := fun i v51 k0_hw4 k0_h1 => k0_hw4.2 k0_h1

def k0_chk6 (i : grid0.Coords) (v53 : IVec S16 32) : Prop :=
  (∀ (k0_h1 : k0_cond1 i = 1#1), ∀ a x, ((![v53] : Fin 1 → IVec S16 32) a x).toNat < S5008.size a) ∧
  (∀ (k0_h1 : k0_cond1 i = 1#1), ∀ a x, ((![v53] : Fin 1 → IVec S16 32) a x).toNat < S5008.size a)
theorem k0_idx8_inb : ∀ (i : grid0.Coords) (v53 : IVec S16 32) (k0_hw6 : k0_chk6 i v53), ∀ (k0_h1 : k0_cond1 i = 1#1), ∀ a x, ((![v53] : Fin 1 → IVec S16 32) a x).toNat < S5008.size a := fun i v53 k0_hw6 k0_h1 => k0_hw6.1 k0_h1
theorem k0_idx14_inb : ∀ (i : grid0.Coords) (v53 : IVec S16 32) (k0_hw6 : k0_chk6 i v53), ∀ (k0_h1 : k0_cond1 i = 1#1), ∀ a x, ((![v53] : Fin 1 → IVec S16 32) a x).toNat < S5008.size a := fun i v53 k0_hw6 k0_h1 => k0_hw6.2 k0_h1

def k0_chk9 (i : grid0.Coords) (v267 : IVec S16 32) : Prop :=
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a)
theorem k0_idx15_inb : ∀ (i : grid0.Coords) (v267 : IVec S16 32) (k0_hw9 : k0_chk9 i v267), ∀ (k0_h1 : k0_cond1 i = 1#1), ∀ a x, ((![v267] : Fin 1 → IVec S16 32) a x).toNat < S5024.size a := fun i v267 k0_hw9 k0_h1 => k0_hw9.1 k0_h1
theorem k0_idx16_inb : ∀ (i : grid0.Coords) (v267 : IVec S16 32) (k0_hw9 : k0_chk9 i v267), ∀ (k0_h1 : k0_cond1 i = 1#1), ∀ a x, ((![v267] : Fin 1 → IVec S16 32) a x).toNat < S5024.size a := fun i v267 k0_hw9 k0_h1 => k0_hw9.2.1 k0_h1
theorem k0_idx17_inb : ∀ (i : grid0.Coords) (v267 : IVec S16 32) (k0_hw9 : k0_chk9 i v267), ∀ (k0_h1 : k0_cond1 i = 1#1), ∀ a x, ((![v267] : Fin 1 → IVec S16 32) a x).toNat < S5024.size a := fun i v267 k0_hw9 k0_h1 => k0_hw9.2.2.1 k0_h1
theorem k0_idx18_inb : ∀ (i : grid0.Coords) (v267 : IVec S16 32) (k0_hw9 : k0_chk9 i v267), ∀ (k0_h1 : k0_cond1 i = 1#1), ∀ a x, ((![v267] : Fin 1 → IVec S16 32) a x).toNat < S5024.size a := fun i v267 k0_hw9 k0_h1 => k0_hw9.2.2.2.1 k0_h1
theorem k0_idx19_inb : ∀ (i : grid0.Coords) (v267 : IVec S16 32) (k0_hw9 : k0_chk9 i v267), ∀ (k0_h1 : k0_cond1 i = 1#1), ∀ a x, ((![v267] : Fin 1 → IVec S16 32) a x).toNat < S5024.size a := fun i v267 k0_hw9 k0_h1 => k0_hw9.2.2.2.2 k0_h1

def k0_chk10 (i : grid0.Coords) (v269 : IVec S16 32) : Prop :=
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a)
theorem k0_idx20_inb : ∀ (i : grid0.Coords) (v269 : IVec S16 32) (k0_hw10 : k0_chk10 i v269), ∀ (k0_h1 : k0_cond1 i = 1#1), ∀ a x, ((![v269] : Fin 1 → IVec S16 32) a x).toNat < S5024.size a := fun i v269 k0_hw10 k0_h1 => k0_hw10.1 k0_h1
theorem k0_idx21_inb : ∀ (i : grid0.Coords) (v269 : IVec S16 32) (k0_hw10 : k0_chk10 i v269), ∀ (k0_h1 : k0_cond1 i = 1#1), ∀ a x, ((![v269] : Fin 1 → IVec S16 32) a x).toNat < S5024.size a := fun i v269 k0_hw10 k0_h1 => k0_hw10.2.1 k0_h1
theorem k0_idx22_inb : ∀ (i : grid0.Coords) (v269 : IVec S16 32) (k0_hw10 : k0_chk10 i v269), ∀ (k0_h1 : k0_cond1 i = 1#1), ∀ a x, ((![v269] : Fin 1 → IVec S16 32) a x).toNat < S5024.size a := fun i v269 k0_hw10 k0_h1 => k0_hw10.2.2.1 k0_h1
theorem k0_idx23_inb : ∀ (i : grid0.Coords) (v269 : IVec S16 32) (k0_hw10 : k0_chk10 i v269), ∀ (k0_h1 : k0_cond1 i = 1#1), ∀ a x, ((![v269] : Fin 1 → IVec S16 32) a x).toNat < S5024.size a := fun i v269 k0_hw10 k0_h1 => k0_hw10.2.2.2.1 k0_h1
theorem k0_idx24_inb : ∀ (i : grid0.Coords) (v269 : IVec S16 32) (k0_hw10 : k0_chk10 i v269), ∀ (k0_h1 : k0_cond1 i = 1#1), ∀ a x, ((![v269] : Fin 1 → IVec S16 32) a x).toNat < S5024.size a := fun i v269 k0_hw10 k0_h1 => k0_hw10.2.2.2.2 k0_h1
@[reducible] def k0_t6_loop (v16 : BitVec 32) : Scf.Loop 32 :=
  let c0_i32_19 : BitVec 32 := 0#32
  let c1_i32_12 : BitVec 32 := 1#32
  let v24 : BitVec 32 := Scalar.addi v16 c1_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c2_i32 : BitVec 32 := 2#32
  let c0_i32_15 : BitVec 32 := 0#32
  let v31 : BitVec 1 := Scalar.cmpi .sgt c2_i32 c0_i32_15
  let v32 : BitVec 32 := Scalar.extui v31
  let c0_i32_16 : BitVec 32 := 0#32
  let v33 : BitVec 1 := Scalar.cmpi .slt c2_i32 c0_i32_16
  let v34 : BitVec 32 := Scalar.extui v33
  let v35 : BitVec 32 := Scalar.subi v32 v34
  let v36 : BitVec 1 := Scalar.cmpi .ne v30 v35
  let v37 : BitVec 32 := Scalar.remsi v24 c2_i32
  let c0_i32_17 : BitVec 32 := 0#32
  let v38 : BitVec 1 := Scalar.cmpi .ne v37 c0_i32_17
  let v39 : BitVec 1 := Scalar.andi v36 v38
  let v25 : BitVec 32 := Scalar.divsi v24 c2_i32
  let c1_i32_18 : BitVec 32 := 1#32
  let v40 : BitVec 32 := Scalar.subi v25 c1_i32_18
  let v41 : BitVec 32 := Scalar.select v39 v40 v25
  let v42 : BitVec 32 := Scalar.subi v41 c0_i32_19
  let c1_i32_21 : BitVec 32 := 1#32
  let v44 : BitVec 32 := Scalar.divsi v42 c1_i32_21
  let v45 : BitVec 32 := Scalar.muli v44 c1_i32_21
  let v46 : BitVec 32 := Scalar.addi c0_i32_19 v45
  let v43 : BitVec 32 := Scalar.addi c0_i32_19 v42
  let c1_i32_23 : BitVec 32 := 1#32
  ⟨v46, v43, c1_i32_23⟩

def k0_chk3 (i : grid0.Coords) (v16 : BitVec 32) : Prop :=
  (∀ (k0_h1 : k0_cond1 i = 1#1), (k0_t3_loop v16).OK) ∧
  (∀ (k0_h1 : k0_cond1 i = 1#1), (k0_t6_loop v16).OK)
theorem k0_t3_ok : ∀ (i : grid0.Coords) (v16 : BitVec 32) (k0_hw3 : k0_chk3 i v16), ∀ (k0_h1 : k0_cond1 i = 1#1), (k0_t3_loop v16).OK := fun i v16 k0_hw3 k0_h1 => k0_hw3.1 k0_h1
theorem k0_t6_ok : ∀ (i : grid0.Coords) (v16 : BitVec 32) (k0_hw3 : k0_chk3 i v16), ∀ (k0_h1 : k0_cond1 i = 1#1), (k0_t6_loop v16).OK := fun i v16 k0_hw3 k0_h1 => k0_hw3.2 k0_h1

def k0_chk12 (i : grid0.Coords) (v55 : IVec S16 32) : Prop :=
  (∀ (k0_h1 : k0_cond1 i = 1#1), ∀ a x, ((![v55] : Fin 1 → IVec S16 32) a x).toNat < S5008.size a) ∧
  (∀ (k0_h1 : k0_cond1 i = 1#1), ∀ a x, ((![v55] : Fin 1 → IVec S16 32) a x).toNat < S5008.size a) ∧
  (∀ (k0_h1 : k0_cond1 i = 1#1), ∀ a x, ((![v55] : Fin 1 → IVec S16 32) a x).toNat < S5008.size a) ∧
  (∀ (k0_h1 : k0_cond1 i = 1#1), ∀ a x, ((![v55] : Fin 1 → IVec S16 32) a x).toNat < S5008.size a)
theorem k0_idx26_inb : ∀ (i : grid0.Coords) (v55 : IVec S16 32) (k0_hw12 : k0_chk12 i v55), ∀ (k0_h1 : k0_cond1 i = 1#1), ∀ a x, ((![v55] : Fin 1 → IVec S16 32) a x).toNat < S5008.size a := fun i v55 k0_hw12 k0_h1 => k0_hw12.1 k0_h1
theorem k0_idx27_inb : ∀ (i : grid0.Coords) (v55 : IVec S16 32) (k0_hw12 : k0_chk12 i v55), ∀ (k0_h1 : k0_cond1 i = 1#1), ∀ a x, ((![v55] : Fin 1 → IVec S16 32) a x).toNat < S5008.size a := fun i v55 k0_hw12 k0_h1 => k0_hw12.2.1 k0_h1
theorem k0_idx28_inb : ∀ (i : grid0.Coords) (v55 : IVec S16 32) (k0_hw12 : k0_chk12 i v55), ∀ (k0_h1 : k0_cond1 i = 1#1), ∀ a x, ((![v55] : Fin 1 → IVec S16 32) a x).toNat < S5008.size a := fun i v55 k0_hw12 k0_h1 => k0_hw12.2.2.1 k0_h1
theorem k0_idx29_inb : ∀ (i : grid0.Coords) (v55 : IVec S16 32) (k0_hw12 : k0_chk12 i v55), ∀ (k0_h1 : k0_cond1 i = 1#1), ∀ a x, ((![v55] : Fin 1 → IVec S16 32) a x).toNat < S5008.size a := fun i v55 k0_hw12 k0_h1 => k0_hw12.2.2.2 k0_h1

def k0_chk14 (i : grid0.Coords) (v76 : IVec S16 32) : Prop :=
  (∀ (k0_h1 : k0_cond1 i = 1#1), ∀ a x, ((![v76] : Fin 1 → IVec S16 32) a x).toNat < S5008.size a) ∧
  (∀ (k0_h1 : k0_cond1 i = 1#1), ∀ a x, ((![v76] : Fin 1 → IVec S16 32) a x).toNat < S5008.size a) ∧
  (∀ (k0_h1 : k0_cond1 i = 1#1), ∀ a x, ((![v76] : Fin 1 → IVec S16 32) a x).toNat < S5008.size a) ∧
  (∀ (k0_h1 : k0_cond1 i = 1#1), ∀ a x, ((![v76] : Fin 1 → IVec S16 32) a x).toNat < S5008.size a)
theorem k0_idx31_inb : ∀ (i : grid0.Coords) (v76 : IVec S16 32) (k0_hw14 : k0_chk14 i v76), ∀ (k0_h1 : k0_cond1 i = 1#1), ∀ a x, ((![v76] : Fin 1 → IVec S16 32) a x).toNat < S5008.size a := fun i v76 k0_hw14 k0_h1 => k0_hw14.1 k0_h1
theorem k0_idx32_inb : ∀ (i : grid0.Coords) (v76 : IVec S16 32) (k0_hw14 : k0_chk14 i v76), ∀ (k0_h1 : k0_cond1 i = 1#1), ∀ a x, ((![v76] : Fin 1 → IVec S16 32) a x).toNat < S5008.size a := fun i v76 k0_hw14 k0_h1 => k0_hw14.2.1 k0_h1
theorem k0_idx33_inb : ∀ (i : grid0.Coords) (v76 : IVec S16 32) (k0_hw14 : k0_chk14 i v76), ∀ (k0_h1 : k0_cond1 i = 1#1), ∀ a x, ((![v76] : Fin 1 → IVec S16 32) a x).toNat < S5008.size a := fun i v76 k0_hw14 k0_h1 => k0_hw14.2.2.1 k0_h1
theorem k0_idx34_inb : ∀ (i : grid0.Coords) (v76 : IVec S16 32) (k0_hw14 : k0_chk14 i v76), ∀ (k0_h1 : k0_cond1 i = 1#1), ∀ a x, ((![v76] : Fin 1 → IVec S16 32) a x).toNat < S5008.size a := fun i v76 k0_hw14 k0_h1 => k0_hw14.2.2.2 k0_h1
@[reducible] def k0_t7_loop (arg22 : BitVec 32) : Scf.Loop 32 :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let c1_i32_43 : BitVec 32 := 1#32
  ⟨c0_i32_41, v119, c1_i32_43⟩

def k0_off7 (arg22 : BitVec 32) (k0_t7 : Fin (k0_t7_loop arg22).trips) : Fin 1 → Nat :=
  let c0_i32_41 : BitVec 32 := 0#32
  let c1_i32_43 : BitVec 32 := 1#32
  let arg23 : BitVec 32 := Scf.iv c0_i32_41 c1_i32_43 k0_t7
  let c32_i32_80 : BitVec 32 := 32#32
  let v273 : BitVec 32 := Scalar.muli arg23 c32_i32_80
  let v274 : Index := Scalar.indexCast v273
  ![v274.toNat]
def k0_off8 (arg22 : BitVec 32) (k0_t7 : Fin (k0_t7_loop arg22).trips) : Fin 1 → Nat :=
  let c0_i32_41 : BitVec 32 := 0#32
  let c1_i32_43 : BitVec 32 := 1#32
  let arg23 : BitVec 32 := Scf.iv c0_i32_41 c1_i32_43 k0_t7
  let c32_i32_80 : BitVec 32 := 32#32
  let v273 : BitVec 32 := Scalar.muli arg23 c32_i32_80
  let c16_i32 : BitVec 32 := 16#32
  let v328 : BitVec 32 := Scalar.addi v273 c16_i32
  let v329 : Index := Scalar.indexCast v328
  ![v329.toNat]
@[reducible] def k0_t8_loop (arg22 : BitVec 32) : Scf.Loop 32 :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let v116 : BitVec 32 := Scalar.addi c0_i32_41 v115
  let c1_i32_44 : BitVec 32 := 1#32
  ⟨v119, v116, c1_i32_44⟩
def k0_off9 (arg22 : BitVec 32) (k0_t8 : Fin (k0_t8_loop arg22).trips) : Fin 1 → Nat :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let c1_i32_44 : BitVec 32 := 1#32
  let arg23 : BitVec 32 := Scf.iv v119 c1_i32_44 k0_t8
  let c32_i32_80 : BitVec 32 := 32#32
  let v273 : BitVec 32 := Scalar.muli arg23 c32_i32_80
  let v274 : Index := Scalar.indexCast v273
  ![v274.toNat]
def k0_off10 (arg22 : BitVec 32) (k0_t8 : Fin (k0_t8_loop arg22).trips) : Fin 1 → Nat :=
  let c0_i32_41 : BitVec 32 := 0#32
  let c31_i32 : BitVec 32 := 31#32
  let v96 : BitVec 32 := Scalar.addi arg22 c31_i32
  let c0_i32_34 : BitVec 32 := 0#32
  let v98 : BitVec 1 := Scalar.cmpi .sgt v96 c0_i32_34
  let v99 : BitVec 32 := Scalar.extui v98
  let c0_i32_35 : BitVec 32 := 0#32
  let v100 : BitVec 1 := Scalar.cmpi .slt v96 c0_i32_35
  let v101 : BitVec 32 := Scalar.extui v100
  let v102 : BitVec 32 := Scalar.subi v99 v101
  let c32_i32 : BitVec 32 := 32#32
  let c0_i32_36 : BitVec 32 := 0#32
  let v103 : BitVec 1 := Scalar.cmpi .sgt c32_i32 c0_i32_36
  let v104 : BitVec 32 := Scalar.extui v103
  let c0_i32_37 : BitVec 32 := 0#32
  let v105 : BitVec 1 := Scalar.cmpi .slt c32_i32 c0_i32_37
  let v106 : BitVec 32 := Scalar.extui v105
  let v107 : BitVec 32 := Scalar.subi v104 v106
  let v108 : BitVec 1 := Scalar.cmpi .ne v102 v107
  let v109 : BitVec 32 := Scalar.remsi v96 c32_i32
  let c0_i32_38 : BitVec 32 := 0#32
  let v110 : BitVec 1 := Scalar.cmpi .ne v109 c0_i32_38
  let v111 : BitVec 1 := Scalar.andi v108 v110
  let v97 : BitVec 32 := Scalar.divsi v96 c32_i32
  let c1_i32_39 : BitVec 32 := 1#32
  let v112 : BitVec 32 := Scalar.subi v97 c1_i32_39
  let v113 : BitVec 32 := Scalar.select v111 v112 v97
  let v115 : BitVec 32 := Scalar.subi v113 c0_i32_41
  let c1_i32_42 : BitVec 32 := 1#32
  let v117 : BitVec 32 := Scalar.divsi v115 c1_i32_42
  let v118 : BitVec 32 := Scalar.muli v117 c1_i32_42
  let v119 : BitVec 32 := Scalar.addi c0_i32_41 v118
  let c1_i32_44 : BitVec 32 := 1#32
  let arg23 : BitVec 32 := Scf.iv v119 c1_i32_44 k0_t8
  let c32_i32_80 : BitVec 32 := 32#32
  let v273 : BitVec 32 := Scalar.muli arg23 c32_i32_80
  let c16_i32 : BitVec 32 := 16#32
  let v328 : BitVec 32 := Scalar.addi v273 c16_i32
  let v329 : Index := Scalar.indexCast v328
  ![v329.toNat]

def k0_chk15 (i : grid0.Coords) (arg22 : BitVec 32) : Prop :=
  (∀ (k0_h1 : k0_cond1 i = 1#1), (k0_t7_loop arg22).OK) ∧
  (∀ k0_t7 : Fin (k0_t7_loop arg22).trips, ∀ (k0_h1 : k0_cond1 i = 1#1), ∀ a, (k0_off7 arg22 k0_t7) a + S16.size a ≤ S5024.size a) ∧
  (∀ k0_t7 : Fin (k0_t7_loop arg22).trips, ∀ (k0_h1 : k0_cond1 i = 1#1), ∀ a, (k0_off8 arg22 k0_t7) a + S16.size a ≤ S5024.size a) ∧
  (∀ (k0_h1 : k0_cond1 i = 1#1), (k0_t8_loop arg22).OK) ∧
  (∀ k0_t8 : Fin (k0_t8_loop arg22).trips, ∀ (k0_h1 : k0_cond1 i = 1#1), ∀ a, (k0_off9 arg22 k0_t8) a + S16.size a ≤ S5024.size a) ∧
  (∀ k0_t8 : Fin (k0_t8_loop arg22).trips, ∀ (k0_h1 : k0_cond1 i = 1#1), ∀ a, (k0_off10 arg22 k0_t8) a + S16.size a ≤ S5024.size a)
theorem k0_t7_ok : ∀ (i : grid0.Coords) (arg22 : BitVec 32) (k0_hw15 : k0_chk15 i arg22), ∀ (k0_h1 : k0_cond1 i = 1#1), (k0_t7_loop arg22).OK := fun i arg22 k0_hw15 k0_h1 => k0_hw15.1 k0_h1
theorem k0_off7_inb : ∀ (i : grid0.Coords) (arg22 : BitVec 32) (k0_hw15 : k0_chk15 i arg22) (k0_t7 : Fin (k0_t7_loop arg22).trips), ∀ (k0_h1 : k0_cond1 i = 1#1), ∀ a, (k0_off7 arg22 k0_t7) a + S16.size a ≤ S5024.size a := fun i arg22 k0_hw15 k0_t7 k0_h1 => k0_hw15.2.1 k0_t7 k0_h1
theorem k0_off8_inb : ∀ (i : grid0.Coords) (arg22 : BitVec 32) (k0_hw15 : k0_chk15 i arg22) (k0_t7 : Fin (k0_t7_loop arg22).trips), ∀ (k0_h1 : k0_cond1 i = 1#1), ∀ a, (k0_off8 arg22 k0_t7) a + S16.size a ≤ S5024.size a := fun i arg22 k0_hw15 k0_t7 k0_h1 => k0_hw15.2.2.1 k0_t7 k0_h1
theorem k0_t8_ok : ∀ (i : grid0.Coords) (arg22 : BitVec 32) (k0_hw15 : k0_chk15 i arg22), ∀ (k0_h1 : k0_cond1 i = 1#1), (k0_t8_loop arg22).OK := fun i arg22 k0_hw15 k0_h1 => k0_hw15.2.2.2.1 k0_h1
theorem k0_off9_inb : ∀ (i : grid0.Coords) (arg22 : BitVec 32) (k0_hw15 : k0_chk15 i arg22) (k0_t8 : Fin (k0_t8_loop arg22).trips), ∀ (k0_h1 : k0_cond1 i = 1#1), ∀ a, (k0_off9 arg22 k0_t8) a + S16.size a ≤ S5024.size a := fun i arg22 k0_hw15 k0_t8 k0_h1 => k0_hw15.2.2.2.2.1 k0_t8 k0_h1
theorem k0_off10_inb : ∀ (i : grid0.Coords) (arg22 : BitVec 32) (k0_hw15 : k0_chk15 i arg22) (k0_t8 : Fin (k0_t8_loop arg22).trips), ∀ (k0_h1 : k0_cond1 i = 1#1), ∀ a, (k0_off10 arg22 k0_t8) a + S16.size a ≤ S5024.size a := fun i arg22 k0_hw15 k0_t8 k0_h1 => k0_hw15.2.2.2.2.2 k0_t8 k0_h1

def k0_chk11 (i : grid0.Coords) (v51 : IVec S16 32) : Prop :=
  (∀ (k0_h1 : k0_cond1 i = 1#1), ∀ a x, ((![v51] : Fin 1 → IVec S16 32) a x).toNat < S5008.size a) ∧
  (∀ (k0_h1 : k0_cond1 i = 1#1), ∀ a x, ((![v51] : Fin 1 → IVec S16 32) a x).toNat < S5008.size a)
theorem k0_idx25_inb : ∀ (i : grid0.Coords) (v51 : IVec S16 32) (k0_hw11 : k0_chk11 i v51), ∀ (k0_h1 : k0_cond1 i = 1#1), ∀ a x, ((![v51] : Fin 1 → IVec S16 32) a x).toNat < S5008.size a := fun i v51 k0_hw11 k0_h1 => k0_hw11.1 k0_h1
theorem k0_idx35_inb : ∀ (i : grid0.Coords) (v51 : IVec S16 32) (k0_hw11 : k0_chk11 i v51), ∀ (k0_h1 : k0_cond1 i = 1#1), ∀ a x, ((![v51] : Fin 1 → IVec S16 32) a x).toNat < S5008.size a := fun i v51 k0_hw11 k0_h1 => k0_hw11.2 k0_h1

def k0_chk13 (i : grid0.Coords) (v53 : IVec S16 32) : Prop :=
  (∀ (k0_h1 : k0_cond1 i = 1#1), ∀ a x, ((![v53] : Fin 1 → IVec S16 32) a x).toNat < S5008.size a) ∧
  (∀ (k0_h1 : k0_cond1 i = 1#1), ∀ a x, ((![v53] : Fin 1 → IVec S16 32) a x).toNat < S5008.size a)
theorem k0_idx30_inb : ∀ (i : grid0.Coords) (v53 : IVec S16 32) (k0_hw13 : k0_chk13 i v53), ∀ (k0_h1 : k0_cond1 i = 1#1), ∀ a x, ((![v53] : Fin 1 → IVec S16 32) a x).toNat < S5008.size a := fun i v53 k0_hw13 k0_h1 => k0_hw13.1 k0_h1
theorem k0_idx36_inb : ∀ (i : grid0.Coords) (v53 : IVec S16 32) (k0_hw13 : k0_chk13 i v53), ∀ (k0_h1 : k0_cond1 i = 1#1), ∀ a x, ((![v53] : Fin 1 → IVec S16 32) a x).toNat < S5008.size a := fun i v53 k0_hw13 k0_h1 => k0_hw13.2 k0_h1

def k0_chk16 (i : grid0.Coords) (v267 : IVec S16 32) : Prop :=
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a) ∧
  (∀ (k0_h1 : k0_cond1 i = 1#1), ∀ a x, ((![v267] : Fin 1 → IVec S16 32) a x).toNat < S5024.size a)
theorem k0_idx37_inb : ∀ (i : grid0.Coords) (v267 : IVec S16 32) (k0_hw16 : k0_chk16 i v267), ∀ (k0_h1 : k0_cond1 i = 1#1), ∀ a x, ((![v267] : Fin 1 → IVec S16 32) a x).toNat < S5024.size a := fun i v267 k0_hw16 k0_h1 => k0_hw16.1 k0_h1
theorem k0_idx38_inb : ∀ (i : grid0.Coords) (v267 : IVec S16 32) (k0_hw16 : k0_chk16 i v267), ∀ (k0_h1 : k0_cond1 i = 1#1), ∀ a x, ((![v267] : Fin 1 → IVec S16 32) a x).toNat < S5024.size a := fun i v267 k0_hw16 k0_h1 => k0_hw16.2.1 k0_h1
theorem k0_idx39_inb : ∀ (i : grid0.Coords) (v267 : IVec S16 32) (k0_hw16 : k0_chk16 i v267), ∀ (k0_h1 : k0_cond1 i = 1#1), ∀ a x, ((![v267] : Fin 1 → IVec S16 32) a x).toNat < S5024.size a := fun i v267 k0_hw16 k0_h1 => k0_hw16.2.2.1 k0_h1
theorem k0_idx40_inb : ∀ (i : grid0.Coords) (v267 : IVec S16 32) (k0_hw16 : k0_chk16 i v267), ∀ (k0_h1 : k0_cond1 i = 1#1), ∀ a x, ((![v267] : Fin 1 → IVec S16 32) a x).toNat < S5024.size a := fun i v267 k0_hw16 k0_h1 => k0_hw16.2.2.2.1 k0_h1
theorem k0_idx41_inb : ∀ (i : grid0.Coords) (v267 : IVec S16 32) (k0_hw16 : k0_chk16 i v267), ∀ (k0_h1 : k0_cond1 i = 1#1), ∀ a x, ((![v267] : Fin 1 → IVec S16 32) a x).toNat < S5024.size a := fun i v267 k0_hw16 k0_h1 => k0_hw16.2.2.2.2 k0_h1

def k0_chk17 (i : grid0.Coords) (v269 : IVec S16 32) : Prop :=
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a) ∧
  (∀ (k0_h1 : k0_cond1 i = 1#1), ∀ a x, ((![v269] : Fin 1 → IVec S16 32) a x).toNat < S5024.size a)
theorem k0_idx42_inb : ∀ (i : grid0.Coords) (v269 : IVec S16 32) (k0_hw17 : k0_chk17 i v269), ∀ (k0_h1 : k0_cond1 i = 1#1), ∀ a x, ((![v269] : Fin 1 → IVec S16 32) a x).toNat < S5024.size a := fun i v269 k0_hw17 k0_h1 => k0_hw17.1 k0_h1
theorem k0_idx43_inb : ∀ (i : grid0.Coords) (v269 : IVec S16 32) (k0_hw17 : k0_chk17 i v269), ∀ (k0_h1 : k0_cond1 i = 1#1), ∀ a x, ((![v269] : Fin 1 → IVec S16 32) a x).toNat < S5024.size a := fun i v269 k0_hw17 k0_h1 => k0_hw17.2.1 k0_h1
theorem k0_idx44_inb : ∀ (i : grid0.Coords) (v269 : IVec S16 32) (k0_hw17 : k0_chk17 i v269), ∀ (k0_h1 : k0_cond1 i = 1#1), ∀ a x, ((![v269] : Fin 1 → IVec S16 32) a x).toNat < S5024.size a := fun i v269 k0_hw17 k0_h1 => k0_hw17.2.2.1 k0_h1
theorem k0_idx45_inb : ∀ (i : grid0.Coords) (v269 : IVec S16 32) (k0_hw17 : k0_chk17 i v269), ∀ (k0_h1 : k0_cond1 i = 1#1), ∀ a x, ((![v269] : Fin 1 → IVec S16 32) a x).toNat < S5024.size a := fun i v269 k0_hw17 k0_h1 => k0_hw17.2.2.2.1 k0_h1
theorem k0_idx46_inb : ∀ (i : grid0.Coords) (v269 : IVec S16 32) (k0_hw17 : k0_chk17 i v269), ∀ (k0_h1 : k0_cond1 i = 1#1), ∀ a x, ((![v269] : Fin 1 → IVec S16 32) a x).toNat < S5024.size a := fun i v269 k0_hw17 k0_h1 => k0_hw17.2.2.2.2 k0_h1
def k0_off11 (i : grid0.Coords) : Fin 2 → Nat :=
  let arg1 : BitVec 32 := BitVec.ofNat 32 (i 1).val
  let c0_i32_24_r6 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1x5000 : Shape := ⟨2, ![1, 5000]⟩
abbrev S5000x5000 : Shape := ⟨2, ![5000, 5000]⟩
abbrev S1 : Shape := ⟨1, ![1]⟩
abbrev S5000x5 : Shape := ⟨2, ![5000, 5]⟩

abbrev nBuf : Space → Nat
  | .hbm => 169
  | .vmem => 0
  | .smem => 0
  | _ => 0

abbrev hbmTy0_0 (i : Nat) : BufTy := match i % 128 with
  | 0 => ⟨S5000x4, .f32⟩
  | 1 => ⟨S5000, .i32⟩
  | 2 => ⟨S5000, .f32⟩
  | 3 => ⟨S5000, .f32⟩
  | 4 => ⟨S5000, .i32⟩
  | 5 => ⟨S5000, .f32⟩
  | 6 => ⟨S5000, .i32⟩
  | 7 => ⟨S_, .i32⟩
  | 8 => ⟨S5000, .i32⟩
  | 9 => ⟨S5000, .i1⟩
  | 10 => ⟨S_, .i32⟩
  | 11 => ⟨S5000, .i32⟩
  | 12 => ⟨S5000, .i32⟩
  | 13 => ⟨S5000, .i32⟩
  | 14 => ⟨S5000x1, .i32⟩
  | 15 => ⟨S5000x4, .f32⟩
  | 16 => ⟨S_, .i32⟩
  | 17 => ⟨S5000, .i32⟩
  | 18 => ⟨S5000, .i1⟩
  | 19 => ⟨S_, .i32⟩
  | 20 => ⟨S5000, .i32⟩
  | 21 => ⟨S5000, .i32⟩
  | 22 => ⟨S5000, .i32⟩
  | 23 => ⟨S5000x1, .i32⟩
  | 24 => ⟨S5000, .i32⟩
  | 25 => ⟨S5000x1, .f32⟩
  | 26 => ⟨S5000, .f32⟩
  | 27 => ⟨S5000x1, .f32⟩
  | 28 => ⟨S5000, .f32⟩
  | 29 => ⟨S5000x1, .f32⟩
  | 30 => ⟨S5000, .f32⟩
  | 31 => ⟨S5000, .f32⟩
  | 32 => ⟨S5000x1, .f32⟩
  | 33 => ⟨S5000, .f32⟩
  | 34 => ⟨S5000, .f32⟩
  | 35 => ⟨S_, .f32⟩
  | 36 => ⟨S5000, .f32⟩
  | 37 => ⟨S5000, .f32⟩
  | 38 => ⟨S5000, .f32⟩
  | 39 => ⟨S_, .f32⟩
  | 40 => ⟨S5000, .f32⟩
  | 41 => ⟨S5000, .f32⟩
  | 42 => ⟨S5000, .f32⟩
  | 43 => ⟨S_, .f32⟩
  | 44 => ⟨S5000, .f32⟩
  | 45 => ⟨S5000, .f32⟩
  | 46 => ⟨S5000, .f32⟩
  | 47 => ⟨S_, .f32⟩
  | 48 => ⟨S5000, .f32⟩
  | 49 => ⟨S5000, .f32⟩
  | 50 => ⟨S5000, .f32⟩
  | 51 => ⟨S5000, .f32⟩
  | 52 => ⟨S5000x1, .f32⟩
  | 53 => ⟨S1x5000, .f32⟩
  | 54 => ⟨S5000x5000, .f32⟩
  | 55 => ⟨S5000x5000, .f32⟩
  | 56 => ⟨S5000x5000, .f32⟩
  | 57 => ⟨S5000x1, .f32⟩
  | 58 => ⟨S1x5000, .f32⟩
  | 59 => ⟨S5000x5000, .f32⟩
  | 60 => ⟨S5000x5000, .f32⟩
  | 61 => ⟨S5000x5000, .f32⟩
  | 62 => ⟨S5000x1, .f32⟩
  | 63 => ⟨S1x5000, .f32⟩
  | 64 => ⟨S5000x5000, .f32⟩
  | 65 => ⟨S5000x5000, .f32⟩
  | 66 => ⟨S5000x5000, .f32⟩
  | 67 => ⟨S5000x1, .f32⟩
  | 68 => ⟨S1x5000, .f32⟩
  | 69 => ⟨S5000x5000, .f32⟩
  | 70 => ⟨S5000x5000, .f32⟩
  | 71 => ⟨S5000x5000, .f32⟩
  | 72 => ⟨S5000x5000, .f32⟩
  | 73 => ⟨S_, .f32⟩
  | 74 => ⟨S_, .f32⟩
  | 75 => ⟨S5000x5000, .f32⟩
  | 76 => ⟨S5000x5000, .f32⟩
  | 77 => ⟨S5000x5000, .f32⟩
  | 78 => ⟨S_, .f32⟩
  | 79 => ⟨S_, .f32⟩
  | 80 => ⟨S5000x5000, .f32⟩
  | 81 => ⟨S5000x5000, .f32⟩
  | 82 => ⟨S5000x5000, .f32⟩
  | 83 => ⟨S5000x1, .f32⟩
  | 84 => ⟨S1x5000, .f32⟩
  | 85 => ⟨S5000x5000, .f32⟩
  | 86 => ⟨S5000x5000, .f32⟩
  | 87 => ⟨S5000x5000, .f32⟩
  | 88 => ⟨S5000x5000, .f32⟩
  | 89 => ⟨S_, .f32⟩
  | 90 => ⟨S5000x5000, .f32⟩
  | 91 => ⟨S5000x5000, .f32⟩
  | 92 => ⟨S5000x5000, .f32⟩
  | 93 => ⟨S5000x1, .i32⟩
  | 94 => ⟨S1x5000, .i32⟩
  | 95 => ⟨S5000x5000, .i32⟩
  | 96 => ⟨S5000x5000, .i32⟩
  | 97 => ⟨S5000x5000, .i1⟩
  | 98 => ⟨S_, .f32⟩
  | 99 => ⟨S5000x5000, .f32⟩
  | 100 => ⟨S5000x5000, .i1⟩
  | 101 => ⟨S5000x5000, .i1⟩
  | 102 => ⟨S5000, .i32⟩
  | 103 => ⟨S_, .i1⟩
  | 104 => ⟨S5000, .i1⟩
  | 105 => ⟨S_, .i32⟩
  | 106 => ⟨S_, .i32⟩
  | 107 => ⟨S5000x5000, .i1⟩
  | 108 => ⟨S5000, .i32⟩
  | 109 => ⟨S_, .i32⟩
  | 110 => ⟨S_, .i32⟩
  | 111 => ⟨S5000, .i1⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S5000x4, .f32⟩

abbrev hbmTy0_1 (i : Nat) : BufTy := match i % 128 with
  | 0 => ⟨S_, .i32⟩
  | 1 => ⟨S_, .i32⟩
  | 2 => ⟨S1x5000, .i1⟩
  | 3 => ⟨S5000, .i1⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S1, .i1⟩
  | 11 => ⟨S_, .i1⟩
  | 12 => ⟨S5000, .i1⟩
  | 13 => ⟨S5000, .i1⟩
  | 14 => ⟨S_, .i32⟩
  | 15 => ⟨S5000, .i32⟩
  | 16 => ⟨S5000, .i1⟩
  | 17 => ⟨S5000, .i1⟩
  | 18 => ⟨S5000, .i1⟩
  | 19 => ⟨S5000, .i1⟩
  | 20 => ⟨S_, .i32⟩
  | 21 => ⟨S_, .i32⟩
  | 22 => ⟨S5000, .i32⟩
  | 23 => ⟨S5000, .i32⟩
  | 24 => ⟨S5000, .i32⟩
  | 25 => ⟨S_, .i32⟩
  | 26 => ⟨S5000, .i32⟩
  | 27 => ⟨S5000, .i1⟩
  | 28 => ⟨S_, .i32⟩
  | 29 => ⟨S5000, .i32⟩
  | 30 => ⟨S5000, .i32⟩
  | 31 => ⟨S5000, .i32⟩
  | 32 => ⟨S5000x1, .i32⟩
  | 33 => ⟨S5000, .i1⟩
  | 34 => ⟨S5000, .f32⟩
  | 35 => ⟨S5000x1, .f32⟩
  | 36 => ⟨S5000x4, .f32⟩
  | 37 => ⟨S5000x4, .f32⟩
  | 38 => ⟨S5000, .f32⟩
  | 39 => ⟨S5000x1, .f32⟩
  | 40 => ⟨S5000x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_call2_v0 : Ref sig .tc := ⟨.hbm, 79, rfl⟩
abbrev main_call2_v1 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_c_10 : Ref sig .tc := ⟨.hbm, 103, rfl⟩
abbrev main_v82 : Ref sig .tc := ⟨.hbm, 104, rfl⟩
abbrev main_c_11 : Ref sig .tc := ⟨.hbm, 105, rfl⟩
abbrev main_c_12 : Ref sig .tc := ⟨.hbm, 106, rfl⟩
abbrev main_v83_0 : Ref sig .tc := ⟨.hbm, 107, rfl⟩
abbrev main_v83_1 : Ref sig .tc := ⟨.hbm, 108, rfl⟩
abbrev main_v83_2 : Ref sig .tc := ⟨.hbm, 109, rfl⟩
abbrev main_v83_3 : Ref sig .tc := ⟨.hbm, 110, rfl⟩
abbrev main_v83_4 : Ref sig .tc := ⟨.hbm, 111, rfl⟩
abbrev main_while0c_c_19 : Ref sig .tc := ⟨.hbm, 112, rfl⟩
abbrev main_while0c_v99 : Ref sig .tc := ⟨.hbm, 113, rfl⟩
abbrev main_while0b_c_19 : Ref sig .tc := ⟨.hbm, 114, rfl⟩
abbrev main_while0b_v99 : Ref sig .tc := ⟨.hbm, 115, rfl⟩
abbrev main_while0b_v100 : Ref sig .tc := ⟨.hbm, 116, rfl⟩
abbrev main_while0b_c_20 : Ref sig .tc := ⟨.hbm, 117, rfl⟩
abbrev main_while0b_v101 : Ref sig .tc := ⟨.hbm, 118, rfl⟩
abbrev main_while0b_c_21 : Ref sig .tc := ⟨.hbm, 119, rfl⟩
abbrev main_while0b_v102 : Ref sig .tc := ⟨.hbm, 120, rfl⟩
abbrev main_while0b_v103 : Ref sig .tc := ⟨.hbm, 121, rfl⟩
abbrev main_while0b_c_22 : Ref sig .tc := ⟨.hbm, 122, rfl⟩
abbrev main_while0b_c_23 : Ref sig .tc := ⟨.hbm, 123, rfl⟩
abbrev main_while0b_v104 : Ref sig .tc := ⟨.hbm, 124, rfl⟩
abbrev main_while0b_c_24 : Ref sig .tc := ⟨.hbm, 125, rfl⟩
abbrev main_while0b_c_25 : Ref sig .tc := ⟨.hbm, 126, rfl⟩
abbrev main_while0b_v105 : Ref sig .tc := ⟨.hbm, 127, rfl⟩
abbrev main_while0b_c_26 : Ref sig .tc := ⟨.hbm, 128, rfl⟩
abbrev main_while0b_v106 : Ref sig .tc := ⟨.hbm, 129, rfl⟩
abbrev main_while0b_v107 : Ref sig .tc := ⟨.hbm, 130, rfl⟩
abbrev main_while0b_v108 : Ref sig .tc := ⟨.hbm, 131, rfl⟩
abbrev main_while0b_c_27 : Ref sig .tc := ⟨.hbm, 132, rfl⟩
abbrev main_while0b_v109 : Ref sig .tc := ⟨.hbm, 133, rfl⟩
abbrev main_while0b_v110 : Ref sig .tc := ⟨.hbm, 134, rfl⟩
abbrev main_while0b_c_28 : Ref sig .tc := ⟨.hbm, 135, rfl⟩
abbrev main_while0b_v111 : Ref sig .tc := ⟨.hbm, 136, rfl⟩
abbrev main_while0b_v112 : Ref sig .tc := ⟨.hbm, 137, rfl⟩
abbrev main_while0b_v113 : Ref sig .tc := ⟨.hbm, 138, rfl⟩
abbrev main_while0b_v114 : Ref sig .tc := ⟨.hbm, 139, rfl⟩
abbrev main_while0b_v115 : Ref sig .tc := ⟨.hbm, 140, rfl⟩
abbrev main_while0b_v116 : Ref sig .tc := ⟨.hbm, 141, rfl⟩
abbrev main_while0b_v117 : Ref sig .tc := ⟨.hbm, 142, rfl⟩
abbrev main_while0b_v118 : Ref sig .tc := ⟨.hbm, 143, rfl⟩
abbrev main_while0b_v119 : Ref sig .tc := ⟨.hbm, 144, rfl⟩
abbrev main_while0b_v120 : Ref sig .tc := ⟨.hbm, 145, rfl⟩
abbrev main_while0b_v121 : Ref sig .tc := ⟨.hbm, 146, rfl⟩
abbrev main_while0b_v122 : Ref sig .tc := ⟨.hbm, 147, rfl⟩
abbrev main_while0b_c_29 : Ref sig .tc := ⟨.hbm, 148, rfl⟩
abbrev main_while0b_v123 : Ref sig .tc := ⟨.hbm, 149, rfl⟩
abbrev main_call3_v0 : Ref sig .tc := ⟨.hbm, 150, rfl⟩
abbrev main_call3_v1_0 : Ref sig .tc := ⟨.hbm, 151, rfl⟩
abbrev main_v84 : Ref sig .tc := ⟨.hbm, 152, rfl⟩
abbrev main_c_13 : Ref sig .tc := ⟨.hbm, 153, rfl⟩
abbrev main_v85 : Ref sig .tc := ⟨.hbm, 154, rfl⟩
abbrev main_v86 : Ref sig .tc := ⟨.hbm, 155, rfl⟩
abbrev main_c_14 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩

abbrev nD : Nat := 1
abbrev τ : Topo := Topo.v7x

variable {F : FTy → Type} [FloatOps F]

abbrev main_while0_count : Scf.Loop 32 := ⟨0#32, 5000#32, 1#32⟩
-- ==== Proof.Setup.lean ====
/-
  The kernel's program as the launch theorem sees it, its resource algebra, and the names the other modules use: the
  memrefs a tile works on, spelt as the body table passes them.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.LoopRemainder
public import proofs.«01_k».proof.Proof.Gen.KernelIdeal
public import proofs.«01_k».proof.Proof.Gen.KernelIdeal.Skeleton

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

/-- The handshakes' rounds library, the left factor; the transfers' counters are found by instance in the right. -/
abbrev EH : Emb UH (MT nD τ sig (HIx 1) (Elt F) ℕ UU ℕ) := embL

/-! ## The tile's coordinates and its thread -/

abbrev cV (L : grid0.Coords) : Fin τ.nSC := (L 0).castLE hcore0
abbrev jV (L : grid0.Coords) : Fin τ.nSub := (L 1).castLE hsub0

/-- The tile at `L`: a vector subcore of device `d`. -/
abbrev thr (d : Dev nD) (L : grid0.Coords) : Thread nD τ := V d (cV L) (jV L)

end Cert.Proof.Nms

end
-- ==== Proof.Host.lean ====
/-
  The host's operations before the call and after it, as two straight lines, and the program as the first line, the call
  and the second line.
-/
module

public import proofs.«01_k».proof.Proof.Setup
public import Idealize.ShloMosaic.Lib.Pipeline.Frame

@[expose] public section

noncomputable section

namespace Cert.Proof.Nms

open Cert.KernelIdeal Cert.KernelIdeal.Gen

open Idealize.ShloMosaic
open Idealize.ShloMosaic.SparseCore (S V T)
open Idealize.SL Idealize.SL.Sem

variable {F : FTy → Type} [FloatOps F]

set_option maxHeartbeats 4000000
set_option maxRecDepth 100000

/-- Before the call. -/
def opsA : List (HloOp τ sig (Elt F)) :=
  [(StableHlo.unary main_arg2 main_v0 (Host.negf : (⟨S5000, .f32⟩ : BufTy).Contents (Elt F) → (⟨S5000, .f32⟩ : BufTy).Contents (Elt F))),
   (StableHlo.TRef.nullary main_call0.v0 (iotaInDim S5000 32 0)),
   (StableHlo.TRef.ternary (.of main_arg1 : StableHlo.TRef sig ⟨S5000, .i32⟩) (.of main_v0 : StableHlo.TRef sig ⟨S5000, .f32⟩) main_call0.v0 main_call0.v1_0 (fun x y z => (Host.sort3 S5000 0 comparator_i32_f32_i32_d0 x y z).1)),
   (StableHlo.TRef.ternary (.of main_arg1 : StableHlo.TRef sig ⟨S5000, .i32⟩) (.of main_v0 : StableHlo.TRef sig ⟨S5000, .f32⟩) main_call0.v0 main_call0.v1_1 (fun x y z => (Host.sort3 S5000 0 comparator_i32_f32_i32_d0 x y z).2.1)),
   (StableHlo.TRef.ternary (.of main_arg1 : StableHlo.TRef sig ⟨S5000, .i32⟩) (.of main_v0 : StableHlo.TRef sig ⟨S5000, .f32⟩) main_call0.v0 main_call0.v1_2 (fun x y z => (Host.sort3 S5000 0 comparator_i32_f32_i32_d0 x y z).2.2)),
   (StableHlo.nullary main_c (constantI S_ 32 0#32)),
   (StableHlo.unary main_c main_v2 (broadcastInDim S8 ![] bcast_S_S8 : (⟨S_, .i32⟩ : BufTy).Contents (Elt F) → (⟨S8, .i32⟩ : BufTy).Contents (Elt F))),
   (StableHlo.nullary main_c_0 (constantI S_ 32 0#32)),
   (StableHlo.unary main_c_0 main_v3 (broadcastInDim S5000 ![] bcast_S_S5000 : (⟨S_, .i32⟩ : BufTy).Contents (Elt F) → (⟨S5000, .i32⟩ : BufTy).Contents (Elt F))),
   (StableHlo.binary main_arg1 main_v3 main_v4 (cmpi .slt : (⟨S5000, .i32⟩ : BufTy).Contents (Elt F) → (⟨S5000, .i32⟩ : BufTy).Contents (Elt F) → (⟨S5000, .i1⟩ : BufTy).Contents (Elt F))),
   (StableHlo.nullary main_c_1 (constantI S_ 32 8#32)),
   (StableHlo.unary main_c_1 main_v5 (broadcastInDim S5000 ![] bcast_S_S5000 : (⟨S_, .i32⟩ : BufTy).Contents (Elt F) → (⟨S5000, .i32⟩ : BufTy).Contents (Elt F))),
   (StableHlo.binary main_arg1 main_v5 main_v6 (addi : (⟨S5000, .i32⟩ : BufTy).Contents (Elt F) → (⟨S5000, .i32⟩ : BufTy).Contents (Elt F) → (⟨S5000, .i32⟩ : BufTy).Contents (Elt F))),
   (StableHlo.ternary main_v4 main_v6 main_arg1 main_v7 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F))),
   (StableHlo.unary main_v7 main_v8 (broadcastInDim S5000x1 ![0] bcast_S5000_S5000x1_0 : (⟨S5000, .i32⟩ : BufTy).Contents (Elt F) → (⟨S5000x1, .i32⟩ : BufTy).Contents (Elt F))),
   (StableHlo.nullary main_c_2 (constantI S_ 32 1#32)),
   (StableHlo.unary main_c_2 main_v9 (broadcastInDim S5000 ![] bcast_S_S5000 : (⟨S_, .i32⟩ : BufTy).Contents (Elt F) → (⟨S5000, .i32⟩ : BufTy).Contents (Elt F))),
   (StableHlo.ternary main_v2 main_v8 main_v9 main_v10 ((fun x i u => Host.scatter scatter_S8_S5000x1_S5000_n_0_0_1 IntOp.addi x i u) : (⟨S8, .i32⟩ : BufTy).Contents (Elt F) → (⟨S5000x1, .i32⟩ : BufTy).Contents (Elt F) → (⟨S5000, .i32⟩ : BufTy).Contents (Elt F) → (⟨S8, .i32⟩ : BufTy).Contents (Elt F))),
   (StableHlo.nullary main_c_3 (constantI S_ 32 0#32)),
   (StableHlo.unary main_c_3 main_v11 (broadcastInDim S1 ![] bcast_S_S1 : (⟨S_, .i32⟩ : BufTy).Contents (Elt F) → (⟨S1, .i32⟩ : BufTy).Contents (Elt F))),
   (StableHlo.TRef.nullary main_call1_call0.c (constantI S_ 32 0#32)),
   (StableHlo.TRef.unary main_call1_call0.c main_call1_call0.v0 (broadcastInDim S_ ![] bcast_S_S_)),
   (StableHlo.TRef.binary (.of main_v10 : StableHlo.TRef sig ⟨S8, .i32⟩) main_call1_call0.v0 main_call1_call0.v1 (fun x v => Host.reduceWindow IntOp.addi ![8] ![1] ![7] ![0] x v reduceWindows_S8_S8_w8s1p7_0 h_S_)),
   (StableHlo.unary main_v12 main_v13 ((extractStridedSlice S7 ![0] · slices_S8_S7_0) : (⟨S8, .i32⟩ : BufTy).Contents (Elt F) → (⟨S7, .i32⟩ : BufTy).Contents (Elt F))),
   (StableHlo.binary main_v11 main_v13 main_v14 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F))),
   (StableHlo.binary main_v14 main_v10 main_v15 ((fun a b => concatenate S16 0 [⟨S8, a⟩, ⟨S8, b⟩] concatenates_S8_S8_S16_d0) : (⟨S8, .i32⟩ : BufTy).Contents (Elt F) → (⟨S8, .i32⟩ : BufTy).Contents (Elt F) → (⟨S16, .i32⟩ : BufTy).Contents (Elt F))),
   (StableHlo.unary main_v15 main_v16 (sitofp .f32 : (⟨S16, .i32⟩ : BufTy).Contents (Elt F) → (⟨S16, .f32⟩ : BufTy).Contents (Elt F))),
   (StableHlo.nullary main_cst (constant S_ .f32 0x00000000#32)),
   (StableHlo.unary main_cst main_v17 (broadcastInDim S5008 ![] bcast_S_S5008 : (⟨S_, .f32⟩ : BufTy).Contents (Elt F) → (⟨S5008, .f32⟩ : BufTy).Contents (Elt F))),
   (StableHlo.unary main_v1 main_v18 (sitofp .f32 : (⟨S5000, .i32⟩ : BufTy).Contents (Elt F) → (⟨S5000, .f32⟩ : BufTy).Contents (Elt F))),
   (StableHlo.nullary main_c_4 (constantI S_ 32 0#32)),
   (StableHlo.unary main_c_4 main_v19 (broadcastInDim S1 ![] bcast_S_S1 : (⟨S_, .i32⟩ : BufTy).Contents (Elt F) → (⟨S1, .i32⟩ : BufTy).Contents (Elt F))),
   (StableHlo.ternary main_v17 main_v19 main_v18 main_v20 ((fun x i u => Host.scatter scatter_S5008_S1_S5000_0_n_0_0 (fun _ b => b) x i u) : (⟨S5008, .f32⟩ : BufTy).Contents (Elt F) → (⟨S1, .i32⟩ : BufTy).Contents (Elt F) → (⟨S5000, .f32⟩ : BufTy).Contents (Elt F) → (⟨S5008, .f32⟩ : BufTy).Contents (Elt F))),
   (StableHlo.unary main_arg0 main_v21 ((extractStridedSlice S5000x1 ![0, 0] · slices_S5000x4_S5000x1_0_0) : (⟨S5000x4, .f32⟩ : BufTy).Contents (Elt F) → (⟨S5000x1, .f32⟩ : BufTy).Contents (Elt F))),
   (StableHlo.reshape main_v21 main_v22 (rfl : (.f32 : EltTy) = .f32) shapeCasts_S5000x1_S5000),
   (StableHlo.nullary main_cst_5 (constant S_ .f32 0x00000000#32)),
   (StableHlo.unary main_cst_5 main_v23 (broadcastInDim S5008 ![] bcast_S_S5008 : (⟨S_, .f32⟩ : BufTy).Contents (Elt F) → (⟨S5008, .f32⟩ : BufTy).Contents (Elt F))),
   (StableHlo.nullary main_c_6 (constantI S_ 32 0#32)),
   (StableHlo.unary main_c_6 main_v24 (broadcastInDim S1 ![] bcast_S_S1 : (⟨S_, .i32⟩ : BufTy).Contents (Elt F) → (⟨S1, .i32⟩ : BufTy).Contents (Elt F))),
   (StableHlo.ternary main_v23 main_v24 main_v22 main_v25 ((fun x i u => Host.scatter scatter_S5008_S1_S5000_0_n_0_0 (fun _ b => b) x i u) : (⟨S5008, .f32⟩ : BufTy).Contents (Elt F) → (⟨S1, .i32⟩ : BufTy).Contents (Elt F) → (⟨S5000, .f32⟩ : BufTy).Contents (Elt F) → (⟨S5008, .f32⟩ : BufTy).Contents (Elt F))),
   (StableHlo.unary main_arg0 main_v26 ((extractStridedSlice S5000x1 ![0, 1] · slices_S5000x4_S5000x1_0_1) : (⟨S5000x4, .f32⟩ : BufTy).Contents (Elt F) → (⟨S5000x1, .f32⟩ : BufTy).Contents (Elt F))),
   (StableHlo.reshape main_v26 main_v27 (rfl : (.f32 : EltTy) = .f32) shapeCasts_S5000x1_S5000),
   (StableHlo.nullary main_cst_7 (constant S_ .f32 0x00000000#32)),
   (StableHlo.unary main_cst_7 main_v28 (broadcastInDim S5008 ![] bcast_S_S5008 : (⟨S_, .f32⟩ : BufTy).Contents (Elt F) → (⟨S5008, .f32⟩ : BufTy).Contents (Elt F))),
   (StableHlo.nullary main_c_8 (constantI S_ 32 0#32)),
   (StableHlo.unary main_c_8 main_v29 (broadcastInDim S1 ![] bcast_S_S1 : (⟨S_, .i32⟩ : BufTy).Contents (Elt F) → (⟨S1, .i32⟩ : BufTy).Contents (Elt F))),
   (StableHlo.ternary main_v28 main_v29 main_v27 main_v30 ((fun x i u => Host.scatter scatter_S5008_S1_S5000_0_n_0_0 (fun _ b => b) x i u) : (⟨S5008, .f32⟩ : BufTy).Contents (Elt F) → (⟨S1, .i32⟩ : BufTy).Contents (Elt F) → (⟨S5000, .f32⟩ : BufTy).Contents (Elt F) → (⟨S5008, .f32⟩ : BufTy).Contents (Elt F))),
   (StableHlo.unary main_arg0 main_v31 ((extractStridedSlice S5000x1 ![0, 2] · slices_S5000x4_S5000x1_0_2) : (⟨S5000x4, .f32⟩ : BufTy).Contents (Elt F) → (⟨S5000x1, .f32⟩ : BufTy).Contents (Elt F))),
   (StableHlo.reshape main_v31 main_v32 (rfl : (.f32 : EltTy) = .f32) shapeCasts_S5000x1_S5000),
   (StableHlo.nullary main_cst_9 (constant S_ .f32 0x00000000#32)),
   (StableHlo.unary main_cst_9 main_v33 (broadcastInDim S5008 ![] bcast_S_S5008 : (⟨S_, .f32⟩ : BufTy).Contents (Elt F) → (⟨S5008, .f32⟩ : BufTy).Contents (Elt F))),
   (StableHlo.nullary main_c_10 (constantI S_ 32 0#32)),
   (StableHlo.unary main_c_10 main_v34 (broadcastInDim S1 ![] bcast_S_S1 : (⟨S_, .i32⟩ : BufTy).Contents (Elt F) → (⟨S1, .i32⟩ : BufTy).Contents (Elt F))),
   (StableHlo.ternary main_v33 main_v34 main_v32 main_v35 ((fun x i u => Host.scatter scatter_S5008_S1_S5000_0_n_0_0 (fun _ b => b) x i u) : (⟨S5008, .f32⟩ : BufTy).Contents (Elt F) → (⟨S1, .i32⟩ : BufTy).Contents (Elt F) → (⟨S5000, .f32⟩ : BufTy).Contents (Elt F) → (⟨S5008, .f32⟩ : BufTy).Contents (Elt F))),
   (StableHlo.unary main_arg0 main_v36 ((extractStridedSlice S5000x1 ![0, 3] · slices_S5000x4_S5000x1_0_3) : (⟨S5000x4, .f32⟩ : BufTy).Contents (Elt F) → (⟨S5000x1, .f32⟩ : BufTy).Contents (Elt F))),
   (StableHlo.reshape main_v36 main_v37 (rfl : (.f32 : EltTy) = .f32) shapeCasts_S5000x1_S5000),
   (StableHlo.nullary main_cst_11 (constant S_ .f32 0x00000000#32)),
   (StableHlo.unary main_cst_11 main_v38 (broadcastInDim S5008 ![] bcast_S_S5008 : (⟨S_, .f32⟩ : BufTy).Contents (Elt F) → (⟨S5008, .f32⟩ : BufTy).Contents (Elt F))),
   (StableHlo.nullary main_c_12 (constantI S_ 32 0#32)),
   (StableHlo.unary main_c_12 main_v39 (broadcastInDim S1 ![] bcast_S_S1 : (⟨S_, .i32⟩ : BufTy).Contents (Elt F) → (⟨S1, .i32⟩ : BufTy).Contents (Elt F))),
   (StableHlo.ternary main_v38 main_v39 main_v37 main_v40 ((fun x i u => Host.scatter scatter_S5008_S1_S5000_0_n_0_0 (fun _ b => b) x i u) : (⟨S5008, .f32⟩ : BufTy).Contents (Elt F) → (⟨S1, .i32⟩ : BufTy).Contents (Elt F) → (⟨S5000, .f32⟩ : BufTy).Contents (Elt F) → (⟨S5008, .f32⟩ : BufTy).Contents (Elt F)))]

/-- After it. -/
def opsB : List (HloOp τ sig (Elt F)) :=
  [(StableHlo.nullary main_cst_13 (constant S_ .f32 0x00000000#32)),
   (StableHlo.binary main_v41 main_cst_13 main_v42 ((fun x v => Host.reduceAdd x v reducesTo_S8x5008_S5008_d0 h_S_) : (⟨S8x5008, .f32⟩ : BufTy).Contents (Elt F) → (⟨S_, .f32⟩ : BufTy).Contents (Elt F) → (⟨S5008, .f32⟩ : BufTy).Contents (Elt F))),
   (StableHlo.unary main_v42 main_v43 ((extractStridedSlice S5000 ![0] · slices_S5008_S5000_0) : (⟨S5008, .f32⟩ : BufTy).Contents (Elt F) → (⟨S5000, .f32⟩ : BufTy).Contents (Elt F))),
   (StableHlo.nullary main_cst_14 (constant S_ .f32 0x00000000#32)),
   (StableHlo.unary main_cst_14 main_v44 (broadcastInDim S5000 ![] bcast_S_S5000 : (⟨S_, .f32⟩ : BufTy).Contents (Elt F) → (⟨S5000, .f32⟩ : BufTy).Contents (Elt F))),
   (StableHlo.nullary main_c_15 (constantI S_ 32 0#32)),
   (StableHlo.unary main_c_15 main_v45 (broadcastInDim S5000 ![] bcast_S_S5000 : (⟨S_, .i32⟩ : BufTy).Contents (Elt F) → (⟨S5000, .i32⟩ : BufTy).Contents (Elt F))),
   (StableHlo.binary main_v1 main_v45 main_v46 (cmpi .slt : (⟨S5000, .i32⟩ : BufTy).Contents (Elt F) → (⟨S5000, .i32⟩ : BufTy).Contents (Elt F) → (⟨S5000, .i1⟩ : BufTy).Contents (Elt F))),
   (StableHlo.nullary main_c_16 (constantI S_ 32 5000#32)),
   (StableHlo.unary main_c_16 main_v47 (broadcastInDim S5000 ![] bcast_S_S5000 : (⟨S_, .i32⟩ : BufTy).Contents (Elt F) → (⟨S5000, .i32⟩ : BufTy).Contents (Elt F))),
   (StableHlo.binary main_v1 main_v47 main_v48 (addi : (⟨S5000, .i32⟩ : BufTy).Contents (Elt F) → (⟨S5000, .i32⟩ : BufTy).Contents (Elt F) → (⟨S5000, .i32⟩ : BufTy).Contents (Elt F))),
   (StableHlo.ternary main_v46 main_v48 main_v1 main_v49 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F))),
   (StableHlo.unary main_v49 main_v50 (broadcastInDim S5000x1 ![0] bcast_S5000_S5000x1_0 : (⟨S5000, .i32⟩ : BufTy).Contents (Elt F) → (⟨S5000x1, .i32⟩ : BufTy).Contents (Elt F))),
   (StableHlo.ternary main_v44 main_v50 main_v43 main_v51 ((fun x i u => Host.scatter scatter_S5000_S5000x1_S5000_n_0_0_1 (fun _ b => b) x i u) : (⟨S5000, .f32⟩ : BufTy).Contents (Elt F) → (⟨S5000x1, .i32⟩ : BufTy).Contents (Elt F) → (⟨S5000, .f32⟩ : BufTy).Contents (Elt F) → (⟨S5000, .f32⟩ : BufTy).Contents (Elt F))),
   (StableHlo.unary main_v51 main_v52 (broadcastInDim S5000x1 ![0] bcast_S5000_S5000x1_0 : (⟨S5000, .f32⟩ : BufTy).Contents (Elt F) → (⟨S5000x1, .f32⟩ : BufTy).Contents (Elt F))),
   (StableHlo.unary main_v52 main_v53 (broadcastInDim S5000x4 ![0, 1] bcast_S5000x1_S5000x4_0_1 : (⟨S5000x1, .f32⟩ : BufTy).Contents (Elt F) → (⟨S5000x4, .f32⟩ : BufTy).Contents (Elt F))),
   (StableHlo.binary main_arg0 main_v53 main_v54 (mulf : (⟨S5000x4, .f32⟩ : BufTy).Contents (Elt F) → (⟨S5000x4, .f32⟩ : BufTy).Contents (Elt F) → (⟨S5000x4, .f32⟩ : BufTy).Contents (Elt F))),
   (StableHlo.binary main_arg2 main_v51 main_v55 (mulf : (⟨S5000, .f32⟩ : BufTy).Contents (Elt F) → (⟨S5000, .f32⟩ : BufTy).Contents (Elt F) → (⟨S5000, .f32⟩ : BufTy).Contents (Elt F))),
   (StableHlo.unary main_v55 main_v56 (broadcastInDim S5000x1 ![0] bcast_S5000_S5000x1_0 : (⟨S5000, .f32⟩ : BufTy).Contents (Elt F) → (⟨S5000x1, .f32⟩ : BufTy).Contents (Elt F))),
   (StableHlo.binary main_v54 main_v56 main_v57 ((fun a b => concatenate S5000x5 1 [⟨S5000x4, a⟩, ⟨S5000x1, b⟩] concatenates_S5000x4_S5000x1_S5000x5_d1) : (⟨S5000x4, .f32⟩ : BufTy).Contents (Elt F) → (⟨S5000x1, .f32⟩ : BufTy).Contents (Elt F) → (⟨S5000x5, .f32⟩ : BufTy).Contents (Elt F)))]

theorem main_eq (d : Dev nD) : main (F := F) d = StableHlo.seq opsA >>= fun _ => sc.run d 0 >>= fun _ => StableHlo.seq opsB >>= fun _ => pure ⟨⟩ := by
  simp only [main, main_part0, main_part1, fn_lexsort.body, fn_cumsum.body, fn_cumsum_0.body, opsA, opsB, StableHlo.seq, bind_assoc, pure_bind]

theorem opsA_sub : (opsA (F := F)).Forall fun op => op.bufs ⊆ StableHlo.tcRefs τ sig := by
  unfold opsA
  simp only [List.forall_cons, List.Forall, StableHlo.nullary_bufs_sub, StableHlo.unary_bufs_sub, StableHlo.binary_bufs_sub, StableHlo.ternary_bufs_sub, StableHlo.reshape_bufs_sub,
    StableHlo.TRef.nullary, StableHlo.TRef.unary, StableHlo.TRef.binary, StableHlo.TRef.ternary, and_self]

theorem opsB_sub : (opsB (F := F)).Forall fun op => op.bufs ⊆ StableHlo.tcRefs τ sig := by
  unfold opsB
  simp only [List.forall_cons, List.Forall, StableHlo.nullary_bufs_sub, StableHlo.unary_bufs_sub, StableHlo.binary_bufs_sub, StableHlo.ternary_bufs_sub, StableHlo.reshape_bufs_sub, and_self]

theorem opsA_fresh : (opsA (F := F)).Forall fun op => op.fresh = ∅ := StableHlo.forall_fresh_of_map rfl
theorem opsB_fresh : (opsB (F := F)).Forall fun op => op.fresh = ∅ := StableHlo.forall_fresh_of_map rfl

end Cert.Proof.Nms

end
-- ==== Proof.Values.lean ====
/-
  What the host's first line leaves in the arrays the call reads, as functions of the three arguments.
-/
module

public import proofs.«01_k».proof.Proof.Host
public import Idealize.ShloMosaic.Lib.StableHlo.Run

@[expose] public section

noncomputable section

namespace Cert.Proof.Nms

open Cert.KernelIdeal Cert.KernelIdeal.Gen

open Idealize.ShloMosaic
open Idealize.SL Idealize.SL.Sem

variable {F : FTy → Type} [FloatOps F]

/-- The class-major order of the boxes. -/
def ordV (lab : IVec S5000 32) (sc : FVec F S5000 .f32) : IVec S5000 32 :=
  (Host.sort3 S5000 0 comparator_i32_f32_i32_d0 lab (Host.negf sc) (iotaInDim S5000 32 0)).2.2

/-- A column of five thousand, made eight longer. -/
def padV (x : FVec F S5000 .f32) : FVec F S5008 .f32 :=
  Host.scatter scatter_S5008_S1_S5000_0_n_0_0 (fun _ b => b) (broadcastInDim S5008 ![] bcast_S_S5008 (constant S_ .f32 0x00000000#32))
    (broadcastInDim S1 ![] bcast_S_S1 (constantI S_ 32 0#32)) x

/-- The labels as the counting reads them: a negative one from the end. -/
def labV (lab : IVec S5000 32) : IVec S5000x1 32 :=
  broadcastInDim S5000x1 ![0] bcast_S5000_S5000x1_0
    (select (cmpi .slt lab (broadcastInDim S5000 ![] bcast_S_S5000 (constantI S_ 32 0#32)))
      (addi lab (broadcastInDim S5000 ![] bcast_S_S5000 (constantI S_ 32 8#32))) lab)

/-- How many boxes each class has, -/
def cntV (lab : IVec S5000 32) : IVec S8 32 :=
  Host.scatter scatter_S8_S5000x1_S5000_n_0_0_1 IntOp.addi (broadcastInDim S8 ![] bcast_S_S8 (constantI S_ 32 0#32)) (labV lab)
    (broadcastInDim S5000 ![] bcast_S_S5000 (constantI S_ 32 1#32))

/-- their running sums, -/
def sumV (c : IVec S8 32) : IVec S8 32 :=
  Host.reduceWindow IntOp.addi ![8] ![1] ![7] ![0] c (broadcastInDim S_ ![] bcast_S_S_ (constantI S_ 32 0#32)) reduceWindows_S8_S8_w8s1p7_0 h_S_

/-- and the table of starts and counts. -/
def metaV (c : IVec S8 32) : IVec S16 32 :=
  concatenate S16 0 [⟨S8, concatenate S8 0 [⟨S1, broadcastInDim S1 ![] bcast_S_S1 (constantI S_ 32 0#32)⟩,
      ⟨S7, extractStridedSlice S7 ![0] (sumV c) slices_S8_S7_0⟩] concatenates_S1_S7_S8_d0⟩, ⟨S8, c⟩] concatenates_S8_S8_S16_d0

/-- A column of the boxes. -/
def colV (k : Fin 2 → ℕ) (hk : S5000x4.Slices k S5000x1) (bx : FVec F S5000x4 .f32) : FVec F S5000 .f32 :=
  shapeCast S5000 (extractStridedSlice S5000x1 k bx hk) shapeCasts_S5000x1_S5000

set_option maxHeartbeats 4000000
set_option maxRecDepth 100000

variable (W : Valuation τ sig (Elt F))

theorem opsA_v1 : StableHlo.after opsA W (Proc.devRef .tc main_v1) = ordV (W (Proc.devRef .tc main_arg1)) (W (Proc.devRef .tc main_arg2)) := by
  unfold opsA; after_results_simp; rfl
theorem opsA_v20 : StableHlo.after opsA W (Proc.devRef .tc main_v20) = padV (sitofp .f32 (ordV (W (Proc.devRef .tc main_arg1)) (W (Proc.devRef .tc main_arg2)))) := by
  unfold opsA; after_results_simp; rfl
theorem cat16 (a a' b b' : IVec S8 32) (ha : a = a') (hb : b = b') : concatenate S16 0 [⟨S8, a⟩, ⟨S8, b⟩] concatenates_S8_S8_S16_d0
    = concatenate S16 0 [⟨S8, a'⟩, ⟨S8, b'⟩] concatenates_S8_S8_S16_d0 := by rw [ha, hb]

theorem cat8 (a a' : IVec S1 32) (b b' : IVec S7 32) (ha : a = a') (hb : b = b') : concatenate S8 0 [⟨S1, a⟩, ⟨S7, b⟩] concatenates_S1_S7_S8_d0
    = concatenate S8 0 [⟨S1, a'⟩, ⟨S7, b'⟩] concatenates_S1_S7_S8_d0 := by rw [ha, hb]

theorem cat5 (a a' : FVec F S5000x4 .f32) (b b' : FVec F S5000x1 .f32) (ha : a = a') (hb : b = b') :
    concatenate S5000x5 1 [⟨S5000x4, a⟩, ⟨S5000x1, b⟩] concatenates_S5000x4_S5000x1_S5000x5_d1
    = concatenate S5000x5 1 [⟨S5000x4, a'⟩, ⟨S5000x1, b'⟩] concatenates_S5000x4_S5000x1_S5000x5_d1 := by rw [ha, hb]

theorem opsA_v16 : StableHlo.after opsA W (Proc.devRef .tc main_v16) = sitofp .f32 (metaV (cntV (W (Proc.devRef .tc main_arg1)))) := by
  unfold opsA; after_results_simp
  refine congrArg (sitofp .f32) (cat16 _ _ _ _ ?_ ?_)
  · after_results_simp
    refine cat8 _ _ _ _ ?_ ?_
    · after_results_simp
    · after_results_simp
      simp only [StableHlo.TRef.ofBuf, StableHlo.TRef.toBuf, cast_cast, cast_eq, sumV, cntV, labV]
  · after_results_simp
    unfold cntV labV
    rfl
theorem opsA_v25 : StableHlo.after opsA W (Proc.devRef .tc main_v25) = padV (colV ![0, 0] slices_S5000x4_S5000x1_0_0 (W (Proc.devRef .tc main_arg0))) := by
  unfold opsA; after_results_simp; rfl
theorem opsA_v30 : StableHlo.after opsA W (Proc.devRef .tc main_v30) = padV (colV ![0, 1] slices_S5000x4_S5000x1_0_1 (W (Proc.devRef .tc main_arg0))) := by
  unfold opsA; after_results_simp; rfl
theorem opsA_v35 : StableHlo.after opsA W (Proc.devRef .tc main_v35) = padV (colV ![0, 2] slices_S5000x4_S5000x1_0_2 (W (Proc.devRef .tc main_arg0))) := by
  unfold opsA; after_results_simp; rfl
theorem opsA_v40 : StableHlo.after opsA W (Proc.devRef .tc main_v40) = padV (colV ![0, 3] slices_S5000x4_S5000x1_0_3 (W (Proc.devRef .tc main_arg0))) := by
  unfold opsA; after_results_simp; rfl
theorem opsA_arg0 : StableHlo.after opsA W (Proc.devRef .tc main_arg0) = (W (Proc.devRef .tc main_arg0)) := by
  unfold opsA; after_results_simp
theorem opsA_arg1 : StableHlo.after opsA W (Proc.devRef .tc main_arg1) = (W (Proc.devRef .tc main_arg1)) := by
  unfold opsA; after_results_simp
theorem opsA_arg2 : StableHlo.after opsA W (Proc.devRef .tc main_arg2) = (W (Proc.devRef .tc main_arg2)) := by
  unfold opsA; after_results_simp

/-- The result from the flags, the order, the boxes and the scores. -/
def outV (fl : FVec F S8x5008 .f32) (ord : IVec S5000 32) (bx : FVec F S5000x4 .f32) (sc : FVec F S5000 .f32) : FVec F S5000x5 .f32 :=
  let kept : FVec F S5000 .f32 := Host.scatter scatter_S5000_S5000x1_S5000_n_0_0_1 (fun _ b => b) (broadcastInDim S5000 ![] bcast_S_S5000 (constant S_ .f32 0x00000000#32))
    (broadcastInDim S5000x1 ![0] bcast_S5000_S5000x1_0
      (select (cmpi .slt ord (broadcastInDim S5000 ![] bcast_S_S5000 (constantI S_ 32 0#32)))
        (addi ord (broadcastInDim S5000 ![] bcast_S_S5000 (constantI S_ 32 5000#32))) ord))
    (extractStridedSlice S5000 ![0] (Host.reduceAdd fl (constant S_ .f32 0x00000000#32) reducesTo_S8x5008_S5008_d0 h_S_) slices_S5008_S5000_0)
  concatenate S5000x5 1 [⟨S5000x4, mulf bx (broadcastInDim S5000x4 ![0, 1] bcast_S5000x1_S5000x4_0_1 (broadcastInDim S5000x1 ![0] bcast_S5000_S5000x1_0 kept))⟩,
    ⟨S5000x1, broadcastInDim S5000x1 ![0] bcast_S5000_S5000x1_0 (mulf sc kept)⟩] concatenates_S5000x4_S5000x1_S5000x5_d1

theorem opsB_v57 : StableHlo.after opsB W (Proc.devRef .tc main_v57) = outV (W (Proc.devRef .tc main_v41) : FVec F S8x5008 .f32) (W (Proc.devRef .tc main_v1)) (W (Proc.devRef .tc main_arg0)) (W (Proc.devRef .tc main_arg2)) := by
  unfold opsB; after_results_simp
  refine cat5 _ _ _ _ ?_ ?_
  · after_results_simp
  · after_results_simp
theorem opsB_arg0 : StableHlo.after opsB W (Proc.devRef .tc main_arg0) = (W (Proc.devRef .tc main_arg0)) := by
  unfold opsB; after_results_simp
theorem opsB_arg1 : StableHlo.after opsB W (Proc.devRef .tc main_arg1) = (W (Proc.devRef .tc main_arg1)) := by
  unfold opsB; after_results_simp
theorem opsB_arg2 : StableHlo.after opsB W (Proc.devRef .tc main_arg2) = (W (Proc.devRef .tc main_arg2)) := by
  unfold opsB; after_results_simp

end Cert.Proof.Nms

end
-- ==== Proof.Model.lean ====
/-
  What a tile computes, as a function of what its tables hold: the state a class's greedy pass keeps (the row of keep
  flags, the five arrays of boxes kept so far, their count) and the step one trip of the pass takes, written over the
  printed payloads. The run of Tile.lean says the tile's buffers hold this; Greedy.lean says what it is.
-/
module

public import proofs.«01_k».proof.Proof.Setup

@[expose] public section

noncomputable section

namespace Cert.Proof.Nms

open Cert.KernelIdeal Cert.KernelIdeal.Gen
open Idealize.ShloMosaic

variable {F : FTy → Type} [FloatOps F]

/-! ## Reads and writes at indices, total -/

/-- A gather out of a table; where an index names no element, some vector. -/
def gat (f : Vec F S5008 .f32) (v : IVec S16 32) : Vec F S16 .f32 :=
  if h : ∀ a x, ((![v] : Fin 1 → IVec S16 32) a x).toNat < S5008.size a then loadIdx (s := S5008) f ![v] h else k0_pay28

/-- A masked scatter into an array; where an index names no element, the array. -/
def sto {s : Shape} (f : Vec F s .f32) (ix : Fin s.rank → IVec S16 32) (v : Vec F S16 .f32) (m : IVec S16 1) : Vec F s .f32 :=
  if h : ∀ a x, (ix a x).toNat < s.size a then storeIdx f ix v m false h else f

/-- Sixteen lanes of a kept array from `o` on. -/
def row (f : Vec F S5024 .f32) (o : ℕ) : Vec F S16 .f32 :=
  fun x => f fun a => ⟨(o + (x 0).val) % S5024.size a, Nat.mod_lt _ (by revert a; decide)⟩

theorem gat_eq (f : Vec F S5008 .f32) (v : IVec S16 32) (h : ∀ a x, ((![v] : Fin 1 → IVec S16 32) a x).toNat < S5008.size a) :
    gat f v = loadIdx (s := S5008) f ![v] h := dif_pos h

theorem sto_eq {s : Shape} (f : Vec F s .f32) (ix : Fin s.rank → IVec S16 32) (v : Vec F S16 .f32) (m : IVec S16 1)
    (h : ∀ a x, (ix a x).toNat < s.size a) : sto f ix v m = storeIdx f ix v m false h := dif_pos h

/-! ## The tables, the state, one trip -/

/-- What the tile's five tables hold: the box centres and extents by box, and the class-major order of the boxes. -/
structure Tab (F : FTy → Type) where
  yc : Vec F S5008 .f32
  xc : Vec F S5008 .f32
  h : Vec F S5008 .f32
  w : Vec F S5008 .f32
  ord : Vec F S5008 .f32

/-- The state of a pass: the keep flags, the boxes kept so far and their number. -/
structure St (F : FTy → Type) where
  keep : Vec F S5008 .f32
  y1 : Vec F S5024 .f32
  x1 : Vec F S5024 .f32
  y2 : Vec F S5024 .f32
  x2 : Vec F S5024 .f32
  ar : Vec F S5024 .f32
  n : BitVec 32

/-- One candidate's four table entries, each over sixteen lanes. -/
structure Ent (F : FTy → Type) where
  yc : Vec F S16 .f32
  xc : Vec F S16 .f32
  h : Vec F S16 .f32
  w : Vec F S16 .f32

/-- The entries of the box that stands at place `v` of the order. -/
def ent (T : Tab F) (v : IVec S16 32) : Ent F where
  yc := gat T.yc (fptosi (φ := .f32) 32 (gat T.ord v))
  xc := gat T.xc (fptosi (φ := .f32) 32 (gat T.ord v))
  h := gat T.h (fptosi (φ := .f32) 32 (gat T.ord v))
  w := gat T.w (fptosi (φ := .f32) 32 (gat T.ord v))

/-- A candidate's corners and area over sixteen lanes. -/
structure Box (F : FTy → Type) where
  y1 : Vec F S16 .f32
  x1 : Vec F S16 .f32
  y2 : Vec F S16 .f32
  x2 : Vec F S16 .f32
  ar : Vec F S16 .f32

/-- The first candidate's corners, -/
def boxA (a : Ent F) : Box F :=
  ⟨k0_pay18 a.yc a.h, k0_pay19 a.xc a.w, k0_pay20 a.yc a.h, k0_pay21 a.xc a.w, k0_pay22 a.h a.w⟩

/-- and the second's. -/
def boxB (b : Ent F) : Box F :=
  ⟨k0_pay25 b.yc b.h, k0_pay26 b.xc b.w, k0_pay27 b.yc b.h, k0_pay29 b.xc (k0_pay24 b.w) k0_pay28,
    k0_pay30 (k0_pay23 b.h) (k0_pay24 b.w)⟩

/-- One chunk of the sweep over the kept boxes: thirty-two of them against both candidates. -/
def chunk (a b : Ent F) (s : St F) (c : ℕ) (r : FVec F S16 .f32 × FVec F S16 .f32) : FVec F S16 .f32 × FVec F S16 .f32 :=
  let o := 32 * c
  let v305 := k0_pay1 (boxA a).y1 (boxA a).x1 (boxA a).y2 (boxA a).x2 (boxA a).ar r.1 (row s.y1 o) (row s.x1 o) (row s.y2 o) (row s.x2 o) (row s.ar o)
  let v321 := k0_pay2 (boxB b).y1 (boxB b).x1 (boxB b).y2 (boxB b).x2 (boxB b).ar (row s.y1 o) (row s.x1 o) (row s.y2 o) (row s.x2 o) (row s.ar o)
  let q := 32 * c + 16
  (k0_pay4 (boxA a).y1 (boxA a).x1 (boxA a).y2 (boxA a).x2 (boxA a).ar v305 (row s.y1 q) (row s.x1 q) (row s.y2 q) (row s.x2 q) (row s.ar q),
    k0_pay32 (k0_pay23 b.h) (k0_pay24 b.w) (k0_pay3 r.2 v321) (row s.ar q) (k0_pay5 (boxB b).y1 (boxB b).y2 (row s.y1 q) (row s.y2 q))
      (k0_pay6 (boxB b).x1 (boxB b).x2 (row s.x1 q) (row s.x2 q)) k0_pay7)

/-- The sweep's first `k` chunks. -/
def chunks (a b : Ent F) (s : St F) : ℕ → FVec F S16 .f32 × FVec F S16 .f32
  | 0 => (k0_pay31, k0_pay31)
  | k + 1 => chunk a b s k (chunks a b s k)

/-- Whether the kept boxes strike the first candidate out, -/
def supA (v5 : IVec S16 32) (r : FVec F S16 .f32 × FVec F S16 .f32) : BitVec 1 :=
  Scalar.cmpf .ogt (k0_pay36 v5 (k0_pay34 v5 r.1) (k0_pay35 v5) 0#32) (Scalar.ofBits .f32 0x3F000000#32)

/-- whether the first candidate would strike the second out, -/
def hitAB (a b : Ent F) : BitVec 1 :=
  Scalar.cmpf .ogt (k0_pay39 (k0_pay37 (boxA a).y1 (boxA a).x1 (boxA a).y2 (boxA a).x2 (boxB b).y1 (boxB b).x1 (boxB b).y2 (boxB b).x2)
    (k0_pay38 (boxA a).y1 (boxA a).x1 (boxA a).y2 (boxA a).x2 (boxA a).ar (boxB b).y1 (boxB b).x1 (boxB b).y2 (boxB b).x2 (boxB b).ar)
    (Scalar.ofBits .f32 0x3089705F#32)) (Scalar.ofBits .f32 0x3F000000#32)

/-- and whether the kept boxes strike the second out. -/
def supB (v5 : IVec S16 32) (r : FVec F S16 .f32 × FVec F S16 .f32) : BitVec 1 :=
  Scalar.cmpf .ogt (k0_pay44 v5 (k0_pay40 v5 r.2) (k0_pay41 v5) (k0_pay42 v5 r.2) (k0_pay43 v5 r.2)) (Scalar.ofBits .f32 0x3F000000#32)

/-- The first candidate's place of the order, at trip `p` of the pass of a class that starts at `start`. -/
def placeA (start : BitVec 32) (p : ℕ) : IVec S16 32 :=
  broadcast S16 (Scalar.addi start (Scalar.muli 2#32 (Scf.iv 0#32 1#32 p)))

/-- One trip: two candidates, the places `start + 2 p` and the next, against the kept boxes. -/
def trip (T : Tab F) (v5 : IVec S16 32) (v23 : IVec S16 1) (start cnt : BitVec 32) (p : ℕ) (s : St F) : St F :=
  let v51 := placeA start p
  let v53 := k0_pay15 v51
  let a := ent T v51
  let b := ent T v53
  let r := chunks a b s (k0_t4_loop s.n).trips
  let v172 := supA v5 r
  let v173 := Scalar.xori v172 1#1
  let v197 := hitAB a b
  let v200 := Scalar.cmpi .slt (Scalar.addi (Scalar.muli 2#32 (Scf.iv 0#32 1#32 p)) 1#32) cnt
  let v251 := supB v5 r
  let v255 := Scalar.andi (Scalar.xori (Scalar.ori v251 (Scalar.andi v173 v197)) 1#1) v200
  let v267 := broadcast S16 s.n
  let v269 := k0_pay50 v173 v267
  let mA := k0_pay48 v23 v173
  let mB := k0_pay49 v5 v23 v173 v197 v200 (k0_pay40 v5 r.2) (k0_pay41 v5) (k0_pay42 v5 r.2) (k0_pay43 v5 r.2)
  { keep := sto (s := S5008) (sto (s := S5008) s.keep ![v51] (k0_pay45 v172) v23) ![v53]
      (k0_pay46 v5 v173 v197 (k0_pay40 v5 r.2) (k0_pay41 v5) (k0_pay42 v5 r.2) (k0_pay43 v5 r.2)) (k0_pay47 v23 v200)
    y1 := sto (s := S5024) (sto (s := S5024) s.y1 ![v267] (boxA a).y1 mA) ![v269] (boxB b).y1 mB
    x1 := sto (s := S5024) (sto (s := S5024) s.x1 ![v267] (boxA a).x1 mA) ![v269] (boxB b).x1 mB
    y2 := sto (s := S5024) (sto (s := S5024) s.y2 ![v267] (boxA a).y2 mA) ![v269] (boxB b).y2 mB
    x2 := sto (s := S5024) (sto (s := S5024) s.x2 ![v267] (boxA a).x2 mA) ![v269] (boxB b).x2 mB
    ar := sto (s := S5024) (sto (s := S5024) s.ar ![v267] (boxA a).ar mA) ![v269] (boxB b).ar mB
    n := Scalar.addi (Scalar.addi s.n (Scalar.select v173 1#32 0#32)) (Scalar.select v255 1#32 0#32) }

/-- The state a pass begins with: no flag set, and every kept slot a box that overlaps nothing. -/
def st0 : St F where
  keep := fun _ => Scalar.ofBits .f32 0x00000000#32
  y1 := fun _ => Scalar.ofBits .f32 0x72177617#32
  x1 := fun _ => Scalar.ofBits .f32 0x72177617#32
  y2 := fun _ => Scalar.ofBits .f32 0xF2177617#32
  x2 := fun _ => Scalar.ofBits .f32 0xF2177617#32
  ar := fun _ => Scalar.ofBits .f32 0x00000000#32
  n := 0#32

/-- The lane numbers, and the mask of lane zero. -/
def lanes : IVec S16 32 := iota .scVector S16 32 [0] iota_S16_d0_w32_scVector

/-- The state after `p` trips. -/
def st (T : Tab F) (start cnt : BitVec 32) : ℕ → St F
  | 0 => st0
  | p + 1 => trip T lanes k0_pay108 start cnt p (st T start cnt p)

/-- The words a tile reads its class's start and count from. -/
def classOf (L : grid0.Coords) : IVec S16 32 := broadcast S16 (BitVec.ofNat 32 (L 1).val)

/-- A gather out of the table of starts and counts. -/
def gat16 (f : Vec F S16 .f32) (v : IVec S16 32) : Vec F S16 .f32 :=
  if h : ∀ a x, ((![v] : Fin 1 → IVec S16 32) a x).toNat < S16.size a then loadIdx (s := S16) f ![v] h else k0_pay28

theorem gat16_eq (f : Vec F S16 .f32) (v : IVec S16 32) (h : ∀ a x, ((![v] : Fin 1 → IVec S16 32) a x).toNat < S16.size a) :
    gat16 f v = loadIdx (s := S16) f ![v] h := dif_pos h

/-- Where the tile's class starts in the order, -/
def startOf (meta16 : Vec F S16 .f32) (L : grid0.Coords) : BitVec 32 :=
  extractAt ![0] (k0_pay101 (gat16 meta16 (classOf L))) inpos_S1_p0

/-- and how many boxes it has. -/
def cntOf (meta16 : Vec F S16 .f32) (L : grid0.Coords) : BitVec 32 :=
  extractAt ![0] (k0_pay103 (gat16 meta16 (k0_pay102 (classOf L)))) inpos_S1_p0

/-- The keep flags a tile ends with. -/
def flags (T : Tab F) (meta16 : Vec F S16 .f32) (L : grid0.Coords) : Vec F S5008 .f32 :=
  (st T (startOf meta16 L) (cntOf meta16 L) (k0_t3_loop (cntOf meta16 L)).trips).keep

end Cert.Proof.Nms

end
-- ==== Proof.Ranges.lean ====
/-
  The words of the tile's loops and indices: how many trips the pass takes for a class of `n` boxes, how many chunks a
  sweep over `k` kept boxes takes, and that every index the body names is in range when the class's segment lies inside
  the order.
-/
module

public import proofs.«01_k».proof.Proof.Model

@[expose] public section

noncomputable section

namespace Cert.Proof.Nms

open Cert.KernelIdeal Cert.KernelIdeal.Gen
open Idealize.ShloMosaic Idealize.ShloMosaic.Affine

/-! ## Words that are small naturals -/

theorem isInt_of_toNat {x : BitVec 32} {n : ℕ} (h : x.toNat = n) (hn : n < 2 ^ 31) : IsInt x (n : ℤ) := by
  have : x = BitVec.ofNat 32 n := by rw [← h]; exact (BitVec.ofNat_toNat 32 x ▸ by simp)
  rw [this]; exact Affine.ofNat n ⟨rfl, hn⟩

/-- The sign of a positive word less the sign of a positive literal. -/
theorem fdiv_int {x k : BitVec 32} {ex ek : ℤ} (hx : IsInt x ex) (hk : IsInt k ek) (hex : 0 < ex) (hex' : ex < 2 ^ 31) (hek : 0 < ek) :
    IsInt (Scalar.select
      (Scalar.andi
        (Scalar.cmpi .ne (Scalar.subi (Scalar.extui (Scalar.cmpi .sgt x 0#32)) (Scalar.extui (Scalar.cmpi .slt x 0#32)))
          (Scalar.subi (Scalar.extui (Scalar.cmpi .sgt k 0#32)) (Scalar.extui (Scalar.cmpi .slt k 0#32))))
        (Scalar.cmpi .ne (Scalar.remsi x k) 0#32))
      (Scalar.subi (Scalar.divsi x k) 1#32) (Scalar.divsi x k)) (ex / ek) := by
  have h0 : IsInt 0#32 0 := Affine.ofNat _ (by omega)
  have h1 : IsInt 1#32 1 := Affine.ofNat _ (by omega)
  have hx1 := extui_holds (e := 1) (sgt_holds hx h0 (by omega)) rfl
  have hx2 := extui_fails (e := 0) (slt_fails hx h0 (by omega)) rfl
  have hk1 := extui_holds (e := 1) (sgt_holds hk h0 (by omega)) rfl
  have hk2 := extui_fails (e := 0) (slt_fails hk h0 (by omega)) rfl
  have hsx : IsInt _ 1 := subi hx1 hx2 (by omega)
  have hsk : IsInt _ 1 := subi hk1 hk2 (by omega)
  have hd : IsInt _ (ex / ek) := divsi hx hk ⟨rfl, by omega, hek⟩
  have hd0 : 0 ≤ ex / ek := Int.ediv_nonneg (by omega) (by omega)
  have hd1 : ex / ek ≤ ex := Int.ediv_le_self _ (by omega)
  have hm : IsInt _ (ex / ek - 1) := subi hd h1 ⟨rfl, by omega, by omega⟩
  exact select_fails (andi_fails_left (ne_fails hsx hsk rfl) trivial) hm hd rfl

theorem steps_int {x : BitVec 32} {ex : ℤ} (hx : IsInt x ex) (h0 : 0 ≤ ex) (h1 : ex < 2 ^ 31) :
    IsInt (Scalar.addi 0#32 (Scalar.muli (Scalar.divsi (Scalar.subi x 0#32) 1#32) 1#32)) ex := by
  have hz : IsInt 0#32 0 := Affine.ofNat _ (by omega)
  have ho : IsInt 1#32 1 := Affine.ofNat _ (by omega)
  have hs : IsInt _ ex := subi hx hz ⟨by omega, by omega, by omega⟩
  have hd : IsInt _ ex := divsi_one hs ho ⟨rfl, rfl⟩
  have hm : IsInt _ ex := muli hd ho ⟨by omega, by omega, by omega⟩
  exact addi hz hm ⟨by omega, by omega, by omega⟩

/-! ## The loops -/

theorem t3_ub {c : BitVec 32} {n : ℕ} (hc : c.toNat = n) (hn : n ≤ 5000) : IsInt (k0_t3_loop c).ub (((n + 1) / 2 : ℕ) : ℤ) := by
  have h1 : IsInt 1#32 1 := Affine.ofNat _ (by omega)
  have h2 : IsInt 2#32 2 := Affine.ofNat _ (by omega)
  have ha : IsInt (Scalar.addi c 1#32) ((n : ℤ) + 1) := addi (isInt_of_toNat hc (by omega)) h1 ⟨rfl, by omega, by omega⟩
  have hf := fdiv_int ha h2 (by omega) (by omega) (by omega)
  exact relit (steps_int hf (by omega) (by omega)) (by omega)

theorem t3_trips {c : BitVec 32} {n : ℕ} (hc : c.toNat = n) (hn : n ≤ 5000) : (k0_t3_loop c).trips = (n + 1) / 2 :=
  trips_eq (Affine.ofNat (e := 0) 0 (by omega)) (t3_ub hc hn) (Affine.ofNat (e := 1) 1 (by omega)) _ (by omega)

theorem t3_ok {c : BitVec 32} {n : ℕ} (hc : c.toNat = n) (hn : n ≤ 5000) : (k0_t3_loop c).OK :=
  Affine.ok (Affine.ofNat (e := 0) 0 (by omega)) (t3_ub hc hn) (Affine.ofNat (e := 1) 1 (by omega)) (by omega)

theorem t4_ub {c : BitVec 32} {n : ℕ} (hc : c.toNat = n) (hn : n ≤ 5000) : IsInt (k0_t4_loop c).ub (((n + 31) / 32 : ℕ) : ℤ) := by
  have h1 : IsInt 31#32 31 := Affine.ofNat _ (by omega)
  have h2 : IsInt 32#32 32 := Affine.ofNat _ (by omega)
  have ha : IsInt (Scalar.addi c 31#32) ((n : ℤ) + 31) := addi (isInt_of_toNat hc (by omega)) h1 ⟨rfl, by omega, by omega⟩
  have hf := fdiv_int ha h2 (by omega) (by omega) (by omega)
  exact relit (steps_int hf (by omega) (by omega)) (by omega)

theorem t4_trips {c : BitVec 32} {n : ℕ} (hc : c.toNat = n) (hn : n ≤ 5000) : (k0_t4_loop c).trips = (n + 31) / 32 :=
  trips_eq (Affine.ofNat (e := 0) 0 (by omega)) (t4_ub hc hn) (Affine.ofNat (e := 1) 1 (by omega)) _ (by omega)

theorem t4_ok {c : BitVec 32} {n : ℕ} (hc : c.toNat = n) (hn : n ≤ 5000) : (k0_t4_loop c).OK :=
  Affine.ok (Affine.ofNat (e := 0) 0 (by omega)) (t4_ub hc hn) (Affine.ofNat (e := 1) 1 (by omega)) (by omega)

theorem iv_int {k n : ℕ} (hk : k = n) (hn : n ≤ 5000) : IsInt (Scf.iv 0#32 1#32 k) (n : ℤ) :=
  hk ▸ iv (Affine.ofNat (e := 0) 0 (by omega)) (Affine.ofNat (e := 1) 1 (by omega)) k (by omega)

theorem off3_eq {c : BitVec 32} {n : ℕ} (hc : c.toNat = n) (hn : n ≤ 5000) (t : Fin (k0_t4_loop c).trips) : k0_off3 c t = ![32 * t.val] := by
  have ht : t.val < (n + 31) / 32 := t4_trips hc hn ▸ t.isLt
  have hm : IsInt _ ((t.val : ℤ) * 32) := muli (iv_int (k := t.val) rfl (by omega)) (Affine.ofNat (e := 32) 32 (by omega)) ⟨rfl, by omega, by omega⟩
  exact Affine.vec_cons (Affine.indexCast hm) (by push_cast; omega) <| Affine.vec_nil

theorem off4_eq {c : BitVec 32} {n : ℕ} (hc : c.toNat = n) (hn : n ≤ 5000) (t : Fin (k0_t4_loop c).trips) : k0_off4 c t = ![32 * t.val + 16] := by
  have ht : t.val < (n + 31) / 32 := t4_trips hc hn ▸ t.isLt
  have hm : IsInt _ ((t.val : ℤ) * 32) := muli (iv_int (k := t.val) rfl (by omega)) (Affine.ofNat (e := 32) 32 (by omega)) ⟨rfl, by omega, by omega⟩
  have ha : IsInt _ ((t.val : ℤ) * 32 + 16) := addi hm (Affine.ofNat (e := 16) 16 (by omega)) ⟨rfl, by omega, by omega⟩
  exact Affine.vec_cons (Affine.indexCast ha) (by push_cast; omega) <| Affine.vec_nil

/-! ## The side conditions -/

theorem chk3 (L : grid0.Coords) {c : BitVec 32} {n : ℕ} (hc : c.toNat = n) (hn : n ≤ 5000) : k0_chk3 L c :=
  ⟨fun _ => t3_ok hc hn, fun _ => Scf.rem_ok _ _⟩

theorem chk8 (L : grid0.Coords) {c : BitVec 32} {n : ℕ} (hc : c.toNat = n) (hn : n ≤ 5000) : k0_chk8 L c := by
  refine ⟨fun _ => t4_ok hc (by omega), fun t _ a => ?_, fun t _ a => ?_, fun _ => Scf.rem_ok _ _, fun t _ _ => (Scf.rem_no_trip _ _ t).elim,
    fun t _ _ => (Scf.rem_no_trip _ _ t).elim⟩
  · have ht : t.val < (n + 31) / 32 := t4_trips hc (by omega) ▸ t.isLt
    rw [off3_eq hc (by omega)]
    fin_cases a; show 32 * t.val + 16 ≤ 5024; omega
  · have ht : t.val < (n + 31) / 32 := t4_trips hc (by omega) ▸ t.isLt
    rw [off4_eq hc (by omega)]
    fin_cases a; show 32 * t.val + 16 + 16 ≤ 5024; omega

/-- An index vector all of whose words are below `n` names elements of a shape of that length. -/
theorem inb5008 {v : IVec S16 32} (h : ∀ x, (v x).toNat < 5008) : ∀ a x, ((![v] : Fin 1 → IVec S16 32) a x).toNat < S5008.size a := by
  intro a x; fin_cases a; exact h x
theorem inb5024 {v : IVec S16 32} (h : ∀ x, (v x).toNat < 5024) : ∀ a x, ((![v] : Fin 1 → IVec S16 32) a x).toNat < S5024.size a := by
  intro a x; fin_cases a; exact h x
theorem inb16 {v : IVec S16 32} (h : ∀ x, (v x).toNat < 16) : ∀ a x, ((![v] : Fin 1 → IVec S16 32) a x).toNat < S16.size a := by
  intro a x; fin_cases a; exact h x

theorem placeA_int {start : BitVec 32} {b p : ℕ} (hs : start.toNat = b) (hb : b ≤ 5000) (hp : p ≤ 2500) (x : S16.Idx) :
    IsInt (placeA start p x) ((b + 2 * p : ℕ) : ℤ) := by
  have hm : IsInt _ (2 * (p : ℤ)) := muli (Affine.ofNat (e := 2) 2 (by omega)) (iv_int (k := p) rfl (by omega)) ⟨rfl, by omega, by omega⟩
  exact addi (isInt_of_toNat hs (by omega)) hm (by push_cast; omega)

theorem placeA_toNat {start : BitVec 32} {b p : ℕ} (hs : start.toNat = b) (hb : b ≤ 5000) (hp : p ≤ 2500) (x : S16.Idx) :
    (placeA start p x).toNat = b + 2 * p := nat_eq (placeA_int hs hb hp x) _ rfl

theorem placeB_toNat {start : BitVec 32} {b p : ℕ} (hs : start.toNat = b) (hb : b ≤ 5000) (hp : p ≤ 2500) (x : S16.Idx) :
    (k0_pay15 (placeA start p) x).toNat = b + 2 * p + 1 := by
  have ha := placeA_int hs hb hp x
  have : IsInt (k0_pay15 (placeA start p) x) ((b + 2 * p + 1 : ℕ) : ℤ) :=
    addi ha (Affine.ofNat (e := 1) 1 (by omega)) (by push_cast; omega)
  exact nat_eq this _ rfl

theorem pay50_toNat (v173 : BitVec 1) {c : BitVec 32} {n : ℕ} (hc : c.toNat = n) (hn : n ≤ 5000) (x : S16.Idx) :
    (k0_pay50 v173 (broadcast S16 c) x).toNat = n + v173.toNat := by
  have hv : v173 = 0#1 ∨ v173 = 1#1 := by revert v173; decide
  rcases hv with rfl | rfl
  · have : IsInt (k0_pay50 0#1 (broadcast S16 c) x) ((n + 0 : ℕ) : ℤ) :=
      addi (isInt_of_toNat hc (by omega)) (Affine.ofNat (e := 0) 0 (by omega)) (by push_cast; omega)
    exact nat_eq this _ rfl
  · have : IsInt (k0_pay50 1#1 (broadcast S16 c) x) ((n + 1 : ℕ) : ℤ) :=
      addi (isInt_of_toNat hc (by omega)) (Affine.ofNat (e := 1) 1 (by omega)) (by push_cast; omega)
    exact nat_eq this _ rfl

end Cert.Proof.Nms

end
-- ==== Proof.Ops.lean ====
/-
  One step each: a gather, a masked scatter, a read of sixteen lanes, at the tile's own buffers; and the printed pieces at those buffers.
-/
module

public import proofs.«01_k».proof.Proof.Ranges

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The printed pieces at the buffers the body table passes them -/

abbrev part1 (L : grid0.Coords) := k0_part1_skel (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev part2 (L : grid0.Coords) := k0_part2_skel (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev part5 (L : grid0.Coords) := k0_part5_skel (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev part6 (L : grid0.Coords) := k0_part6_skel (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev part9 (L : grid0.Coords) := k0_part9_skel (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev part19 (L : grid0.Coords) := k0_part19_skel (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev t1Body (L : grid0.Coords) := k0_t1_body (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev t2Body (L : grid0.Coords) := k0_t2_body (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev t3Body (L : grid0.Coords) := k0_t3_body (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev t4Body (L : grid0.Coords) := k0_t4_body (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6
abbrev body (L : grid0.Coords) := cc0__sc_nms_body_skel (F := F) L (Memref.whole main_v25_scv) (Memref.isWhole_whole _) (Memref.whole main_v30_scv) (Memref.isWhole_whole _) (Memref.whole main_v35_scv) (Memref.isWhole_whole _) (Memref.whole main_v40_scv) (Memref.isWhole_whole _) (Memref.whole main_v20_scv) (Memref.isWhole_whole _) (Memref.whole main_v16_scv) (Memref.isWhole_whole _) (Memref.whole main_v41_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scoped0 cc0_scoped1 cc0_scoped2 cc0_scoped3 cc0_scoped4 cc0_scoped5 cc0_scoped6

/-! ## What the tile holds -/

/-- The five tables, in the tile's memory. -/
abbrev tabs (d : Dev nD) (L : grid0.Coords) (T : Tab F) : sProp 𝕄 :=
  iprop(((thr d L).loc cc0_scratch0 ↦{fullShare} T.yc) ∗ ((thr d L).loc cc0_scratch1 ↦{fullShare} T.xc)
    ∗ ((thr d L).loc cc0_scratch2 ↦{fullShare} T.h) ∗ ((thr d L).loc cc0_scratch3 ↦{fullShare} T.w)
    ∗ ((thr d L).loc cc0_scratch4 ↦{fullShare} T.ord))

/-- The arrays of kept boxes. -/
abbrev kept (d : Dev nD) (L : grid0.Coords) (s : St F) : sProp 𝕄 :=
  iprop(((thr d L).loc cc0_scratch6 ↦{fullShare} s.y1) ∗ ((thr d L).loc cc0_scratch7 ↦{fullShare} s.x1)
    ∗ ((thr d L).loc cc0_scratch8 ↦{fullShare} s.y2) ∗ ((thr d L).loc cc0_scratch9 ↦{fullShare} s.x2)
    ∗ ((thr d L).loc cc0_scratch10 ↦{fullShare} s.ar))

/-- The keep flags. -/
abbrev keepB (d : Dev nD) (L : grid0.Coords) (s : St F) : sProp 𝕄 := iprop((thr d L).loc cc0_scratch11 ↦{fullShare} s.keep)

/-! ## One gather out of each table, one scatter into each array, one read of a kept array -/

/-- A side condition that holds is passed. -/
theorem asm (d : Dev nD) (L : grid0.Coords) {α : Type} {P : Prop} {dP : Decidable P} (h : P)
    {k : PLift P → Prog (TpuEff nD τ sig (Elt F) Λ₀ (.scVector (cV L) (jV L))) α} {Q : α → sProp 𝕄} :
    wp (M := 𝕄) frame (wpE (defs₀ (F := F)) 𝒱₀ (thr d L) none) Set.univ (k ⟨h⟩) Q
      ⊢ wp (M := 𝕄) frame (wpE (defs₀ (F := F)) 𝒱₀ (thr d L) none) Set.univ (Prog.lift (.assume P dP) >>= k) Q :=
  wp_assume 𝒱₀ (thr d L) none Set.univ h

set_option maxHeartbeats 1000000 in
/-- A masked scatter into a whole buffer of the tile's memory. -/
theorem st_gen (d : Dev nD) (L : grid0.Coords) {α : Type} (n : Fin (sig.nNear .scVector .vmem)) (hn : sig.names .scVector .vmem n = true)
    (ix : Fin (Ref.mk (sig := sig) (κ := .scVector) .vmem n hn).ty.shape.rank → IVec S16 32) (w : Vec F S16 (Ref.mk (sig := sig) (κ := .scVector) .vmem n hn).ty.elt)
    (mk : IVec S16 1) (h : ∀ a x, (ix a x).toNat < (Ref.mk (sig := sig) (κ := .scVector) .vmem n hn).ty.shape.size a)
    (hs : ((Memref.whole (Ref.mk (sig := sig) (κ := .scVector) .vmem n hn)).access (.whole _)).Stores Finset.univ)
    (k : PUnit → Prog (TpuEff nD τ sig (Elt F) Λ₀ (.scVector (cV L) (jV L))) α)
    (f g : Vec F (Ref.mk (sig := sig) (κ := .scVector) .vmem n hn).ty.shape (Ref.mk (sig := sig) (κ := .scVector) .vmem n hn).ty.elt)
    (hg : storeIdx f ix w mk false h = g) (Q : α → sProp 𝕄) :
    (iprop((thr d L).loc (Ref.mk (sig := sig) (κ := .scVector) .vmem n hn) ↦{fullShare} f) : sProp 𝕄)
      ⊢ iprop((((thr d L).loc (Ref.mk (sig := sig) (κ := .scVector) .vmem n hn) ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (SparseCore.vectorStoreIdx (Memref.whole (Ref.mk (sig := sig) (κ := .scVector) .vmem n hn)) ix w mk false h hs >>= k) Q) := by
  subst hg
  have hw := SparseCore.wp_vectorStoreIdx (U := UU) (Ix := HIx 1) (Name := ℕ) (Lvl := ℕ) (defs := defs₀ (F := F)) 𝒱₀ (thr d L) none Set.univ
    (base := Memref.whole (Ref.mk (sig := sig) (κ := .scVector) .vmem n hn)) (idxs := ix) (v := w) (mask := mk) (add := false) (h := h) (hs := hs)
    (k := k) (f := f) (Q := Q)
  rw [Memref.set_access_whole, Memref.write_access_whole_univ, Memref.read_access_whole] at hw
  exact hw

set_option maxHeartbeats 1000000 in
/-- A gather out of a whole buffer of the tile's memory. -/
theorem ld_gen (d : Dev nD) (L : grid0.Coords) {α : Type} (n : Fin (sig.nNear .scVector .vmem)) (hn : sig.names .scVector .vmem n = true)
    (ix : Fin (Ref.mk (sig := sig) (κ := .scVector) .vmem n hn).ty.shape.rank → IVec S16 32)
    (h : ∀ a x, (ix a x).toNat < (Ref.mk (sig := sig) (κ := .scVector) .vmem n hn).ty.shape.size a)
    (hl : (Memref.whole (Ref.mk (sig := sig) (κ := .scVector) .vmem n hn)).view.Loads)
    (k : Vec F S16 (Ref.mk (sig := sig) (κ := .scVector) .vmem n hn).ty.elt → Prog (TpuEff nD τ sig (Elt F) Λ₀ (.scVector (cV L) (jV L))) α)
    (f : Vec F (Ref.mk (sig := sig) (κ := .scVector) .vmem n hn).ty.shape (Ref.mk (sig := sig) (κ := .scVector) .vmem n hn).ty.elt)
    (g : Vec F S16 (Ref.mk (sig := sig) (κ := .scVector) .vmem n hn).ty.elt) (hg : loadIdx f ix h = g) (Q : α → sProp 𝕄) :
    (iprop((thr d L).loc (Ref.mk (sig := sig) (κ := .scVector) .vmem n hn) ↦{fullShare} f) : sProp 𝕄)
      ⊢ iprop((((thr d L).loc (Ref.mk (sig := sig) (κ := .scVector) .vmem n hn) ↦{fullShare} f)
          -∗ wp (M := 𝕄) frame (wpE (defs₀ (F := F)) 𝒱₀ (thr d L) none) Set.univ (k g) Q)
        -∗ wp (M := 𝕄) frame (wpE (defs₀ (F := F)) 𝒱₀ (thr d L) none) Set.univ
          (SparseCore.vectorLoadIdx (Memref.whole (Ref.mk (sig := sig) (κ := .scVector) .vmem n hn)) ix h hl >>= k) Q) := by
  subst hg
  have hw := SparseCore.wp_vectorLoadIdx (U := UU) (Ix := HIx 1) (Name := ℕ) (Lvl := ℕ) (defs := defs₀ (F := F)) 𝒱₀ (thr d L) none Set.univ
    (base := Memref.whole (Ref.mk (sig := sig) (κ := .scVector) .vmem n hn)) (idxs := ix) (h := h) (hl := hl)
    (S := Finset.univ) (q := fullShare) (k := k) (f := f) (Q := Q) (Finset.subset_univ _)
  rw [Memref.read_access_whole] at hw
  exact hw

/-- A read of a rectangle of a whole buffer of the tile's memory. -/
theorem lr_gen (d : Dev nD) (L : grid0.Coords) {α : Type} (n : Fin (sig.nNear .scVector .vmem)) (hn : sig.names .scVector .vmem n = true)
    (r : Rect (Ref.mk (sig := sig) (κ := .scVector) .vmem n hn).ty.shape)
    (hl : (Memref.whole (Ref.mk (sig := sig) (κ := .scVector) .vmem n hn)).view.LoadsAt r.toLoadRect)
    (k : Vec F r.shape (Ref.mk (sig := sig) (κ := .scVector) .vmem n hn).ty.elt → Prog (TpuEff nD τ sig (Elt F) Λ₀ (.scVector (cV L) (jV L))) α)
    (f : Vec F (Ref.mk (sig := sig) (κ := .scVector) .vmem n hn).ty.shape (Ref.mk (sig := sig) (κ := .scVector) .vmem n hn).ty.elt)
    (g : Vec F r.shape (Ref.mk (sig := sig) (κ := .scVector) .vmem n hn).ty.elt) (hg : (fun x => f (r.emb x)) = g) (Q : α → sProp 𝕄) :
    (iprop((thr d L).loc (Ref.mk (sig := sig) (κ := .scVector) .vmem n hn) ↦{fullShare} f) : sProp 𝕄)
      ⊢ iprop((((thr d L).loc (Ref.mk (sig := sig) (κ := .scVector) .vmem n hn) ↦{fullShare} f)
          -∗ wp (M := 𝕄) frame (wpE (defs₀ (F := F)) 𝒱₀ (thr d L) none) Set.univ (k g) Q)
        -∗ wp (M := 𝕄) frame (wpE (defs₀ (F := F)) 𝒱₀ (thr d L) none) Set.univ
          (Prog.lift (.load (Memref.whole (Ref.mk (sig := sig) (κ := .scVector) .vmem n hn)) r.toLoadRect hl) >>= k) Q) := by
  subst hg
  exact wp_load_rect 𝒱₀ (thr d L) none Set.univ (m := Memref.whole (Ref.mk (sig := sig) (κ := .scVector) .vmem n hn))
    (r := r) (S := Finset.univ) (q := fullShare) (Finset.subset_univ _)

theorem row_eq (f : Vec F S5024 .f32) {off : Fin S5024.rank → ℕ} {o : ℕ} (ho : off = ![o]) (ho' : o + 16 ≤ 5024)
    (inb : ∀ a, off a + S16.size a ≤ S5024.size a) : (fun x => f ((Rect.unit (s := S5024) off S16.size inb).emb x)) = row f o := by
  subst ho
  funext x
  refine congrArg f (funext fun a => Fin.ext ?_)
  fin_cases a
  have hx : (x 0).val < 16 := (x 0).isLt
  show o + 1 * (x 0).val = (o + (x 0).val) % 5024
  omega

theorem ld0 (d : Dev nD) (L : grid0.Coords) {α : Type} {f : Vec F S5008 .f32} {v : IVec S16 32}
    {h : ∀ a x, ((![v] : Fin 1 → IVec S16 32) a x).toNat < (S5008).size a} {hl : (Memref.whole cc0_scratch0 : Memref sig .scVector .vmem S5008 .f32).view.Loads}
    {k : Vec F S16 .f32 → Prog (TpuEff nD τ sig (Elt F) Λ₀ (.scVector (cV L) (jV L))) α} {Q : α → sProp 𝕄} :
    (iprop((thr d L).loc cc0_scratch0 ↦{fullShare} f) : sProp 𝕄)
      ⊢ iprop((((thr d L).loc cc0_scratch0 ↦{fullShare} f) -∗ wp (M := 𝕄) frame (wpE (defs₀ (F := F)) 𝒱₀ (thr d L) none) Set.univ (k (gat f v)) Q)
        -∗ wp (M := 𝕄) frame (wpE (defs₀ (F := F)) 𝒱₀ (thr d L) none) Set.univ
          (SparseCore.vectorLoadIdx (Memref.whole cc0_scratch0 : Memref sig .scVector .vmem S5008 .f32) ![v] h hl >>= k) Q) := by
  exact ld_gen d L 0 rfl ![v] h hl k f _ (gat_eq f v h).symm Q

theorem ld1 (d : Dev nD) (L : grid0.Coords) {α : Type} {f : Vec F S5008 .f32} {v : IVec S16 32}
    {h : ∀ a x, ((![v] : Fin 1 → IVec S16 32) a x).toNat < (S5008).size a} {hl : (Memref.whole cc0_scratch1 : Memref sig .scVector .vmem S5008 .f32).view.Loads}
    {k : Vec F S16 .f32 → Prog (TpuEff nD τ sig (Elt F) Λ₀ (.scVector (cV L) (jV L))) α} {Q : α → sProp 𝕄} :
    (iprop((thr d L).loc cc0_scratch1 ↦{fullShare} f) : sProp 𝕄)
      ⊢ iprop((((thr d L).loc cc0_scratch1 ↦{fullShare} f) -∗ wp (M := 𝕄) frame (wpE (defs₀ (F := F)) 𝒱₀ (thr d L) none) Set.univ (k (gat f v)) Q)
        -∗ wp (M := 𝕄) frame (wpE (defs₀ (F := F)) 𝒱₀ (thr d L) none) Set.univ
          (SparseCore.vectorLoadIdx (Memref.whole cc0_scratch1 : Memref sig .scVector .vmem S5008 .f32) ![v] h hl >>= k) Q) := by
  exact ld_gen d L 1 rfl ![v] h hl k f _ (gat_eq f v h).symm Q

theorem ld2 (d : Dev nD) (L : grid0.Coords) {α : Type} {f : Vec F S5008 .f32} {v : IVec S16 32}
    {h : ∀ a x, ((![v] : Fin 1 → IVec S16 32) a x).toNat < (S5008).size a} {hl : (Memref.whole cc0_scratch2 : Memref sig .scVector .vmem S5008 .f32).view.Loads}
    {k : Vec F S16 .f32 → Prog (TpuEff nD τ sig (Elt F) Λ₀ (.scVector (cV L) (jV L))) α} {Q : α → sProp 𝕄} :
    (iprop((thr d L).loc cc0_scratch2 ↦{fullShare} f) : sProp 𝕄)
      ⊢ iprop((((thr d L).loc cc0_scratch2 ↦{fullShare} f) -∗ wp (M := 𝕄) frame (wpE (defs₀ (F := F)) 𝒱₀ (thr d L) none) Set.univ (k (gat f v)) Q)
        -∗ wp (M := 𝕄) frame (wpE (defs₀ (F := F)) 𝒱₀ (thr d L) none) Set.univ
          (SparseCore.vectorLoadIdx (Memref.whole cc0_scratch2 : Memref sig .scVector .vmem S5008 .f32) ![v] h hl >>= k) Q) := by
  exact ld_gen d L 2 rfl ![v] h hl k f _ (gat_eq f v h).symm Q

theorem ld3 (d : Dev nD) (L : grid0.Coords) {α : Type} {f : Vec F S5008 .f32} {v : IVec S16 32}
    {h : ∀ a x, ((![v] : Fin 1 → IVec S16 32) a x).toNat < (S5008).size a} {hl : (Memref.whole cc0_scratch3 : Memref sig .scVector .vmem S5008 .f32).view.Loads}
    {k : Vec F S16 .f32 → Prog (TpuEff nD τ sig (Elt F) Λ₀ (.scVector (cV L) (jV L))) α} {Q : α → sProp 𝕄} :
    (iprop((thr d L).loc cc0_scratch3 ↦{fullShare} f) : sProp 𝕄)
      ⊢ iprop((((thr d L).loc cc0_scratch3 ↦{fullShare} f) -∗ wp (M := 𝕄) frame (wpE (defs₀ (F := F)) 𝒱₀ (thr d L) none) Set.univ (k (gat f v)) Q)
        -∗ wp (M := 𝕄) frame (wpE (defs₀ (F := F)) 𝒱₀ (thr d L) none) Set.univ
          (SparseCore.vectorLoadIdx (Memref.whole cc0_scratch3 : Memref sig .scVector .vmem S5008 .f32) ![v] h hl >>= k) Q) := by
  exact ld_gen d L 3 rfl ![v] h hl k f _ (gat_eq f v h).symm Q

theorem ld4 (d : Dev nD) (L : grid0.Coords) {α : Type} {f : Vec F S5008 .f32} {v : IVec S16 32}
    {h : ∀ a x, ((![v] : Fin 1 → IVec S16 32) a x).toNat < (S5008).size a} {hl : (Memref.whole cc0_scratch4 : Memref sig .scVector .vmem S5008 .f32).view.Loads}
    {k : Vec F S16 .f32 → Prog (TpuEff nD τ sig (Elt F) Λ₀ (.scVector (cV L) (jV L))) α} {Q : α → sProp 𝕄} :
    (iprop((thr d L).loc cc0_scratch4 ↦{fullShare} f) : sProp 𝕄)
      ⊢ iprop((((thr d L).loc cc0_scratch4 ↦{fullShare} f) -∗ wp (M := 𝕄) frame (wpE (defs₀ (F := F)) 𝒱₀ (thr d L) none) Set.univ (k (gat f v)) Q)
        -∗ wp (M := 𝕄) frame (wpE (defs₀ (F := F)) 𝒱₀ (thr d L) none) Set.univ
          (SparseCore.vectorLoadIdx (Memref.whole cc0_scratch4 : Memref sig .scVector .vmem S5008 .f32) ![v] h hl >>= k) Q) := by
  exact ld_gen d L 4 rfl ![v] h hl k f _ (gat_eq f v h).symm Q

theorem ld5 (d : Dev nD) (L : grid0.Coords) {α : Type} {f : Vec F S16 .f32} {v : IVec S16 32}
    {h : ∀ a x, ((![v] : Fin 1 → IVec S16 32) a x).toNat < (S16).size a} {hl : (Memref.whole cc0_scratch5 : Memref sig .scVector .vmem S16 .f32).view.Loads}
    {k : Vec F S16 .f32 → Prog (TpuEff nD τ sig (Elt F) Λ₀ (.scVector (cV L) (jV L))) α} {Q : α → sProp 𝕄} :
    (iprop((thr d L).loc cc0_scratch5 ↦{fullShare} f) : sProp 𝕄)
      ⊢ iprop((((thr d L).loc cc0_scratch5 ↦{fullShare} f) -∗ wp (M := 𝕄) frame (wpE (defs₀ (F := F)) 𝒱₀ (thr d L) none) Set.univ (k (gat16 f v)) Q)
        -∗ wp (M := 𝕄) frame (wpE (defs₀ (F := F)) 𝒱₀ (thr d L) none) Set.univ
          (SparseCore.vectorLoadIdx (Memref.whole cc0_scratch5 : Memref sig .scVector .vmem S16 .f32) ![v] h hl >>= k) Q) := by
  exact ld_gen d L 5 rfl ![v] h hl k f _ (gat16_eq f v h).symm Q

theorem sx6 (d : Dev nD) (L : grid0.Coords) {α : Type} {f : Vec F S5024 .f32} {v : IVec S16 32} {w : Vec F S16 .f32} {mk : IVec S16 1}
    {h : ∀ a x, ((![v] : Fin 1 → IVec S16 32) a x).toNat < (S5024).size a}
    {hs : ((Memref.whole cc0_scratch6 : Memref sig .scVector .vmem S5024 .f32).access (.whole S5024)).Stores Finset.univ}
    {k : PUnit → Prog (TpuEff nD τ sig (Elt F) Λ₀ (.scVector (cV L) (jV L))) α} {Q : α → sProp 𝕄} :
    (iprop((thr d L).loc cc0_scratch6 ↦{fullShare} f) : sProp 𝕄)
      ⊢ iprop((((thr d L).loc cc0_scratch6 ↦{fullShare} (sto (s := S5024) f ![v] w mk)) -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (SparseCore.vectorStoreIdx (Memref.whole cc0_scratch6 : Memref sig .scVector .vmem S5024 .f32) ![v] w mk false h hs >>= k) Q) := by
  exact st_gen d L 6 rfl ![v] w mk h hs k f _ (sto_eq (s := S5024) f ![v] w mk h).symm Q

theorem sx7 (d : Dev nD) (L : grid0.Coords) {α : Type} {f : Vec F S5024 .f32} {v : IVec S16 32} {w : Vec F S16 .f32} {mk : IVec S16 1}
    {h : ∀ a x, ((![v] : Fin 1 → IVec S16 32) a x).toNat < (S5024).size a}
    {hs : ((Memref.whole cc0_scratch7 : Memref sig .scVector .vmem S5024 .f32).access (.whole S5024)).Stores Finset.univ}
    {k : PUnit → Prog (TpuEff nD τ sig (Elt F) Λ₀ (.scVector (cV L) (jV L))) α} {Q : α → sProp 𝕄} :
    (iprop((thr d L).loc cc0_scratch7 ↦{fullShare} f) : sProp 𝕄)
      ⊢ iprop((((thr d L).loc cc0_scratch7 ↦{fullShare} (sto (s := S5024) f ![v] w mk)) -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (SparseCore.vectorStoreIdx (Memref.whole cc0_scratch7 : Memref sig .scVector .vmem S5024 .f32) ![v] w mk false h hs >>= k) Q) := by
  exact st_gen d L 7 rfl ![v] w mk h hs k f _ (sto_eq (s := S5024) f ![v] w mk h).symm Q

theorem sx8 (d : Dev nD) (L : grid0.Coords) {α : Type} {f : Vec F S5024 .f32} {v : IVec S16 32} {w : Vec F S16 .f32} {mk : IVec S16 1}
    {h : ∀ a x, ((![v] : Fin 1 → IVec S16 32) a x).toNat < (S5024).size a}
    {hs : ((Memref.whole cc0_scratch8 : Memref sig .scVector .vmem S5024 .f32).access (.whole S5024)).Stores Finset.univ}
    {k : PUnit → Prog (TpuEff nD τ sig (Elt F) Λ₀ (.scVector (cV L) (jV L))) α} {Q : α → sProp 𝕄} :
    (iprop((thr d L).loc cc0_scratch8 ↦{fullShare} f) : sProp 𝕄)
      ⊢ iprop((((thr d L).loc cc0_scratch8 ↦{fullShare} (sto (s := S5024) f ![v] w mk)) -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (SparseCore.vectorStoreIdx (Memref.whole cc0_scratch8 : Memref sig .scVector .vmem S5024 .f32) ![v] w mk false h hs >>= k) Q) := by
  exact st_gen d L 8 rfl ![v] w mk h hs k f _ (sto_eq (s := S5024) f ![v] w mk h).symm Q

theorem sx9 (d : Dev nD) (L : grid0.Coords) {α : Type} {f : Vec F S5024 .f32} {v : IVec S16 32} {w : Vec F S16 .f32} {mk : IVec S16 1}
    {h : ∀ a x, ((![v] : Fin 1 → IVec S16 32) a x).toNat < (S5024).size a}
    {hs : ((Memref.whole cc0_scratch9 : Memref sig .scVector .vmem S5024 .f32).access (.whole S5024)).Stores Finset.univ}
    {k : PUnit → Prog (TpuEff nD τ sig (Elt F) Λ₀ (.scVector (cV L) (jV L))) α} {Q : α → sProp 𝕄} :
    (iprop((thr d L).loc cc0_scratch9 ↦{fullShare} f) : sProp 𝕄)
      ⊢ iprop((((thr d L).loc cc0_scratch9 ↦{fullShare} (sto (s := S5024) f ![v] w mk)) -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (SparseCore.vectorStoreIdx (Memref.whole cc0_scratch9 : Memref sig .scVector .vmem S5024 .f32) ![v] w mk false h hs >>= k) Q) := by
  exact st_gen d L 9 rfl ![v] w mk h hs k f _ (sto_eq (s := S5024) f ![v] w mk h).symm Q

theorem sx10 (d : Dev nD) (L : grid0.Coords) {α : Type} {f : Vec F S5024 .f32} {v : IVec S16 32} {w : Vec F S16 .f32} {mk : IVec S16 1}
    {h : ∀ a x, ((![v] : Fin 1 → IVec S16 32) a x).toNat < (S5024).size a}
    {hs : ((Memref.whole cc0_scratch10 : Memref sig .scVector .vmem S5024 .f32).access (.whole S5024)).Stores Finset.univ}
    {k : PUnit → Prog (TpuEff nD τ sig (Elt F) Λ₀ (.scVector (cV L) (jV L))) α} {Q : α → sProp 𝕄} :
    (iprop((thr d L).loc cc0_scratch10 ↦{fullShare} f) : sProp 𝕄)
      ⊢ iprop((((thr d L).loc cc0_scratch10 ↦{fullShare} (sto (s := S5024) f ![v] w mk)) -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (SparseCore.vectorStoreIdx (Memref.whole cc0_scratch10 : Memref sig .scVector .vmem S5024 .f32) ![v] w mk false h hs >>= k) Q) := by
  exact st_gen d L 10 rfl ![v] w mk h hs k f _ (sto_eq (s := S5024) f ![v] w mk h).symm Q

theorem sx11 (d : Dev nD) (L : grid0.Coords) {α : Type} {f : Vec F S5008 .f32} {v : IVec S16 32} {w : Vec F S16 .f32} {mk : IVec S16 1}
    {h : ∀ a x, ((![v] : Fin 1 → IVec S16 32) a x).toNat < (S5008).size a}
    {hs : ((Memref.whole cc0_scratch11 : Memref sig .scVector .vmem S5008 .f32).access (.whole S5008)).Stores Finset.univ}
    {k : PUnit → Prog (TpuEff nD τ sig (Elt F) Λ₀ (.scVector (cV L) (jV L))) α} {Q : α → sProp 𝕄} :
    (iprop((thr d L).loc cc0_scratch11 ↦{fullShare} f) : sProp 𝕄)
      ⊢ iprop((((thr d L).loc cc0_scratch11 ↦{fullShare} (sto (s := S5008) f ![v] w mk)) -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (SparseCore.vectorStoreIdx (Memref.whole cc0_scratch11 : Memref sig .scVector .vmem S5008 .f32) ![v] w mk false h hs >>= k) Q) := by
  exact st_gen d L 11 rfl ![v] w mk h hs k f _ (sto_eq (s := S5008) f ![v] w mk h).symm Q

theorem lr6 (d : Dev nD) (L : grid0.Coords) {α : Type} {f : Vec F S5024 .f32} {off : Fin S5024.rank → ℕ} {o : ℕ} (ho : off = ![o]) (ho' : o + 16 ≤ 5024)
    {inb : ∀ a, off a + S16.size a ≤ S5024.size a}
    {hl : (Memref.whole cc0_scratch6 : Memref sig .scVector .vmem S5024 .f32).view.LoadsAt (Rect.unit (s := S5024) off S16.size inb).toLoadRect}
    {k : Vec F S16 .f32 → Prog (TpuEff nD τ sig (Elt F) Λ₀ (.scVector (cV L) (jV L))) α} {Q : α → sProp 𝕄} :
    (iprop((thr d L).loc cc0_scratch6 ↦{fullShare} f) : sProp 𝕄)
      ⊢ iprop((((thr d L).loc cc0_scratch6 ↦{fullShare} f) -∗ wp (M := 𝕄) frame (wpE (defs₀ (F := F)) 𝒱₀ (thr d L) none) Set.univ (k (row f o)) Q)
        -∗ wp (M := 𝕄) frame (wpE (defs₀ (F := F)) 𝒱₀ (thr d L) none) Set.univ
          (Prog.lift (.load (Memref.whole cc0_scratch6 : Memref sig .scVector .vmem S5024 .f32) (Rect.unit (s := S5024) off S16.size inb).toLoadRect hl) >>= k) Q) := by
  exact lr_gen d L 6 rfl (Rect.unit (s := S5024) off S16.size inb) hl k f _ (row_eq f ho ho' inb) Q

theorem lr7 (d : Dev nD) (L : grid0.Coords) {α : Type} {f : Vec F S5024 .f32} {off : Fin S5024.rank → ℕ} {o : ℕ} (ho : off = ![o]) (ho' : o + 16 ≤ 5024)
    {inb : ∀ a, off a + S16.size a ≤ S5024.size a}
    {hl : (Memref.whole cc0_scratch7 : Memref sig .scVector .vmem S5024 .f32).view.LoadsAt (Rect.unit (s := S5024) off S16.size inb).toLoadRect}
    {k : Vec F S16 .f32 → Prog (TpuEff nD τ sig (Elt F) Λ₀ (.scVector (cV L) (jV L))) α} {Q : α → sProp 𝕄} :
    (iprop((thr d L).loc cc0_scratch7 ↦{fullShare} f) : sProp 𝕄)
      ⊢ iprop((((thr d L).loc cc0_scratch7 ↦{fullShare} f) -∗ wp (M := 𝕄) frame (wpE (defs₀ (F := F)) 𝒱₀ (thr d L) none) Set.univ (k (row f o)) Q)
        -∗ wp (M := 𝕄) frame (wpE (defs₀ (F := F)) 𝒱₀ (thr d L) none) Set.univ
          (Prog.lift (.load (Memref.whole cc0_scratch7 : Memref sig .scVector .vmem S5024 .f32) (Rect.unit (s := S5024) off S16.size inb).toLoadRect hl) >>= k) Q) := by
  exact lr_gen d L 7 rfl (Rect.unit (s := S5024) off S16.size inb) hl k f _ (row_eq f ho ho' inb) Q

theorem lr8 (d : Dev nD) (L : grid0.Coords) {α : Type} {f : Vec F S5024 .f32} {off : Fin S5024.rank → ℕ} {o : ℕ} (ho : off = ![o]) (ho' : o + 16 ≤ 5024)
    {inb : ∀ a, off a + S16.size a ≤ S5024.size a}
    {hl : (Memref.whole cc0_scratch8 : Memref sig .scVector .vmem S5024 .f32).view.LoadsAt (Rect.unit (s := S5024) off S16.size inb).toLoadRect}
    {k : Vec F S16 .f32 → Prog (TpuEff nD τ sig (Elt F) Λ₀ (.scVector (cV L) (jV L))) α} {Q : α → sProp 𝕄} :
    (iprop((thr d L).loc cc0_scratch8 ↦{fullShare} f) : sProp 𝕄)
      ⊢ iprop((((thr d L).loc cc0_scratch8 ↦{fullShare} f) -∗ wp (M := 𝕄) frame (wpE (defs₀ (F := F)) 𝒱₀ (thr d L) none) Set.univ (k (row f o)) Q)
        -∗ wp (M := 𝕄) frame (wpE (defs₀ (F := F)) 𝒱₀ (thr d L) none) Set.univ
          (Prog.lift (.load (Memref.whole cc0_scratch8 : Memref sig .scVector .vmem S5024 .f32) (Rect.unit (s := S5024) off S16.size inb).toLoadRect hl) >>= k) Q) := by
  exact lr_gen d L 8 rfl (Rect.unit (s := S5024) off S16.size inb) hl k f _ (row_eq f ho ho' inb) Q

theorem lr9 (d : Dev nD) (L : grid0.Coords) {α : Type} {f : Vec F S5024 .f32} {off : Fin S5024.rank → ℕ} {o : ℕ} (ho : off = ![o]) (ho' : o + 16 ≤ 5024)
    {inb : ∀ a, off a + S16.size a ≤ S5024.size a}
    {hl : (Memref.whole cc0_scratch9 : Memref sig .scVector .vmem S5024 .f32).view.LoadsAt (Rect.unit (s := S5024) off S16.size inb).toLoadRect}
    {k : Vec F S16 .f32 → Prog (TpuEff nD τ sig (Elt F) Λ₀ (.scVector (cV L) (jV L))) α} {Q : α → sProp 𝕄} :
    (iprop((thr d L).loc cc0_scratch9 ↦{fullShare} f) : sProp 𝕄)
      ⊢ iprop((((thr d L).loc cc0_scratch9 ↦{fullShare} f) -∗ wp (M := 𝕄) frame (wpE (defs₀ (F := F)) 𝒱₀ (thr d L) none) Set.univ (k (row f o)) Q)
        -∗ wp (M := 𝕄) frame (wpE (defs₀ (F := F)) 𝒱₀ (thr d L) none) Set.univ
          (Prog.lift (.load (Memref.whole cc0_scratch9 : Memref sig .scVector .vmem S5024 .f32) (Rect.unit (s := S5024) off S16.size inb).toLoadRect hl) >>= k) Q) := by
  exact lr_gen d L 9 rfl (Rect.unit (s := S5024) off S16.size inb) hl k f _ (row_eq f ho ho' inb) Q

theorem lr10 (d : Dev nD) (L : grid0.Coords) {α : Type} {f : Vec F S5024 .f32} {off : Fin S5024.rank → ℕ} {o : ℕ} (ho : off = ![o]) (ho' : o + 16 ≤ 5024)
    {inb : ∀ a, off a + S16.size a ≤ S5024.size a}
    {hl : (Memref.whole cc0_scratch10 : Memref sig .scVector .vmem S5024 .f32).view.LoadsAt (Rect.unit (s := S5024) off S16.size inb).toLoadRect}
    {k : Vec F S16 .f32 → Prog (TpuEff nD τ sig (Elt F) Λ₀ (.scVector (cV L) (jV L))) α} {Q : α → sProp 𝕄} :
    (iprop((thr d L).loc cc0_scratch10 ↦{fullShare} f) : sProp 𝕄)
      ⊢ iprop((((thr d L).loc cc0_scratch10 ↦{fullShare} f) -∗ wp (M := 𝕄) frame (wpE (defs₀ (F := F)) 𝒱₀ (thr d L) none) Set.univ (k (row f o)) Q)
        -∗ wp (M := 𝕄) frame (wpE (defs₀ (F := F)) 𝒱₀ (thr d L) none) Set.univ
          (Prog.lift (.load (Memref.whole cc0_scratch10 : Memref sig .scVector .vmem S5024 .f32) (Rect.unit (s := S5024) off S16.size inb).toLoadRect hl) >>= k) Q) := by
  exact lr_gen d L 10 rfl (Rect.unit (s := S5024) off S16.size inb) hl k f _ (row_eq f ho ho' inb) Q

end Cert.Proof.Nms

end
-- ==== Proof.Parts.lean ====
/-
  The pieces of a trip of the pass, each from what the tile holds to what it hands on.
-/
module

public import proofs.«01_k».proof.Proof.Ops

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

set_option maxHeartbeats 1000000 in
/-- Reading the two candidates' entries. -/
theorem part5_spec (d : Dev nD) (L : grid0.Coords) (h1 : k0_cond1 L = 1#1) (start cnt : BitVec 32)
    (t : Fin (k0_t3_loop cnt).trips) (kc : BitVec 32) (T : Tab F)
    (h8 : k0_chk8 L kc) (hA : ∀ x, (placeA start t x).toNat < 5008) (hB : ∀ x, (k0_pay15 (placeA start t) x).toNat < 5008)
    (hord : ∀ x, (fptosi (φ := .f32) 32 T.ord x).toNat < 5008) (h4 : k0_chk4 L (placeA start t)) (h6 : k0_chk6 L (k0_pay15 (placeA start t)))
    (Q : _ → sProp 𝕄) :
    (iprop(tabs d L T ∗ (tabs d L T -∗ Q ⟨h8, Scf.iv 0#32 1#32 t, placeA start t, h4, k0_pay15 (placeA start t), h6,
        (boxA (ent T (placeA start t))).y1, (boxA (ent T (placeA start t))).x1, (boxA (ent T (placeA start t))).y2, (boxA (ent T (placeA start t))).x2,
        (boxA (ent T (placeA start t))).ar, (ent T (k0_pay15 (placeA start t))).xc, k0_pay23 (ent T (k0_pay15 (placeA start t))).h,
        k0_pay24 (ent T (k0_pay15 (placeA start t))).w, (boxB (ent T (k0_pay15 (placeA start t)))).y1, (boxB (ent T (k0_pay15 (placeA start t)))).x1,
        (boxB (ent T (k0_pay15 (placeA start t)))).y2, k0_pay28⟩)) : sProp 𝕄)
      ⊢ wp (M := 𝕄) frame (wpE (defs₀ (F := F)) 𝒱₀ (thr d L) none) Set.univ (part5 L h1 start cnt 0#32 1#32 t kc) Q := by
  have hiA := inb5008 hA
  have hiB := inb5008 hB
  have h5 : k0_chk5 L (fptosi (φ := .f32) 32 (gat T.ord (placeA start t))) := by
    have : ∀ x, (fptosi (φ := .f32) 32 (gat T.ord (placeA start t)) x).toNat < 5008 := fun x => by
      rw [gat_eq _ _ hiA]; exact hord _
    exact ⟨fun _ => inb5008 this, fun _ => inb5008 this, fun _ => inb5008 this, fun _ => inb5008 this⟩
  have h7 : k0_chk7 L (fptosi (φ := .f32) 32 (gat T.ord (k0_pay15 (placeA start t)))) := by
    have : ∀ x, (fptosi (φ := .f32) 32 (gat T.ord (k0_pay15 (placeA start t))) x).toNat < 5008 := fun x => by
      rw [gat_eq _ _ hiB]; exact hord _
    exact ⟨fun _ => inb5008 this, fun _ => inb5008 this, fun _ => inb5008 this, fun _ => inb5008 this⟩
  dsimp only [boxA, boxB, ent, placeA]
  iintro ⟨⟨H0, H1, H2, H3, H4⟩, HQ⟩
  unfold part5 k0_part5_skel
  dsimp only
  iapply (asm d L h8)
  iapply (asm d L h4)
  iapply (asm d L h6)
  iapply (ld4 d L) $$ H4
  iintro H4
  iapply (asm d L h5)
  iapply (ld0 d L) $$ H0
  iintro H0
  iapply (ld1 d L) $$ H1
  iintro H1
  iapply (ld2 d L) $$ H2
  iintro H2
  iapply (ld3 d L) $$ H3
  iintro H3
  iapply (ld4 d L) $$ H4
  iintro H4
  iapply (asm d L h7)
  iapply (ld0 d L) $$ H0
  iintro H0
  iapply (ld1 d L) $$ H1
  iintro H1
  iapply (ld2 d L) $$ H2
  iintro H2
  iapply (ld3 d L) $$ H3
  iintro H3
  rw [wp_pure]
  imodintro
  iapply HQ
  isplitl [H0]; · iexact H0
  isplitl [H1]; · iexact H1
  isplitl [H2]; · iexact H2
  isplitl [H3]; · iexact H3
  iexact H4

/-! ## A chunk of the sweep -/

set_option maxHeartbeats 1000000 in
/-- The first sixteen kept boxes of a chunk, against both candidates. -/
theorem part1_spec (d : Dev nD) (L : grid0.Coords) (h1 : k0_cond1 L = 1#1) (s : St F) (hn : s.n.toNat ≤ 5000) (h8 : k0_chk8 L s.n)
    (v64 v67 v70 v73 v74 v85 v88 v91 v94 v95 : FVec F S16 .f32) (t : Fin (k0_t4_loop s.n).trips) (hA : FVec F S16 .f32) (Q : _ → sProp 𝕄) :
    (iprop(kept d L s ∗ (kept d L s -∗ Q ⟨Scalar.muli (Scf.iv 0#32 1#32 t) 32#32,
        k0_pay1 v64 v67 v70 v73 v74 hA (row s.y1 (32 * t)) (row s.x1 (32 * t)) (row s.y2 (32 * t)) (row s.x2 (32 * t)) (row s.ar (32 * t)),
        k0_pay2 v85 v88 v91 v94 v95 (row s.y1 (32 * t)) (row s.x1 (32 * t)) (row s.y2 (32 * t)) (row s.x2 (32 * t)) (row s.ar (32 * t))⟩)) : sProp 𝕄)
      ⊢ wp (M := 𝕄) frame (wpE (defs₀ (F := F)) 𝒱₀ (thr d L) none) Set.univ (part1 L h1 s.n h8 v64 v67 v70 v73 v74 v85 v88 v91 v94 v95 0#32 1#32 t hA) Q := by
  have ho := off3_eq (c := s.n) rfl hn t
  have hb : 32 * t.val + 16 ≤ 5024 := by
    have := t.isLt
    have ht := t4_trips (c := s.n) rfl hn
    omega
  iintro ⟨⟨H6, H7, H8, H9, H10⟩, HQ⟩
  unfold part1 k0_part1_skel
  dsimp only
  iapply (lr6 d L ho hb) $$ H6
  iintro H6
  iapply (lr7 d L ho hb) $$ H7
  iintro H7
  iapply (lr8 d L ho hb) $$ H8
  iintro H8
  iapply (lr9 d L ho hb) $$ H9
  iintro H9
  iapply (lr10 d L ho hb) $$ H10
  iintro H10
  rw [wp_pure]
  imodintro
  iapply HQ
  isplitl [H6]; · iexact H6
  isplitl [H7]; · iexact H7
  isplitl [H8]; · iexact H8
  isplitl [H9]; · iexact H9
  iexact H10

set_option maxHeartbeats 1000000 in
/-- The other sixteen. -/
theorem part2_spec (d : Dev nD) (L : grid0.Coords) (h1 : k0_cond1 L = 1#1) (s : St F) (hn : s.n.toNat ≤ 5000) (h8 : k0_chk8 L s.n)
    (v64 v67 v70 v73 v74 v85 v88 v91 v94 : FVec F S16 .f32) (t : Fin (k0_t4_loop s.n).trips) (hB : FVec F S16 .f32) (w : BitVec 32) (v305 v321 : FVec F S16 .f32)
    (Q : _ → sProp 𝕄) :
    (iprop(kept d L s ∗ (kept d L s -∗ Q ⟨k0_pay3 hB v321, row s.ar (32 * t + 16),
        k0_pay4 v64 v67 v70 v73 v74 v305 (row s.y1 (32 * t + 16)) (row s.x1 (32 * t + 16)) (row s.y2 (32 * t + 16)) (row s.x2 (32 * t + 16)) (row s.ar (32 * t + 16)),
        k0_pay5 v85 v91 (row s.y1 (32 * t + 16)) (row s.y2 (32 * t + 16)), k0_pay6 v88 v94 (row s.x1 (32 * t + 16)) (row s.x2 (32 * t + 16)), k0_pay7⟩)) : sProp 𝕄)
      ⊢ wp (M := 𝕄) frame (wpE (defs₀ (F := F)) 𝒱₀ (thr d L) none) Set.univ (part2 L h1 s.n h8 v64 v67 v70 v73 v74 v85 v88 v91 v94 t hB w v305 v321) Q := by
  have ho := off4_eq (c := s.n) rfl hn t
  have hb : 32 * t.val + 16 + 16 ≤ 5024 := by
    have := t.isLt
    have ht := t4_trips (c := s.n) rfl hn
    omega
  iintro ⟨⟨H6, H7, H8, H9, H10⟩, HQ⟩
  unfold part2 k0_part2_skel
  dsimp only
  iapply (lr6 d L ho hb) $$ H6
  iintro H6
  iapply (lr7 d L ho hb) $$ H7
  iintro H7
  iapply (lr8 d L ho hb) $$ H8
  iintro H8
  iapply (lr9 d L ho hb) $$ H9
  iintro H9
  iapply (lr10 d L ho hb) $$ H10
  iintro H10
  rw [wp_pure]
  imodintro
  iapply HQ
  isplitl [H6]; · iexact H6
  isplitl [H7]; · iexact H7
  isplitl [H8]; · iexact H8
  isplitl [H9]; · iexact H9
  iexact H10

set_option maxHeartbeats 1000000 in
/-- One chunk. -/
theorem t4_spec (d : Dev nD) (L : grid0.Coords) (h1 : k0_cond1 L = 1#1) (v5 : IVec S16 32) (s : St F) (hn : s.n.toNat ≤ 5000) (h8 : k0_chk8 L s.n)
    (a b : Ent F) (t : Fin (k0_t4_loop s.n).trips) (r : FVec F S16 .f32 × FVec F S16 .f32) (Q : _ → sProp 𝕄) :
    (iprop(kept d L s ∗ (kept d L s -∗ Q (chunk a b s t r))) : sProp 𝕄)
      ⊢ wp (M := 𝕄) frame (wpE (defs₀ (F := F)) 𝒱₀ (thr d L) none) Set.univ (t4Body L h1 v5 s.n h8 (boxA a).y1 (boxA a).x1 (boxA a).y2 (boxA a).x2 (boxA a).ar b.xc (k0_pay23 b.h) (k0_pay24 b.w) (boxB b).y1 (boxB b).x1 (boxB b).y2 k0_pay28 t r) Q := by
  obtain ⟨hA, hB⟩ := r
  dsimp only [chunk, boxB]
  iintro ⟨HK, HQ⟩
  unfold t4Body k0_t4_body
  dsimp only
  rw [k0_part1_eq_skeleton, wp_bind]
  iapply (part1_spec d L h1 s hn h8)
  isplitl [HK]; · iexact HK
  iintro HK
  dsimp only
  rw [k0_part2_eq_skeleton, wp_bind]
  iapply (part2_spec d L h1 s hn h8)
  isplitl [HK]; · iexact HK
  iintro HK
  dsimp only
  rw [wp_pure]
  imodintro
  iapply HQ
  iexact HK

/-- A counted loop of the tile's, by an invariant. -/
theorem wp_loop (d : Dev nD) (L : grid0.Coords) {σ : Type} (l : Scf.Loop 32) (hok : l.OK) (init : σ)
    (body : Fin l.trips → σ → Prog (TpuEff nD τ sig (Elt F) Λ₀ (.scVector (cV L) (jV L))) σ) (I : ℕ → σ → sProp 𝕄)
    (hbody : ∀ (k : Fin l.trips) (acc : σ), I k acc ⊢ wp (M := 𝕄) frame (wpE (defs₀ (F := F)) 𝒱₀ (thr d L) none) Set.univ (body k acc) (I (k.val + 1))) {Q : σ → sProp 𝕄} :
    iprop(I 0 init ∗ (∀ acc, I l.trips acc -∗ Q acc)) ⊢ wp (M := 𝕄) frame (wpE (defs₀ (F := F)) 𝒱₀ (thr d L) none) Set.univ (l.for hok init body) Q :=
  Scf.wp_for frame (wpE (defs₀ (F := F)) 𝒱₀ (thr d L) none) Set.univ l.lb l.ub l.st hok init body I hbody

/-- The sweep's remainder takes no trip. -/
theorem t5_ret {E : Type → Type} {σ : Type} (c : BitVec 32) (hok : (k0_t5_loop c).OK) (init : σ) (body : Fin (k0_t5_loop c).trips → σ → Prog E σ) :
    (k0_t5_loop c).for hok init body = .ret init := Scf.for_rem_eq _ _ _ _ _

set_option maxHeartbeats 1000000 in
/-- The sweep over the kept boxes. -/
theorem part6_spec (d : Dev nD) (L : grid0.Coords) (h1 : k0_cond1 L = 1#1) (v5 : IVec S16 32) (s : St F) (hn : s.n.toNat ≤ 5000) (h8 : k0_chk8 L s.n)
    (a b : Ent F) (Q : _ → sProp 𝕄) :
    (iprop(kept d L s ∗ (kept d L s -∗ Q ⟨(boxB b).x2, (boxB b).ar, (chunks a b s (k0_t4_loop s.n).trips).2,
        k0_pay34 v5 (chunks a b s (k0_t4_loop s.n).trips).1, k0_pay35 v5, 0#32⟩)) : sProp 𝕄)
      ⊢ wp (M := 𝕄) frame (wpE (defs₀ (F := F)) 𝒱₀ (thr d L) none) Set.univ (part6 L h1 v5 s.n h8 (boxA a).y1 (boxA a).x1 (boxA a).y2 (boxA a).x2 (boxA a).ar b.xc (k0_pay23 b.h) (k0_pay24 b.w) (boxB b).y1 (boxB b).x1 (boxB b).y2 k0_pay28) Q := by
  have hb2 : (boxB b).x2 = k0_pay29 b.xc (k0_pay24 b.w) k0_pay28 := rfl
  have hba : (boxB b).ar = k0_pay30 (k0_pay23 b.h) (k0_pay24 b.w) := rfl
  rw [hb2, hba]
  iintro ⟨HK, HQ⟩
  unfold part6 k0_part6_skel
  dsimp only
  rw [wp_bind]
  iapply (wp_loop d L (k0_t4_loop s.n) _ _ _ (fun k r => iprop(⌜r = chunks a b s k⌝ ∗ kept d L s)) (fun t r => by
    iintro ⟨%hr, HK⟩
    subst hr
    iapply (t4_spec d L h1 v5 s hn h8 a b t)
    isplitl [HK]; · iexact HK
    iintro HK
    isplitr
    · ipureintro; rfl
    · iexact HK))
  isplitl [HK]
  · isplitr
    · ipureintro; rfl
    · iexact HK
  iintro %r ⟨%hr, HK⟩
  subst hr
  rw [wp_bind]
  rw [t5_ret, wp_ret]
  imodintro
  rw [wp_pure]
  imodintro
  iapply HQ
  iexact HK

/-! ## What a trip writes -/

set_option maxHeartbeats 2000000 in
/-- The two flags, and the boxes that were kept. -/
theorem part9_spec (d : Dev nD) (L : grid0.Coords) (h1 : k0_cond1 L = 1#1) (v5 : IVec S16 32) (v23 : IVec S16 1) (s : St F) (v51 : IVec S16 32) (h4 : k0_chk4 L v51)
    (v53 : IVec S16 32) (h6 : k0_chk6 L v53) (v64 v67 v70 v73 v74 v85 v88 v91 v94 v95 : FVec F S16 .f32) (v172 v173 v197 v200 : BitVec 1)
    (v224 : FVec F S16 .f32) (v228 : IVec S16 1) (v231 v234 : FVec F S16 .f32)
    (h9 : k0_chk9 L (broadcast S16 s.n)) (h10 : k0_chk10 L (k0_pay50 v173 (broadcast S16 s.n))) (Q : _ → sProp 𝕄) :
    (iprop(keepB d L s ∗ kept d L s ∗ (((thr d L).loc cc0_scratch11 ↦{fullShare} sto (s := S5008) (sto (s := S5008) s.keep ![v51] (k0_pay45 v172) v23) ![v53] (k0_pay46 v5 v173 v197 v224 v228 v231 v234) (k0_pay47 v23 v200)) -∗ (((thr d L).loc cc0_scratch6 ↦{fullShare} sto (s := S5024) (sto (s := S5024) s.y1 ![(broadcast S16 s.n)] v64 (k0_pay48 v23 v173)) ![(k0_pay50 v173 (broadcast S16 s.n))] v85 (k0_pay49 v5 v23 v173 v197 v200 v224 v228 v231 v234)) ∗ ((thr d L).loc cc0_scratch7 ↦{fullShare} sto (s := S5024) (sto (s := S5024) s.x1 ![(broadcast S16 s.n)] v67 (k0_pay48 v23 v173)) ![(k0_pay50 v173 (broadcast S16 s.n))] v88 (k0_pay49 v5 v23 v173 v197 v200 v224 v228 v231 v234)) ∗ ((thr d L).loc cc0_scratch8 ↦{fullShare} sto (s := S5024) (sto (s := S5024) s.y2 ![(broadcast S16 s.n)] v70 (k0_pay48 v23 v173)) ![(k0_pay50 v173 (broadcast S16 s.n))] v91 (k0_pay49 v5 v23 v173 v197 v200 v224 v228 v231 v234)) ∗ ((thr d L).loc cc0_scratch9 ↦{fullShare} sto (s := S5024) (sto (s := S5024) s.x2 ![(broadcast S16 s.n)] v73 (k0_pay48 v23 v173)) ![(k0_pay50 v173 (broadcast S16 s.n))] v94 (k0_pay49 v5 v23 v173 v197 v200 v224 v228 v231 v234)) ∗ ((thr d L).loc cc0_scratch10 ↦{fullShare} sto (s := S5024) (sto (s := S5024) s.ar ![(broadcast S16 s.n)] v74 (k0_pay48 v23 v173)) ![(k0_pay50 v173 (broadcast S16 s.n))] v95 (k0_pay49 v5 v23 v173 v197 v200 v224 v228 v231 v234))) -∗ Q ⟨Scalar.andi (Scalar.xori (Scalar.ori (Scalar.cmpf .ogt (k0_pay44 v5 v224 v228 v231 v234) (Scalar.ofBits .f32 0x3F000000#32)) (Scalar.andi v173 v197)) 1#1) v200, Scalar.addi s.n (Scalar.select v173 1#32 0#32)⟩)) : sProp 𝕄)
      ⊢ wp (M := 𝕄) frame (wpE (defs₀ (F := F)) 𝒱₀ (thr d L) none) Set.univ (part9 L h1 v5 v23 s.n v51 h4 v53 h6 v64 v67 v70 v73 v74 v85 v88 v91 v94 v95 v172 v173 v197 v200 v224 v228 v231 v234) Q := by
  iintro ⟨H11, ⟨H6, H7, H8, H9, H10⟩, HQ⟩
  unfold part9 k0_part9_skel
  dsimp only
  iapply (sx11 d L) $$ H11
  iintro H11
  iapply (sx11 d L) $$ H11
  iintro H11
  iapply (asm d L h9)
  iapply (asm d L h10)
  iapply (sx6 d L) $$ H6
  iintro H6
  iapply (sx7 d L) $$ H7
  iintro H7
  iapply (sx8 d L) $$ H8
  iintro H8
  iapply (sx9 d L) $$ H9
  iintro H9
  iapply (sx10 d L) $$ H10
  iintro H10
  iapply (sx6 d L) $$ H6
  iintro H6
  iapply (sx7 d L) $$ H7
  iintro H7
  iapply (sx8 d L) $$ H8
  iintro H8
  iapply (sx9 d L) $$ H9
  iintro H9
  iapply (sx10 d L) $$ H10
  iintro H10
  rw [wp_pure]
  imodintro
  iapply HQ $$ H11
  isplitl [H6]; · iexact H6
  isplitl [H7]; · iexact H7
  isplitl [H8]; · iexact H8
  isplitl [H9]; · iexact H9
  iexact H10

end Cert.Proof.Nms

end
-- ==== Proof.Trip.lean ====
/-
  One trip of the pass: from the tables and a state to the tables and the state `trip` makes of it.
-/
module

public import proofs.«01_k».proof.Proof.Parts

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The number of kept boxes after a trip: at most two more. -/
theorem trip_n_le (T : Tab F) (v5 : IVec S16 32) (v23 : IVec S16 1) (start cnt : BitVec 32) (p : ℕ) (s : St F) (hn : s.n.toNat ≤ 2 * p) (hp : p ≤ 2500) :
    (trip T v5 v23 start cnt p s).n.toNat ≤ 2 * (p + 1) := by
  have sel : ∀ c : BitVec 1, (Scalar.select c 1#32 0#32).toNat ≤ 1 := by decide
  unfold trip
  dsimp only
  generalize hx : Scalar.select _ 1#32 0#32 = x
  generalize hy : Scalar.select _ 1#32 0#32 = y
  have h1 : x.toNat ≤ 1 := hx ▸ sel _
  have h2 : y.toNat ≤ 1 := hy ▸ sel _
  have e : (Scalar.addi (Scalar.addi s.n x) y).toNat = ((s.n.toNat + x.toNat) % 2 ^ 32 + y.toNat) % 2 ^ 32 := by
    show (s.n + x + y).toNat = _
    rw [BitVec.toNat_add, BitVec.toNat_add]
  rw [e]
  omega

theorem st_n_le (T : Tab F) (start cnt : BitVec 32) (p : ℕ) (hp : p ≤ 2501) : (st T start cnt p).n.toNat ≤ 2 * p := by
  induction p with
  | zero => exact Nat.le_refl _
  | succ p ih => exact trip_n_le T lanes k0_pay108 start cnt p _ (ih (by omega)) (by omega)

set_option maxHeartbeats 4000000 in
theorem trip_spec (d : Dev nD) (L : grid0.Coords) (h1 : k0_cond1 L = 1#1) (v5 : IVec S16 32) (v23 : IVec S16 1) (start cnt : BitVec 32) (h3 : k0_chk3 L cnt)
    (T : Tab F) (hb : start.toNat + cnt.toNat ≤ 5000) (hord : ∀ x, (fptosi (φ := .f32) 32 T.ord x).toNat < 5008) (s : St F)
    (t : Fin (k0_t3_loop cnt).trips) (hn : s.n.toNat ≤ 2 * t.val) (Q : _ → sProp 𝕄) :
    (iprop(tabs d L T ∗ kept d L s ∗ keepB d L s ∗ (tabs d L T -∗ kept d L (trip T v5 v23 start cnt t s) -∗ keepB d L (trip T v5 v23 start cnt t s)
        -∗ Q (trip T v5 v23 start cnt t s).n)) : sProp 𝕄)
      ⊢ wp (M := 𝕄) frame (wpE (defs₀ (F := F)) 𝒱₀ (thr d L) none) Set.univ (t3Body L h1 v5 start cnt h3 v23 t s.n) Q := by
  have ht : t.val < (cnt.toNat + 1) / 2 := by
    have := t.isLt
    have ht := t3_trips (c := cnt) rfl (by omega)
    omega
  have hn' : s.n.toNat ≤ 5000 := by omega
  have h8 : k0_chk8 L s.n := chk8 L rfl hn'
  have hA : ∀ x, (placeA start t x).toNat < 5008 := fun x => by rw [placeA_toNat rfl (by omega) (by omega)]; omega
  have hB : ∀ x, (k0_pay15 (placeA start t) x).toNat < 5008 := fun x => by rw [placeB_toNat rfl (by omega) (by omega)]; omega
  have h4 : k0_chk4 L (placeA start t) := ⟨fun _ => inb5008 hA, fun _ => inb5008 hA⟩
  have h6 : k0_chk6 L (k0_pay15 (placeA start t)) := ⟨fun _ => inb5008 hB, fun _ => inb5008 hB⟩
  have hK : ∀ x, (broadcast S16 s.n x).toNat < 5024 := fun x => by show s.n.toNat < 5024; omega
  have hK' : ∀ (c : BitVec 1) (x), (k0_pay50 c (broadcast S16 s.n) x).toNat < 5024 := fun c x => by
    rw [pay50_toNat c rfl hn']; have := c.isLt; omega
  have h9 : k0_chk9 L (broadcast S16 s.n) := ⟨fun _ => inb5024 hK, fun _ => inb5024 hK, fun _ => inb5024 hK, fun _ => inb5024 hK, fun _ => inb5024 hK⟩
  have h10 : ∀ c, k0_chk10 L (k0_pay50 c (broadcast S16 s.n)) := fun c =>
    ⟨fun _ => inb5024 (hK' c), fun _ => inb5024 (hK' c), fun _ => inb5024 (hK' c), fun _ => inb5024 (hK' c), fun _ => inb5024 (hK' c)⟩
  dsimp only [trip, supA, supB, hitAB]
  iintro ⟨HT, HK, HF, HQ⟩
  unfold t3Body k0_t3_body
  dsimp only
  rw [k0_part5_eq_skeleton, wp_bind]
  iapply (part5_spec d L h1 start cnt t s.n T h8 hA hB hord h4 h6)
  isplitl [HT]; · iexact HT
  iintro HT
  dsimp only
  rw [k0_part6_eq_skeleton, wp_bind]
  iapply (part6_spec d L h1 v5 s hn' h8 (ent T (placeA start t)) (ent T (k0_pay15 (placeA start t))))
  isplitl [HK]; · iexact HK
  iintro HK
  dsimp only
  rw [k0_part7_eq_skeleton, wp_bind]
  unfold k0_part7_skel
  dsimp only
  rw [wp_pure]
  imodintro
  rw [k0_part8_eq_skeleton, wp_bind]
  unfold k0_part8_skel
  dsimp only
  rw [wp_pure]
  imodintro
  rw [k0_part9_eq_skeleton, wp_bind]
  iapply (part9_spec d L h1 v5 v23 s _ h4 _ h6 _ _ _ _ _ _ _ _ _ _ _ _ _ _ _ _ _ _ h9 (h10 _))
  isplitl [HF]; · iexact HF
  isplitl [HK]; · iexact HK
  iintro HF HK
  dsimp only
  rw [wp_pure]
  imodintro
  iapply HQ $$ HT HK HF

end Cert.Proof.Nms

end
-- ==== Proof.Copies.lean ====
/-
  The tile's copies: a table from the device's memory into the tile's, and the wait for it.
-/
module

public import proofs.«01_k».proof.Proof.Trip

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What the thread owes, and that its waits so far beyond `W` are its copies'. -/
abbrev due (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

theorem cp0 (d : Dev nD) (L : grid0.Coords) {α : Type} {q : PosShare TreeShare} {f g : Vec F S5008 .f32} {O : CellTallies nD τ sig (HIx 1)} {W : Waits sig (HIx 1)}
    {h1 h2 h3 h4 h5} {k : PUnit → Prog (TpuEff nD τ sig (Elt F) Λ₀ (.scVector (cV L) (jV L))) α} {Q : α → sProp 𝕄} :
    (iprop(Transfers.MayWaits (thr d L) (none : HIx 1) O ∗ ((thr d L).loc main_v25_scv ↦{q} f) ∗ ((thr d L).loc cc0_scratch0 ↦{fullShare} g)
        ∗ semVal (thr d L, SemLoc.dma cc0_scoped0.sem) 0 ∗ due d L O W
        ∗ (((thr d L).loc main_v25_scv ↦{q} f) -∗ ((thr d L).loc cc0_scratch0 ↦{fullShare} f) -∗ semVal (thr d L, SemLoc.dma cc0_scoped0.sem) 0 -∗ due d L O W
          -∗ wp (M := 𝕄) frame (wpE (defs₀ (F := F)) 𝒱₀ (thr d L) none) Set.univ (k ⟨⟩) Q)) : sProp 𝕄)
      ⊢ wp (M := 𝕄) frame (wpE (defs₀ (F := F)) 𝒱₀ (thr d L) none) Set.univ
        (Prog.lift (.enqueueDma (Memref.whole main_v25_scv : Memref sig .scVector .hbm S5008 .f32) (.here (Memref.whole cc0_scratch0 : Memref sig .scVector .vmem S5008 .f32)) (.dma cc0_scoped0.sem) h1 h2 h3) >>= fun _ =>
          Prog.lift (.waitDma2 cc0_scoped0.sem (Memref.whole main_v25_scv : Memref sig .scVector .hbm S5008 .f32) (Memref.whole cc0_scratch0 : Memref sig .scVector .vmem S5008 .f32) h4 h5) >>= k) Q := by
  iintro ⟨#Hmw, Hs, Hd, Hsem, ⟨%W', %hW', HO⟩, HQ⟩
  ihave Hs' := (Entails.of_eq (show ((thr d L).loc main_v25_scv ↦{q} f : sProp 𝕄)
    = ((Memref.whole main_v25_scv : Memref sig .scVector .hbm S5008 .f32).view.loc (thr d L) ↦{q} f) from rfl)) $$ Hs
  ihave Hd' := (Entails.of_eq (show ((thr d L).loc cc0_scratch0 ↦{fullShare} g : sProp 𝕄)
    = ((Memref.whole cc0_scratch0 : Memref sig .scVector .vmem S5008 .f32).view.loc (thr d L) ↦{fullShare} g) from rfl)) $$ Hd
  sl_exec
  ihave Hd2 := (Entails.of_eq (show ((Memref.whole cc0_scratch0 : Memref sig .scVector .vmem S5008 .f32).view.loc (thr d L) ↦{fullShare}
        View.write (Elt F) (Memref.whole cc0_scratch0 : Memref sig .scVector .vmem S5008 .f32).view g (cp0.sl.dma0 (f := f)) Finset.univ : sProp 𝕄) = ((thr d L).loc cc0_scratch0 ↦{fullShare} f)
      from congrArg _ (View.write_whole_univ _ _ _))) $$ Hd'
  ihave Hsem' := (Entails.of_eq (show (semVal (thr d L, SemLoc.dma ⟨0, _⟩) 0 : sProp 𝕄) = semVal (thr d L, SemLoc.dma cc0_scoped0.sem) 0 from rfl)) $$ Hsem
  iapply HQ $$ Hs' Hd2 Hsem'
  iexists _
  isplitr; swap; · iexact HO
  ipureintro
  exact fun p hp => (Finset.mem_insert.mp hp).elim (fun h => Or.inr (h ▸ rfl)) (hW' p)

theorem cp1 (d : Dev nD) (L : grid0.Coords) {α : Type} {q : PosShare TreeShare} {f g : Vec F S5008 .f32} {O : CellTallies nD τ sig (HIx 1)} {W : Waits sig (HIx 1)}
    {h1 h2 h3 h4 h5} {k : PUnit → Prog (TpuEff nD τ sig (Elt F) Λ₀ (.scVector (cV L) (jV L))) α} {Q : α → sProp 𝕄} :
    (iprop(Transfers.MayWaits (thr d L) (none : HIx 1) O ∗ ((thr d L).loc main_v30_scv ↦{q} f) ∗ ((thr d L).loc cc0_scratch1 ↦{fullShare} g)
        ∗ semVal (thr d L, SemLoc.dma cc0_scoped1.sem) 0 ∗ due d L O W
        ∗ (((thr d L).loc main_v30_scv ↦{q} f) -∗ ((thr d L).loc cc0_scratch1 ↦{fullShare} f) -∗ semVal (thr d L, SemLoc.dma cc0_scoped1.sem) 0 -∗ due d L O W
          -∗ wp (M := 𝕄) frame (wpE (defs₀ (F := F)) 𝒱₀ (thr d L) none) Set.univ (k ⟨⟩) Q)) : sProp 𝕄)
      ⊢ wp (M := 𝕄) frame (wpE (defs₀ (F := F)) 𝒱₀ (thr d L) none) Set.univ
        (Prog.lift (.enqueueDma (Memref.whole main_v30_scv : Memref sig .scVector .hbm S5008 .f32) (.here (Memref.whole cc0_scratch1 : Memref sig .scVector .vmem S5008 .f32)) (.dma cc0_scoped1.sem) h1 h2 h3) >>= fun _ =>
          Prog.lift (.waitDma2 cc0_scoped1.sem (Memref.whole main_v30_scv : Memref sig .scVector .hbm S5008 .f32) (Memref.whole cc0_scratch1 : Memref sig .scVector .vmem S5008 .f32) h4 h5) >>= k) Q := by
  iintro ⟨#Hmw, Hs, Hd, Hsem, ⟨%W', %hW', HO⟩, HQ⟩
  ihave Hs' := (Entails.of_eq (show ((thr d L).loc main_v30_scv ↦{q} f : sProp 𝕄)
    = ((Memref.whole main_v30_scv : Memref sig .scVector .hbm S5008 .f32).view.loc (thr d L) ↦{q} f) from rfl)) $$ Hs
  ihave Hd' := (Entails.of_eq (show ((thr d L).loc cc0_scratch1 ↦{fullShare} g : sProp 𝕄)
    = ((Memref.whole cc0_scratch1 : Memref sig .scVector .vmem S5008 .f32).view.loc (thr d L) ↦{fullShare} g) from rfl)) $$ Hd
  sl_exec
  ihave Hd2 := (Entails.of_eq (show ((Memref.whole cc0_scratch1 : Memref sig .scVector .vmem S5008 .f32).view.loc (thr d L) ↦{fullShare}
        View.write (Elt F) (Memref.whole cc0_scratch1 : Memref sig .scVector .vmem S5008 .f32).view g (cp1.sl.dma0 (f := f)) Finset.univ : sProp 𝕄) = ((thr d L).loc cc0_scratch1 ↦{fullShare} f)
      from congrArg _ (View.write_whole_univ _ _ _))) $$ Hd'
  ihave Hsem' := (Entails.of_eq (show (semVal (thr d L, SemLoc.dma ⟨1, _⟩) 0 : sProp 𝕄) = semVal (thr d L, SemLoc.dma cc0_scoped1.sem) 0 from rfl)) $$ Hsem
  iapply HQ $$ Hs' Hd2 Hsem'
  iexists _
  isplitr; swap; · iexact HO
  ipureintro
  exact fun p hp => (Finset.mem_insert.mp hp).elim (fun h => Or.inr (h ▸ rfl)) (hW' p)

theorem cp2 (d : Dev nD) (L : grid0.Coords) {α : Type} {q : PosShare TreeShare} {f g : Vec F S5008 .f32} {O : CellTallies nD τ sig (HIx 1)} {W : Waits sig (HIx 1)}
    {h1 h2 h3 h4 h5} {k : PUnit → Prog (TpuEff nD τ sig (Elt F) Λ₀ (.scVector (cV L) (jV L))) α} {Q : α → sProp 𝕄} :
    (iprop(Transfers.MayWaits (thr d L) (none : HIx 1) O ∗ ((thr d L).loc main_v35_scv ↦{q} f) ∗ ((thr d L).loc cc0_scratch2 ↦{fullShare} g)
        ∗ semVal (thr d L, SemLoc.dma cc0_scoped2.sem) 0 ∗ due d L O W
        ∗ (((thr d L).loc main_v35_scv ↦{q} f) -∗ ((thr d L).loc cc0_scratch2 ↦{fullShare} f) -∗ semVal (thr d L, SemLoc.dma cc0_scoped2.sem) 0 -∗ due d L O W
          -∗ wp (M := 𝕄) frame (wpE (defs₀ (F := F)) 𝒱₀ (thr d L) none) Set.univ (k ⟨⟩) Q)) : sProp 𝕄)
      ⊢ wp (M := 𝕄) frame (wpE (defs₀ (F := F)) 𝒱₀ (thr d L) none) Set.univ
        (Prog.lift (.enqueueDma (Memref.whole main_v35_scv : Memref sig .scVector .hbm S5008 .f32) (.here (Memref.whole cc0_scratch2 : Memref sig .scVector .vmem S5008 .f32)) (.dma cc0_scoped2.sem) h1 h2 h3) >>= fun _ =>
          Prog.lift (.waitDma2 cc0_scoped2.sem (Memref.whole main_v35_scv : Memref sig .scVector .hbm S5008 .f32) (Memref.whole cc0_scratch2 : Memref sig .scVector .vmem S5008 .f32) h4 h5) >>= k) Q := by
  iintro ⟨#Hmw, Hs, Hd, Hsem, ⟨%W', %hW', HO⟩, HQ⟩
  ihave Hs' := (Entails.of_eq (show ((thr d L).loc main_v35_scv ↦{q} f : sProp 𝕄)
    = ((Memref.whole main_v35_scv : Memref sig .scVector .hbm S5008 .f32).view.loc (thr d L) ↦{q} f) from rfl)) $$ Hs
  ihave Hd' := (Entails.of_eq (show ((thr d L).loc cc0_scratch2 ↦{fullShare} g : sProp 𝕄)
    = ((Memref.whole cc0_scratch2 : Memref sig .scVector .vmem S5008 .f32).view.loc (thr d L) ↦{fullShare} g) from rfl)) $$ Hd
  sl_exec
  ihave Hd2 := (Entails.of_eq (show ((Memref.whole cc0_scratch2 : Memref sig .scVector .vmem S5008 .f32).view.loc (thr d L) ↦{fullShare}
        View.write (Elt F) (Memref.whole cc0_scratch2 : Memref sig .scVector .vmem S5008 .f32).view g (cp2.sl.dma0 (f := f)) Finset.univ : sProp 𝕄) = ((thr d L).loc cc0_scratch2 ↦{fullShare} f)
      from congrArg _ (View.write_whole_univ _ _ _))) $$ Hd'
  ihave Hsem' := (Entails.of_eq (show (semVal (thr d L, SemLoc.dma ⟨2, _⟩) 0 : sProp 𝕄) = semVal (thr d L, SemLoc.dma cc0_scoped2.sem) 0 from rfl)) $$ Hsem
  iapply HQ $$ Hs' Hd2 Hsem'
  iexists _
  isplitr; swap; · iexact HO
  ipureintro
  exact fun p hp => (Finset.mem_insert.mp hp).elim (fun h => Or.inr (h ▸ rfl)) (hW' p)

theorem cp3 (d : Dev nD) (L : grid0.Coords) {α : Type} {q : PosShare TreeShare} {f g : Vec F S5008 .f32} {O : CellTallies nD τ sig (HIx 1)} {W : Waits sig (HIx 1)}
    {h1 h2 h3 h4 h5} {k : PUnit → Prog (TpuEff nD τ sig (Elt F) Λ₀ (.scVector (cV L) (jV L))) α} {Q : α → sProp 𝕄} :
    (iprop(Transfers.MayWaits (thr d L) (none : HIx 1) O ∗ ((thr d L).loc main_v40_scv ↦{q} f) ∗ ((thr d L).loc cc0_scratch3 ↦{fullShare} g)
        ∗ semVal (thr d L, SemLoc.dma cc0_scoped3.sem) 0 ∗ due d L O W
        ∗ (((thr d L).loc main_v40_scv ↦{q} f) -∗ ((thr d L).loc cc0_scratch3 ↦{fullShare} f) -∗ semVal (thr d L, SemLoc.dma cc0_scoped3.sem) 0 -∗ due d L O W
          -∗ wp (M := 𝕄) frame (wpE (defs₀ (F := F)) 𝒱₀ (thr d L) none) Set.univ (k ⟨⟩) Q)) : sProp 𝕄)
      ⊢ wp (M := 𝕄) frame (wpE (defs₀ (F := F)) 𝒱₀ (thr d L) none) Set.univ
        (Prog.lift (.enqueueDma (Memref.whole main_v40_scv : Memref sig .scVector .hbm S5008 .f32) (.here (Memref.whole cc0_scratch3 : Memref sig .scVector .vmem S5008 .f32)) (.dma cc0_scoped3.sem) h1 h2 h3) >>= fun _ =>
          Prog.lift (.waitDma2 cc0_scoped3.sem (Memref.whole main_v40_scv : Memref sig .scVector .hbm S5008 .f32) (Memref.whole cc0_scratch3 : Memref sig .scVector .vmem S5008 .f32) h4 h5) >>= k) Q := by
  iintro ⟨#Hmw, Hs, Hd, Hsem, ⟨%W', %hW', HO⟩, HQ⟩
  ihave Hs' := (Entails.of_eq (show ((thr d L).loc main_v40_scv ↦{q} f : sProp 𝕄)
    = ((Memref.whole main_v40_scv : Memref sig .scVector .hbm S5008 .f32).view.loc (thr d L) ↦{q} f) from rfl)) $$ Hs
  ihave Hd' := (Entails.of_eq (show ((thr d L).loc cc0_scratch3 ↦{fullShare} g : sProp 𝕄)
    = ((Memref.whole cc0_scratch3 : Memref sig .scVector .vmem S5008 .f32).view.loc (thr d L) ↦{fullShare} g) from rfl)) $$ Hd
  sl_exec
  ihave Hd2 := (Entails.of_eq (show ((Memref.whole cc0_scratch3 : Memref sig .scVector .vmem S5008 .f32).view.loc (thr d L) ↦{fullShare}
        View.write (Elt F) (Memref.whole cc0_scratch3 : Memref sig .scVector .vmem S5008 .f32).view g (cp3.sl.dma0 (f := f)) Finset.univ : sProp 𝕄) = ((thr d L).loc cc0_scratch3 ↦{fullShare} f)
      from congrArg _ (View.write_whole_univ _ _ _))) $$ Hd'
  ihave Hsem' := (Entails.of_eq (show (semVal (thr d L, SemLoc.dma ⟨3, _⟩) 0 : sProp 𝕄) = semVal (thr d L, SemLoc.dma cc0_scoped3.sem) 0 from rfl)) $$ Hsem
  iapply HQ $$ Hs' Hd2 Hsem'
  iexists _
  isplitr; swap; · iexact HO
  ipureintro
  exact fun p hp => (Finset.mem_insert.mp hp).elim (fun h => Or.inr (h ▸ rfl)) (hW' p)

theorem cp4 (d : Dev nD) (L : grid0.Coords) {α : Type} {q : PosShare TreeShare} {f g : Vec F S5008 .f32} {O : CellTallies nD τ sig (HIx 1)} {W : Waits sig (HIx 1)}
    {h1 h2 h3 h4 h5} {k : PUnit → Prog (TpuEff nD τ sig (Elt F) Λ₀ (.scVector (cV L) (jV L))) α} {Q : α → sProp 𝕄} :
    (iprop(Transfers.MayWaits (thr d L) (none : HIx 1) O ∗ ((thr d L).loc main_v20_scv ↦{q} f) ∗ ((thr d L).loc cc0_scratch4 ↦{fullShare} g)
        ∗ semVal (thr d L, SemLoc.dma cc0_scoped4.sem) 0 ∗ due d L O W
        ∗ (((thr d L).loc main_v20_scv ↦{q} f) -∗ ((thr d L).loc cc0_scratch4 ↦{fullShare} f) -∗ semVal (thr d L, SemLoc.dma cc0_scoped4.sem) 0 -∗ due d L O W
          -∗ wp (M := 𝕄) frame (wpE (defs₀ (F := F)) 𝒱₀ (thr d L) none) Set.univ (k ⟨⟩) Q)) : sProp 𝕄)
      ⊢ wp (M := 𝕄) frame (wpE (defs₀ (F := F)) 𝒱₀ (thr d L) none) Set.univ
        (Prog.lift (.enqueueDma (Memref.whole main_v20_scv : Memref sig .scVector .hbm S5008 .f32) (.here (Memref.whole cc0_scratch4 : Memref sig .scVector .vmem S5008 .f32)) (.dma cc0_scoped4.sem) h1 h2 h3) >>= fun _ =>
          Prog.lift (.waitDma2 cc0_scoped4.sem (Memref.whole main_v20_scv : Memref sig .scVector .hbm S5008 .f32) (Memref.whole cc0_scratch4 : Memref sig .scVector .vmem S5008 .f32) h4 h5) >>= k) Q := by
  iintro ⟨#Hmw, Hs, Hd, Hsem, ⟨%W', %hW', HO⟩, HQ⟩
  ihave Hs' := (Entails.of_eq (show ((thr d L).loc main_v20_scv ↦{q} f : sProp 𝕄)
    = ((Memref.whole main_v20_scv : Memref sig .scVector .hbm S5008 .f32).view.loc (thr d L) ↦{q} f) from rfl)) $$ Hs
  ihave Hd' := (Entails.of_eq (show ((thr d L).loc cc0_scratch4 ↦{fullShare} g : sProp 𝕄)
    = ((Memref.whole cc0_scratch4 : Memref sig .scVector .vmem S5008 .f32).view.loc (thr d L) ↦{fullShare} g) from rfl)) $$ Hd
  sl_exec
  ihave Hd2 := (Entails.of_eq (show ((Memref.whole cc0_scratch4 : Memref sig .scVector .vmem S5008 .f32).view.loc (thr d L) ↦{fullShare}
        View.write (Elt F) (Memref.whole cc0_scratch4 : Memref sig .scVector .vmem S5008 .f32).view g (cp4.sl.dma0 (f := f)) Finset.univ : sProp 𝕄) = ((thr d L).loc cc0_scratch4 ↦{fullShare} f)
      from congrArg _ (View.write_whole_univ _ _ _))) $$ Hd'
  ihave Hsem' := (Entails.of_eq (show (semVal (thr d L, SemLoc.dma ⟨4, _⟩) 0 : sProp 𝕄) = semVal (thr d L, SemLoc.dma cc0_scoped4.sem) 0 from rfl)) $$ Hsem
  iapply HQ $$ Hs' Hd2 Hsem'
  iexists _
  isplitr; swap; · iexact HO
  ipureintro
  exact fun p hp => (Finset.mem_insert.mp hp).elim (fun h => Or.inr (h ▸ rfl)) (hW' p)

theorem cp5 (d : Dev nD) (L : grid0.Coords) {α : Type} {q : PosShare TreeShare} {f g : Vec F S16 .f32} {O : CellTallies nD τ sig (HIx 1)} {W : Waits sig (HIx 1)}
    {h1 h2 h3 h4 h5} {k : PUnit → Prog (TpuEff nD τ sig (Elt F) Λ₀ (.scVector (cV L) (jV L))) α} {Q : α → sProp 𝕄} :
    (iprop(Transfers.MayWaits (thr d L) (none : HIx 1) O ∗ ((thr d L).loc main_v16_scv ↦{q} f) ∗ ((thr d L).loc cc0_scratch5 ↦{fullShare} g)
        ∗ semVal (thr d L, SemLoc.dma cc0_scoped5.sem) 0 ∗ due d L O W
        ∗ (((thr d L).loc main_v16_scv ↦{q} f) -∗ ((thr d L).loc cc0_scratch5 ↦{fullShare} f) -∗ semVal (thr d L, SemLoc.dma cc0_scoped5.sem) 0 -∗ due d L O W
          -∗ wp (M := 𝕄) frame (wpE (defs₀ (F := F)) 𝒱₀ (thr d L) none) Set.univ (k ⟨⟩) Q)) : sProp 𝕄)
      ⊢ wp (M := 𝕄) frame (wpE (defs₀ (F := F)) 𝒱₀ (thr d L) none) Set.univ
        (Prog.lift (.enqueueDma (Memref.whole main_v16_scv : Memref sig .scVector .hbm S16 .f32) (.here (Memref.whole cc0_scratch5 : Memref sig .scVector .vmem S16 .f32)) (.dma cc0_scoped5.sem) h1 h2 h3) >>= fun _ =>
          Prog.lift (.waitDma2 cc0_scoped5.sem (Memref.whole main_v16_scv : Memref sig .scVector .hbm S16 .f32) (Memref.whole cc0_scratch5 : Memref sig .scVector .vmem S16 .f32) h4 h5) >>= k) Q := by
  iintro ⟨#Hmw, Hs, Hd, Hsem, ⟨%W', %hW', HO⟩, HQ⟩
  ihave Hs' := (Entails.of_eq (show ((thr d L).loc main_v16_scv ↦{q} f : sProp 𝕄)
    = ((Memref.whole main_v16_scv : Memref sig .scVector .hbm S16 .f32).view.loc (thr d L) ↦{q} f) from rfl)) $$ Hs
  ihave Hd' := (Entails.of_eq (show ((thr d L).loc cc0_scratch5 ↦{fullShare} g : sProp 𝕄)
    = ((Memref.whole cc0_scratch5 : Memref sig .scVector .vmem S16 .f32).view.loc (thr d L) ↦{fullShare} g) from rfl)) $$ Hd
  sl_exec
  ihave Hd2 := (Entails.of_eq (show ((Memref.whole cc0_scratch5 : Memref sig .scVector .vmem S16 .f32).view.loc (thr d L) ↦{fullShare}
        View.write (Elt F) (Memref.whole cc0_scratch5 : Memref sig .scVector .vmem S16 .f32).view g (cp5.sl.dma0 (f := f)) Finset.univ : sProp 𝕄) = ((thr d L).loc cc0_scratch5 ↦{fullShare} f)
      from congrArg _ (View.write_whole_univ _ _ _))) $$ Hd'
  ihave Hsem' := (Entails.of_eq (show (semVal (thr d L, SemLoc.dma ⟨5, _⟩) 0 : sProp 𝕄) = semVal (thr d L, SemLoc.dma cc0_scoped5.sem) 0 from rfl)) $$ Hsem
  iapply HQ $$ Hs' Hd2 Hsem'
  iexists _
  isplitr; swap; · iexact HO
  ipureintro
  exact fun p hp => (Finset.mem_insert.mp hp).elim (fun h => Or.inr (h ▸ rfl)) (hW' p)

end Cert.Proof.Nms

end
-- ==== Proof.Fill.lean ====
/-
  The tile's fills: the keep flags cleared, the kept slots set to a box that overlaps nothing.
-/
module

public import proofs.«01_k».proof.Proof.Copies

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

set_option maxHeartbeats 1000000 in
/-- A store over a rectangle of a whole buffer of the tile's memory. -/
theorem sr_gen (d : Dev nD) (L : grid0.Coords) {α : Type} (n : Fin (sig.nNear .scVector .vmem)) (hn : sig.names .scVector .vmem n = true)
    (r : Rect (Ref.mk (sig := sig) (κ := .scVector) .vmem n hn).ty.shape)
    (w : Vec F r.shape (Ref.mk (sig := sig) (κ := .scVector) .vmem n hn).ty.elt)
    (hx : ((Memref.whole (Ref.mk (sig := sig) (κ := .scVector) .vmem n hn)).access r).Stores Finset.univ)
    (hm : Finset.univ = Finset.univ ∨ ∀ a, r.stride a = 1)
    (k : PUnit → Prog (TpuEff nD τ sig (Elt F) Λ₀ (.scVector (cV L) (jV L))) α)
    (f : Vec F (Ref.mk (sig := sig) (κ := .scVector) .vmem n hn).ty.shape (Ref.mk (sig := sig) (κ := .scVector) .vmem n hn).ty.elt) (Q : α → sProp 𝕄) :
    (iprop((thr d L).loc (Ref.mk (sig := sig) (κ := .scVector) .vmem n hn) ↦{fullShare} f) : sProp 𝕄)
      ⊢ iprop((∀ g : Vec F (Ref.mk (sig := sig) (κ := .scVector) .vmem n hn).ty.shape (Ref.mk (sig := sig) (κ := .scVector) .vmem n hn).ty.elt,
          ⌜∀ x, (∃ y, x = r.emb y ∧ g x = w y) ∨ ((∀ y, x ≠ r.emb y) ∧ g x = f x)⌝ -∗ ((thr d L).loc (Ref.mk (sig := sig) (κ := .scVector) .vmem n hn) ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (Prog.lift (.store (Memref.whole (Ref.mk (sig := sig) (κ := .scVector) .vmem n hn)) r w Finset.univ hx hm) >>= k) Q) := by
  iintro H HQ
  iapply (wp_store 𝒱₀ (thr d L) none Set.univ (m := Memref.whole (Ref.mk (sig := sig) (κ := .scVector) .vmem n hn))
    (r := r) (w := w) (hx := hx) (hm := hm) (S := Finset.univ) (Finset.subset_univ _)) $$ H
  iintro H
  iapply HQ $$ [] H
  ipureintro
  intro x
  by_cases hx' : ∃ y, x = r.emb y
  · obtain ⟨y, rfl⟩ := hx'
    refine Or.inl ⟨y, rfl, ?_⟩
    exact (View.write_emb_of_mem (v := (Memref.whole (Ref.mk (sig := sig) (κ := .scVector) .vmem n hn)).access r) f w (Finset.mem_univ y)).trans (by simp)
  · push Not at hx'
    refine Or.inr ⟨hx', ?_⟩
    refine View.write_of_not_mem (v := (Memref.whole (Ref.mk (sig := sig) (κ := .scVector) .vmem n hn)).access r) f w _ ?_
    intro hmem
    obtain ⟨y, -, hy⟩ := Finset.mem_map.mp hmem
    exact hx' y hy.symm

/-- After a store of a constant over the next sixteen, sixteen more hold it. -/
theorem fillA {c : F .f32} {k : ℕ} {f g : Vec F S5008 .f32} {w : Vec F S16 .f32} {off : Fin S5008.rank → ℕ} {inb : ∀ a, off a + S16.size a ≤ S5008.size a}
    (ho : off = ![16 * k]) (hw : ∀ y, w y = c) (hf : ∀ x, (x 0).val < 16 * k → f x = c)
    (hg : ∀ x, (∃ y, x = (Rect.unit (s := S5008) off S16.size inb).emb y ∧ g x = w y) ∨ ((∀ y, x ≠ (Rect.unit (s := S5008) off S16.size inb).emb y) ∧ g x = f x)) :
    ∀ x, (x 0).val < 16 * (k + 1) → g x = c := by
  subst ho
  intro x hx
  rcases hg x with ⟨y, -, hy⟩ | ⟨hy, hgx⟩
  · exact hy.trans (hw y)
  · rw [hgx]
    by_cases h : (x 0).val < 16 * k
    · exact hf x h
    · refine absurd ?_ (hy fun a => ⟨(x 0).val - 16 * k, by fin_cases a; show _ < 16; omega⟩)
      funext a
      refine Fin.ext ?_
      fin_cases a
      show (x 0).val = 16 * k + 1 * ((x 0).val - 16 * k)
      omega

/-- After a store of a constant over the next sixteen, sixteen more hold it. -/
theorem fillB {c : F .f32} {k : ℕ} {f g : Vec F S5024 .f32} {w : Vec F S16 .f32} {off : Fin S5024.rank → ℕ} {inb : ∀ a, off a + S16.size a ≤ S5024.size a}
    (ho : off = ![16 * k]) (hw : ∀ y, w y = c) (hf : ∀ x, (x 0).val < 16 * k → f x = c)
    (hg : ∀ x, (∃ y, x = (Rect.unit (s := S5024) off S16.size inb).emb y ∧ g x = w y) ∨ ((∀ y, x ≠ (Rect.unit (s := S5024) off S16.size inb).emb y) ∧ g x = f x)) :
    ∀ x, (x 0).val < 16 * (k + 1) → g x = c := by
  subst ho
  intro x hx
  rcases hg x with ⟨y, -, hy⟩ | ⟨hy, hgx⟩
  · exact hy.trans (hw y)
  · rw [hgx]
    by_cases h : (x 0).val < 16 * k
    · exact hf x h
    · refine absurd ?_ (hy fun a => ⟨(x 0).val - 16 * k, by fin_cases a; show _ < 16; omega⟩)
      funext a
      refine Fin.ext ?_
      fin_cases a
      show (x 0).val = 16 * k + 1 * ((x 0).val - 16 * k)
      omega

theorem lq11 (d : Dev nD) (L : grid0.Coords) {α : Type} {f : Vec F S5008 .f32}
    {r : Rect S5008} {hl : (Memref.whole cc0_scratch11 : Memref sig .scVector .vmem S5008 .f32).view.LoadsAt r.toLoadRect}
    {k : Vec F r.shape .f32 → Prog (TpuEff nD τ sig (Elt F) Λ₀ (.scVector (cV L) (jV L))) α} {Q : α → sProp 𝕄} :
    (iprop((thr d L).loc cc0_scratch11 ↦{fullShare} f) : sProp 𝕄)
      ⊢ iprop((((thr d L).loc cc0_scratch11 ↦{fullShare} f) -∗ wp (M := 𝕄) frame (wpE (defs₀ (F := F)) 𝒱₀ (thr d L) none) Set.univ (k fun x => f (r.emb x)) Q)
        -∗ wp (M := 𝕄) frame (wpE (defs₀ (F := F)) 𝒱₀ (thr d L) none) Set.univ
          (Prog.lift (.load (Memref.whole cc0_scratch11 : Memref sig .scVector .vmem S5008 .f32) r.toLoadRect hl) >>= k) Q) :=
  lr_gen d L 11 rfl r hl k f _ rfl Q

theorem sr11 (d : Dev nD) (L : grid0.Coords) {α : Type} {c : F .f32} {t : ℕ} {f : Vec F S5008 .f32} {w : Vec F S16 .f32}
    {off : Fin S5008.rank → ℕ} {inb : ∀ a, off a + S16.size a ≤ S5008.size a} (ho : off = ![16 * t]) (hw : ∀ y, w y = c) (hf : ∀ x, (x 0).val < 16 * t → f x = c)
    {hx : ((Memref.whole cc0_scratch11 : Memref sig .scVector .vmem S5008 .f32).access (Rect.unit (s := S5008) off S16.size inb)).Stores Finset.univ} {hm}
    {k : PUnit → Prog (TpuEff nD τ sig (Elt F) Λ₀ (.scVector (cV L) (jV L))) α} {Q : α → sProp 𝕄} :
    (iprop((thr d L).loc cc0_scratch11 ↦{fullShare} f) : sProp 𝕄)
      ⊢ iprop((∀ g : Vec F S5008 .f32, ⌜∀ x, (x 0).val < 16 * (t + 1) → g x = c⌝ -∗ ((thr d L).loc cc0_scratch11 ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (Prog.lift (.store (Memref.whole cc0_scratch11 : Memref sig .scVector .vmem S5008 .f32) (Rect.unit (s := S5008) off S16.size inb) w Finset.univ hx hm) >>= k) Q) := by
  iintro H HQ
  iapply (sr_gen d L 11 rfl (Rect.unit (s := S5008) off S16.size inb) w hx hm k f Q) $$ H
  iintro %g %hg H
  iapply HQ $$ [] H
  ipureintro
  exact fillA ho hw hf hg

theorem lq6 (d : Dev nD) (L : grid0.Coords) {α : Type} {f : Vec F S5024 .f32}
    {r : Rect S5024} {hl : (Memref.whole cc0_scratch6 : Memref sig .scVector .vmem S5024 .f32).view.LoadsAt r.toLoadRect}
    {k : Vec F r.shape .f32 → Prog (TpuEff nD τ sig (Elt F) Λ₀ (.scVector (cV L) (jV L))) α} {Q : α → sProp 𝕄} :
    (iprop((thr d L).loc cc0_scratch6 ↦{fullShare} f) : sProp 𝕄)
      ⊢ iprop((((thr d L).loc cc0_scratch6 ↦{fullShare} f) -∗ wp (M := 𝕄) frame (wpE (defs₀ (F := F)) 𝒱₀ (thr d L) none) Set.univ (k fun x => f (r.emb x)) Q)
        -∗ wp (M := 𝕄) frame (wpE (defs₀ (F := F)) 𝒱₀ (thr d L) none) Set.univ
          (Prog.lift (.load (Memref.whole cc0_scratch6 : Memref sig .scVector .vmem S5024 .f32) r.toLoadRect hl) >>= k) Q) :=
  lr_gen d L 6 rfl r hl k f _ rfl Q

theorem sr6 (d : Dev nD) (L : grid0.Coords) {α : Type} {c : F .f32} {t : ℕ} {f : Vec F S5024 .f32} {w : Vec F S16 .f32}
    {off : Fin S5024.rank → ℕ} {inb : ∀ a, off a + S16.size a ≤ S5024.size a} (ho : off = ![16 * t]) (hw : ∀ y, w y = c) (hf : ∀ x, (x 0).val < 16 * t → f x = c)
    {hx : ((Memref.whole cc0_scratch6 : Memref sig .scVector .vmem S5024 .f32).access (Rect.unit (s := S5024) off S16.size inb)).Stores Finset.univ} {hm}
    {k : PUnit → Prog (TpuEff nD τ sig (Elt F) Λ₀ (.scVector (cV L) (jV L))) α} {Q : α → sProp 𝕄} :
    (iprop((thr d L).loc cc0_scratch6 ↦{fullShare} f) : sProp 𝕄)
      ⊢ iprop((∀ g : Vec F S5024 .f32, ⌜∀ x, (x 0).val < 16 * (t + 1) → g x = c⌝ -∗ ((thr d L).loc cc0_scratch6 ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (Prog.lift (.store (Memref.whole cc0_scratch6 : Memref sig .scVector .vmem S5024 .f32) (Rect.unit (s := S5024) off S16.size inb) w Finset.univ hx hm) >>= k) Q) := by
  iintro H HQ
  iapply (sr_gen d L 6 rfl (Rect.unit (s := S5024) off S16.size inb) w hx hm k f Q) $$ H
  iintro %g %hg H
  iapply HQ $$ [] H
  ipureintro
  exact fillB ho hw hf hg

theorem lq7 (d : Dev nD) (L : grid0.Coords) {α : Type} {f : Vec F S5024 .f32}
    {r : Rect S5024} {hl : (Memref.whole cc0_scratch7 : Memref sig .scVector .vmem S5024 .f32).view.LoadsAt r.toLoadRect}
    {k : Vec F r.shape .f32 → Prog (TpuEff nD τ sig (Elt F) Λ₀ (.scVector (cV L) (jV L))) α} {Q : α → sProp 𝕄} :
    (iprop((thr d L).loc cc0_scratch7 ↦{fullShare} f) : sProp 𝕄)
      ⊢ iprop((((thr d L).loc cc0_scratch7 ↦{fullShare} f) -∗ wp (M := 𝕄) frame (wpE (defs₀ (F := F)) 𝒱₀ (thr d L) none) Set.univ (k fun x => f (r.emb x)) Q)
        -∗ wp (M := 𝕄) frame (wpE (defs₀ (F := F)) 𝒱₀ (thr d L) none) Set.univ
          (Prog.lift (.load (Memref.whole cc0_scratch7 : Memref sig .scVector .vmem S5024 .f32) r.toLoadRect hl) >>= k) Q) :=
  lr_gen d L 7 rfl r hl k f _ rfl Q

theorem sr7 (d : Dev nD) (L : grid0.Coords) {α : Type} {c : F .f32} {t : ℕ} {f : Vec F S5024 .f32} {w : Vec F S16 .f32}
    {off : Fin S5024.rank → ℕ} {inb : ∀ a, off a + S16.size a ≤ S5024.size a} (ho : off = ![16 * t]) (hw : ∀ y, w y = c) (hf : ∀ x, (x 0).val < 16 * t → f x = c)
    {hx : ((Memref.whole cc0_scratch7 : Memref sig .scVector .vmem S5024 .f32).access (Rect.unit (s := S5024) off S16.size inb)).Stores Finset.univ} {hm}
    {k : PUnit → Prog (TpuEff nD τ sig (Elt F) Λ₀ (.scVector (cV L) (jV L))) α} {Q : α → sProp 𝕄} :
    (iprop((thr d L).loc cc0_scratch7 ↦{fullShare} f) : sProp 𝕄)
      ⊢ iprop((∀ g : Vec F S5024 .f32, ⌜∀ x, (x 0).val < 16 * (t + 1) → g x = c⌝ -∗ ((thr d L).loc cc0_scratch7 ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (Prog.lift (.store (Memref.whole cc0_scratch7 : Memref sig .scVector .vmem S5024 .f32) (Rect.unit (s := S5024) off S16.size inb) w Finset.univ hx hm) >>= k) Q) := by
  iintro H HQ
  iapply (sr_gen d L 7 rfl (Rect.unit (s := S5024) off S16.size inb) w hx hm k f Q) $$ H
  iintro %g %hg H
  iapply HQ $$ [] H
  ipureintro
  exact fillB ho hw hf hg

theorem lq8 (d : Dev nD) (L : grid0.Coords) {α : Type} {f : Vec F S5024 .f32}
    {r : Rect S5024} {hl : (Memref.whole cc0_scratch8 : Memref sig .scVector .vmem S5024 .f32).view.LoadsAt r.toLoadRect}
    {k : Vec F r.shape .f32 → Prog (TpuEff nD τ sig (Elt F) Λ₀ (.scVector (cV L) (jV L))) α} {Q : α → sProp 𝕄} :
    (iprop((thr d L).loc cc0_scratch8 ↦{fullShare} f) : sProp 𝕄)
      ⊢ iprop((((thr d L).loc cc0_scratch8 ↦{fullShare} f) -∗ wp (M := 𝕄) frame (wpE (defs₀ (F := F)) 𝒱₀ (thr d L) none) Set.univ (k fun x => f (r.emb x)) Q)
        -∗ wp (M := 𝕄) frame (wpE (defs₀ (F := F)) 𝒱₀ (thr d L) none) Set.univ
          (Prog.lift (.load (Memref.whole cc0_scratch8 : Memref sig .scVector .vmem S5024 .f32) r.toLoadRect hl) >>= k) Q) :=
  lr_gen d L 8 rfl r hl k f _ rfl Q

theorem sr8 (d : Dev nD) (L : grid0.Coords) {α : Type} {c : F .f32} {t : ℕ} {f : Vec F S5024 .f32} {w : Vec F S16 .f32}
    {off : Fin S5024.rank → ℕ} {inb : ∀ a, off a + S16.size a ≤ S5024.size a} (ho : off = ![16 * t]) (hw : ∀ y, w y = c) (hf : ∀ x, (x 0).val < 16 * t → f x = c)
    {hx : ((Memref.whole cc0_scratch8 : Memref sig .scVector .vmem S5024 .f32).access (Rect.unit (s := S5024) off S16.size inb)).Stores Finset.univ} {hm}
    {k : PUnit → Prog (TpuEff nD τ sig (Elt F) Λ₀ (.scVector (cV L) (jV L))) α} {Q : α → sProp 𝕄} :
    (iprop((thr d L).loc cc0_scratch8 ↦{fullShare} f) : sProp 𝕄)
      ⊢ iprop((∀ g : Vec F S5024 .f32, ⌜∀ x, (x 0).val < 16 * (t + 1) → g x = c⌝ -∗ ((thr d L).loc cc0_scratch8 ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (Prog.lift (.store (Memref.whole cc0_scratch8 : Memref sig .scVector .vmem S5024 .f32) (Rect.unit (s := S5024) off S16.size inb) w Finset.univ hx hm) >>= k) Q) := by
  iintro H HQ
  iapply (sr_gen d L 8 rfl (Rect.unit (s := S5024) off S16.size inb) w hx hm k f Q) $$ H
  iintro %g %hg H
  iapply HQ $$ [] H
  ipureintro
  exact fillB ho hw hf hg

theorem lq9 (d : Dev nD) (L : grid0.Coords) {α : Type} {f : Vec F S5024 .f32}
    {r : Rect S5024} {hl : (Memref.whole cc0_scratch9 : Memref sig .scVector .vmem S5024 .f32).view.LoadsAt r.toLoadRect}
    {k : Vec F r.shape .f32 → Prog (TpuEff nD τ sig (Elt F) Λ₀ (.scVector (cV L) (jV L))) α} {Q : α → sProp 𝕄} :
    (iprop((thr d L).loc cc0_scratch9 ↦{fullShare} f) : sProp 𝕄)
      ⊢ iprop((((thr d L).loc cc0_scratch9 ↦{fullShare} f) -∗ wp (M := 𝕄) frame (wpE (defs₀ (F := F)) 𝒱₀ (thr d L) none) Set.univ (k fun x => f (r.emb x)) Q)
        -∗ wp (M := 𝕄) frame (wpE (defs₀ (F := F)) 𝒱₀ (thr d L) none) Set.univ
          (Prog.lift (.load (Memref.whole cc0_scratch9 : Memref sig .scVector .vmem S5024 .f32) r.toLoadRect hl) >>= k) Q) :=
  lr_gen d L 9 rfl r hl k f _ rfl Q

theorem sr9 (d : Dev nD) (L : grid0.Coords) {α : Type} {c : F .f32} {t : ℕ} {f : Vec F S5024 .f32} {w : Vec F S16 .f32}
    {off : Fin S5024.rank → ℕ} {inb : ∀ a, off a + S16.size a ≤ S5024.size a} (ho : off = ![16 * t]) (hw : ∀ y, w y = c) (hf : ∀ x, (x 0).val < 16 * t → f x = c)
    {hx : ((Memref.whole cc0_scratch9 : Memref sig .scVector .vmem S5024 .f32).access (Rect.unit (s := S5024) off S16.size inb)).Stores Finset.univ} {hm}
    {k : PUnit → Prog (TpuEff nD τ sig (Elt F) Λ₀ (.scVector (cV L) (jV L))) α} {Q : α → sProp 𝕄} :
    (iprop((thr d L).loc cc0_scratch9 ↦{fullShare} f) : sProp 𝕄)
      ⊢ iprop((∀ g : Vec F S5024 .f32, ⌜∀ x, (x 0).val < 16 * (t + 1) → g x = c⌝ -∗ ((thr d L).loc cc0_scratch9 ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (Prog.lift (.store (Memref.whole cc0_scratch9 : Memref sig .scVector .vmem S5024 .f32) (Rect.unit (s := S5024) off S16.size inb) w Finset.univ hx hm) >>= k) Q) := by
  iintro H HQ
  iapply (sr_gen d L 9 rfl (Rect.unit (s := S5024) off S16.size inb) w hx hm k f Q) $$ H
  iintro %g %hg H
  iapply HQ $$ [] H
  ipureintro
  exact fillB ho hw hf hg

theorem lq10 (d : Dev nD) (L : grid0.Coords) {α : Type} {f : Vec F S5024 .f32}
    {r : Rect S5024} {hl : (Memref.whole cc0_scratch10 : Memref sig .scVector .vmem S5024 .f32).view.LoadsAt r.toLoadRect}
    {k : Vec F r.shape .f32 → Prog (TpuEff nD τ sig (Elt F) Λ₀ (.scVector (cV L) (jV L))) α} {Q : α → sProp 𝕄} :
    (iprop((thr d L).loc cc0_scratch10 ↦{fullShare} f) : sProp 𝕄)
      ⊢ iprop((((thr d L).loc cc0_scratch10 ↦{fullShare} f) -∗ wp (M := 𝕄) frame (wpE (defs₀ (F := F)) 𝒱₀ (thr d L) none) Set.univ (k fun x => f (r.emb x)) Q)
        -∗ wp (M := 𝕄) frame (wpE (defs₀ (F := F)) 𝒱₀ (thr d L) none) Set.univ
          (Prog.lift (.load (Memref.whole cc0_scratch10 : Memref sig .scVector .vmem S5024 .f32) r.toLoadRect hl) >>= k) Q) :=
  lr_gen d L 10 rfl r hl k f _ rfl Q

theorem sr10 (d : Dev nD) (L : grid0.Coords) {α : Type} {c : F .f32} {t : ℕ} {f : Vec F S5024 .f32} {w : Vec F S16 .f32}
    {off : Fin S5024.rank → ℕ} {inb : ∀ a, off a + S16.size a ≤ S5024.size a} (ho : off = ![16 * t]) (hw : ∀ y, w y = c) (hf : ∀ x, (x 0).val < 16 * t → f x = c)
    {hx : ((Memref.whole cc0_scratch10 : Memref sig .scVector .vmem S5024 .f32).access (Rect.unit (s := S5024) off S16.size inb)).Stores Finset.univ} {hm}
    {k : PUnit → Prog (TpuEff nD τ sig (Elt F) Λ₀ (.scVector (cV L) (jV L))) α} {Q : α → sProp 𝕄} :
    (iprop((thr d L).loc cc0_scratch10 ↦{fullShare} f) : sProp 𝕄)
      ⊢ iprop((∀ g : Vec F S5024 .f32, ⌜∀ x, (x 0).val < 16 * (t + 1) → g x = c⌝ -∗ ((thr d L).loc cc0_scratch10 ↦{fullShare} g)
          -∗ wp (M := 𝕄) frame (wpE (defs₀ (F := F)) 𝒱₀ (thr d L) none) Set.univ (k ⟨⟩) Q)
        -∗ wp (M := 𝕄) frame (wpE (defs₀ (F := F)) 𝒱₀ (thr d L) none) Set.univ
          (Prog.lift (.store (Memref.whole cc0_scratch10 : Memref sig .scVector .vmem S5024 .f32) (Rect.unit (s := S5024) off S16.size inb) w Finset.univ hx hm) >>= k) Q) := by
  iintro H HQ
  iapply (sr_gen d L 10 rfl (Rect.unit (s := S5024) off S16.size inb) w hx hm k f Q) $$ H
  iintro %g %hg H
  iapply HQ $$ [] H
  ipureintro
  exact fillB ho hw hf hg

/-- The keep flags from the start, cleared below `16 k`. -/
abbrev cleared (d : Dev nD) (L : grid0.Coords) (k : ℕ) : sProp 𝕄 :=
  iprop(∃ f : Vec F S5008 .f32, ⌜∀ x, (x 0).val < 16 * k → f x = Scalar.ofBits .f32 0x00000000#32⌝ ∗ ((thr d L).loc cc0_scratch11 ↦{fullShare} f))

theorem t1_spec (d : Dev nD) (L : grid0.Coords) (h1 : k0_cond1 L = 1#1) (v : BitVec 32) (t : Fin k0_t1_loop.trips) (a : PUnit) :
    (cleared (F := F) d L t.val : sProp 𝕄)
      ⊢ wp (M := 𝕄) frame (wpE (defs₀ (F := F)) 𝒱₀ (thr d L) none) Set.univ (t1Body L v h1 t a) fun _ => cleared (F := F) d L (t.val + 1) := by
  iintro ⟨%f, %hf, H⟩
  unfold t1Body k0_t1_body
  dsimp only
  iapply (lq11 d L) $$ H; iintro H
  iapply (sr11 d L (c := Scalar.ofBits .f32 0x00000000#32) (k0_off1_eq t) (fun _ => rfl) hf) $$ H; iintro %g %hg H
  rw [wp_pure]; imodintro
  iexists g
  isplitr
  · ipureintro; exact hg
  · iexact H

/-- The kept slots below `16 k` set. -/
abbrev emptied (d : Dev nD) (L : grid0.Coords) (k : ℕ) : sProp 𝕄 :=
  iprop(∃ f6 f7 f8 f9 f10 : Vec F S5024 .f32, ⌜∀ x, (x 0).val < 16 * k → f6 x = Scalar.ofBits .f32 0x72177617#32⌝
    ∗ ⌜∀ x, (x 0).val < 16 * k → f7 x = Scalar.ofBits .f32 0x72177617#32⌝ ∗ ⌜∀ x, (x 0).val < 16 * k → f8 x = Scalar.ofBits .f32 0xF2177617#32⌝
    ∗ ⌜∀ x, (x 0).val < 16 * k → f9 x = Scalar.ofBits .f32 0xF2177617#32⌝ ∗ ⌜∀ x, (x 0).val < 16 * k → f10 x = Scalar.ofBits .f32 0x00000000#32⌝
    ∗ ((thr d L).loc cc0_scratch6 ↦{fullShare} f6) ∗ ((thr d L).loc cc0_scratch7 ↦{fullShare} f7) ∗ ((thr d L).loc cc0_scratch8 ↦{fullShare} f8)
    ∗ ((thr d L).loc cc0_scratch9 ↦{fullShare} f9) ∗ ((thr d L).loc cc0_scratch10 ↦{fullShare} f10))

theorem t2_spec (d : Dev nD) (L : grid0.Coords) (h1 : k0_cond1 L = 1#1) (v : BitVec 32) (t : Fin k0_t2_loop.trips) (a : PUnit) :
    (emptied (F := F) d L t.val : sProp 𝕄)
      ⊢ wp (M := 𝕄) frame (wpE (defs₀ (F := F)) 𝒱₀ (thr d L) none) Set.univ (t2Body L v h1 t a) fun _ => emptied (F := F) d L (t.val + 1) := by
  iintro ⟨%f6, %f7, %f8, %f9, %f10, %h6, %h7, %h8, %h9, %h10, H6, H7, H8, H9, H10⟩
  unfold t2Body k0_t2_body
  dsimp only
  iapply (lq6 d L) $$ H6; iintro H6
  iapply (sr6 d L (c := _) (k0_off2_eq t) (fun _ => rfl) h6) $$ H6; iintro %g6 %hg6 H6
  iapply (lq7 d L) $$ H7; iintro H7
  iapply (sr7 d L (c := _) (k0_off2_eq t) (fun _ => rfl) h7) $$ H7; iintro %g7 %hg7 H7
  iapply (lq8 d L) $$ H8; iintro H8
  iapply (sr8 d L (c := _) (k0_off2_eq t) (fun _ => rfl) h8) $$ H8; iintro %g8 %hg8 H8
  iapply (lq9 d L) $$ H9; iintro H9
  iapply (sr9 d L (c := _) (k0_off2_eq t) (fun _ => rfl) h9) $$ H9; iintro %g9 %hg9 H9
  iapply (lq10 d L) $$ H10; iintro H10
  iapply (sr10 d L (c := _) (k0_off2_eq t) (fun _ => rfl) h10) $$ H10; iintro %g10 %hg10 H10
  rw [wp_pure]; imodintro
  iexists g6; iexists g7; iexists g8; iexists g9; iexists g10
  isplitr; · ipureintro; exact hg6
  isplitr; · ipureintro; exact hg7
  isplitr; · ipureintro; exact hg8
  isplitr; · ipureintro; exact hg9
  isplitr; · ipureintro; exact hg10
  isplitl [H6]; · iexact H6
  isplitl [H7]; · iexact H7
  isplitl [H8]; · iexact H8
  isplitl [H9]; · iexact H9
  iexact H10

end Cert.Proof.Nms

end
-- ==== Proof.Tile.lean ====
/-
  The tile's whole program: the tables fetched, the pass over its class, the keep flags written out.
-/
module

public import proofs.«01_k».proof.Proof.Fill

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The six tables in the device's memory, at a read share. -/
abbrev ins (d : Dev nD) (L : grid0.Coords) (q : PosShare TreeShare) (T : Tab F) (mt : Vec F S16 .f32) : sProp 𝕄 :=
  iprop(((thr d L).loc main_v25_scv ↦{q} T.yc) ∗ ((thr d L).loc main_v30_scv ↦{q} T.xc) ∗ ((thr d L).loc main_v35_scv ↦{q} T.h) ∗ ((thr d L).loc main_v40_scv ↦{q} T.w) ∗ ((thr d L).loc main_v20_scv ↦{q} T.ord) ∗ ((thr d L).loc main_v16_scv ↦{q} mt))

/-- The semaphores the fetches signal, at zero. -/
abbrev sems6 (d : Dev nD) (L : grid0.Coords) : sProp 𝕄 :=
  iprop(semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0)

/-- The tile's twelve buffers, at some contents. -/
abbrev scr (d : Dev nD) (L : grid0.Coords) : sProp 𝕄 :=
  iprop((∃ g, (thr d L).loc cc0_scratch0 ↦{fullShare} g) ∗ (∃ g, (thr d L).loc cc0_scratch1 ↦{fullShare} g) ∗ (∃ g, (thr d L).loc cc0_scratch2 ↦{fullShare} g) ∗ (∃ g, (thr d L).loc cc0_scratch3 ↦{fullShare} g) ∗ (∃ g, (thr d L).loc cc0_scratch4 ↦{fullShare} g) ∗ (∃ g, (thr d L).loc cc0_scratch5 ↦{fullShare} g) ∗ (∃ g, (thr d L).loc cc0_scratch6 ↦{fullShare} g) ∗ (∃ g, (thr d L).loc cc0_scratch7 ↦{fullShare} g) ∗ (∃ g, (thr d L).loc cc0_scratch8 ↦{fullShare} g) ∗ (∃ g, (thr d L).loc cc0_scratch9 ↦{fullShare} g) ∗ (∃ g, (thr d L).loc cc0_scratch10 ↦{fullShare} g) ∗ (∃ g, (thr d L).loc cc0_scratch11 ↦{fullShare} g))

theorem chk1 (L : grid0.Coords) : k0_chk1 L (classOf L) := by
  intro _ a x
  fin_cases a
  show (BitVec.ofNat 32 (L 1).val).toNat < 16
  have hL : (L 1).val < 16 := (L 1).isLt
  rw [BitVec.toNat_ofNat]
  omega

theorem cond_iff (L : grid0.Coords) : k0_cond1 L = 1#1 ↔ (L 0).val = 0 ∧ (L 1).val < 8 := by
  unfold k0_cond1
  have h0 : (L 0).val < 2 := (L 0).isLt
  have h1 : (L 1).val < 16 := (L 1).isLt
  generalize (L 0).val = a at *
  generalize (L 1).val = b at *
  revert a b
  decide

theorem chk2 (L : grid0.Coords) (h1 : k0_cond1 L = 1#1) : k0_chk2 L (k0_pay102 (classOf L)) := by
  intro _ a x
  fin_cases a
  show (BitVec.ofNat 32 (L 1).val + 8#32).toNat < 16
  have hL : (L 1).val < 8 := ((cond_iff L).mp h1).2
  rw [BitVec.toNat_add, BitVec.toNat_ofNat]
  simp
  omega

set_option maxHeartbeats 4000000 in
theorem part19_spec (d : Dev nD) (L : grid0.Coords) (h1 : k0_cond1 L = 1#1) (q : PosShare TreeShare) (T : Tab F) (mt : Vec F S16 .f32)
    (h3 : k0_chk3 L (cntOf mt L)) {O : CellTallies nD τ sig (HIx 1)} {W : Waits sig (HIx 1)} (Q : _ → sProp 𝕄) :
    (iprop(Transfers.MayWaits (thr d L) (none : HIx 1) O ∗ ins d L q T mt ∗ sems6 d L ∗ scr d L ∗ due d L O W
        ∗ (ins d L q T mt -∗ sems6 d L -∗ tabs d L T -∗ ((thr d L).loc cc0_scratch5 ↦{fullShare} mt) -∗ kept d L st0 -∗ keepB d L st0 -∗ due d L O W
          -∗ Q ⟨lanes, startOf mt L, cntOf mt L, h3, k0_pay108, Scalar.addi (cntOf mt L) 1#32, 2#32, Scalar.divsi (Scalar.addi (cntOf mt L) 1#32) 2#32,
            Scalar.extui (Scalar.cmpi .sgt (Scalar.addi (cntOf mt L) 1#32) 0#32), Scalar.cmpi .slt (Scalar.addi (cntOf mt L) 1#32) 0#32⟩)) : sProp 𝕄)
      ⊢ wp (M := 𝕄) frame (wpE (defs₀ (F := F)) 𝒱₀ (thr d L) none) Set.univ (part19 L (BitVec.ofNat 32 (L 1).val) h1) Q := by
  dsimp only [lanes, startOf, cntOf, classOf]
  iintro ⟨#Hmw, ⟨Hi0, Hi1, Hi2, Hi3, Hi4, Hi5⟩, ⟨Hs0, Hs1, Hs2, Hs3, Hs4, Hs5⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩⟩, HO, HQ⟩
  unfold part19 k0_part19_skel
  dsimp only
  iapply (cp0 d L)
  isplitr; · iexact Hmw
  isplitl [Hi0]; · iexact Hi0
  isplitl [H0]; · iexact H0
  isplitl [Hs0]; · iexact Hs0
  isplitl [HO]; · iexact HO
  iintro Hi0 H0 Hs0 HO
  iapply (cp1 d L)
  isplitr; · iexact Hmw
  isplitl [Hi1]; · iexact Hi1
  isplitl [H1]; · iexact H1
  isplitl [Hs1]; · iexact Hs1
  isplitl [HO]; · iexact HO
  iintro Hi1 H1 Hs1 HO
  iapply (cp2 d L)
  isplitr; · iexact Hmw
  isplitl [Hi2]; · iexact Hi2
  isplitl [H2]; · iexact H2
  isplitl [Hs2]; · iexact Hs2
  isplitl [HO]; · iexact HO
  iintro Hi2 H2 Hs2 HO
  iapply (cp3 d L)
  isplitr; · iexact Hmw
  isplitl [Hi3]; · iexact Hi3
  isplitl [H3]; · iexact H3
  isplitl [Hs3]; · iexact Hs3
  isplitl [HO]; · iexact HO
  iintro Hi3 H3 Hs3 HO
  iapply (cp4 d L)
  isplitr; · iexact Hmw
  isplitl [Hi4]; · iexact Hi4
  isplitl [H4]; · iexact H4
  isplitl [Hs4]; · iexact Hs4
  isplitl [HO]; · iexact HO
  iintro Hi4 H4 Hs4 HO
  iapply (cp5 d L)
  isplitr; · iexact Hmw
  isplitl [Hi5]; · iexact Hi5
  isplitl [H5]; · iexact H5
  isplitl [Hs5]; · iexact Hs5
  isplitl [HO]; · iexact HO
  iintro Hi5 H5 Hs5 HO
  iapply (asm d L (chk1 L))
  iapply (ld5 d L) $$ H5; iintro H5
  iapply (asm d L (chk2 L h1))
  iapply (ld5 d L) $$ H5; iintro H5
  iapply (asm d L h3)
  rw [wp_bind]
  iapply (wp_loop d L k0_t1_loop _ _ _ (fun k _ => cleared (F := F) d L k) (fun t a => t1_spec d L h1 _ t a))
  isplitl [H11]
  · iexists g11
    isplitr
    · ipureintro; intro x hx; omega
    · iexact H11
  iintro %_ ⟨%f11, %h11, H11⟩
  rw [wp_bind]
  iapply (wp_loop d L k0_t2_loop _ _ _ (fun k _ => emptied (F := F) d L k) (fun t a => t2_spec d L h1 _ t a))
  isplitl [H6 H7 H8 H9 H10]
  · iexists g6; iexists g7; iexists g8; iexists g9; iexists g10
    isplitr; · ipureintro; intro x hx; omega
    isplitr; · ipureintro; intro x hx; omega
    isplitr; · ipureintro; intro x hx; omega
    isplitr; · ipureintro; intro x hx; omega
    isplitr; · ipureintro; intro x hx; omega
    isplitl [H6]; · iexact H6
    isplitl [H7]; · iexact H7
    isplitl [H8]; · iexact H8
    isplitl [H9]; · iexact H9
    iexact H10
  iintro %_ ⟨%f6, %f7, %f8, %f9, %f10, %h6, %h7, %h8, %h9, %h10, H6, H7, H8, H9, H10⟩
  have e1 : k0_t1_loop.trips = 313 := by decide
  have e2 : k0_t2_loop.trips = 314 := by decide
  rw [e1] at h11
  rw [e2] at h6 h7 h8 h9 h10
  have q11 : f11 = (st0 (F := F)).keep := funext fun x => h11 x (by have : (x 0).val < 5008 := (x 0).isLt; omega)
  have q6 : f6 = (st0 (F := F)).y1 := funext fun x => h6 x (by have : (x 0).val < 5024 := (x 0).isLt; omega)
  have q7 : f7 = (st0 (F := F)).x1 := funext fun x => h7 x (by have : (x 0).val < 5024 := (x 0).isLt; omega)
  have q8 : f8 = (st0 (F := F)).y2 := funext fun x => h8 x (by have : (x 0).val < 5024 := (x 0).isLt; omega)
  have q9 : f9 = (st0 (F := F)).x2 := funext fun x => h9 x (by have : (x 0).val < 5024 := (x 0).isLt; omega)
  have q10 : f10 = (st0 (F := F)).ar := funext fun x => h10 x (by have : (x 0).val < 5024 := (x 0).isLt; omega)
  subst q11 q6 q7 q8 q9 q10
  rw [wp_pure]; imodintro
  iapply HQ $$ [Hi0 Hi1 Hi2 Hi3 Hi4 Hi5] [Hs0 Hs1 Hs2 Hs3 Hs4 Hs5] [H0 H1 H2 H3 H4] H5 [H6 H7 H8 H9 H10] H11 HO
  · isplitl [Hi0]; · iexact Hi0
    isplitl [Hi1]; · iexact Hi1
    isplitl [Hi2]; · iexact Hi2
    isplitl [Hi3]; · iexact Hi3
    isplitl [Hi4]; · iexact Hi4
    iexact Hi5
  · isplitl [Hs0]; · iexact Hs0
    isplitl [Hs1]; · iexact Hs1
    isplitl [Hs2]; · iexact Hs2
    isplitl [Hs3]; · iexact Hs3
    isplitl [Hs4]; · iexact Hs4
    iexact Hs5
  · isplitl [H0]; · iexact H0
    isplitl [H1]; · iexact H1
    isplitl [H2]; · iexact H2
    isplitl [H3]; · iexact H3
    iexact H4
  · isplitl [H6]; · iexact H6
    isplitl [H7]; · iexact H7
    isplitl [H8]; · iexact H8
    isplitl [H9]; · iexact H9
    iexact H10

/-! ## The flags written out -/

/-- The tile's row of the result, as its copy addresses it. -/
abbrev orowK (L : grid0.Coords) (h1 : k0_cond1 L = 1#1) : Rect S8x5008 := Rect.unit (s := S8x5008) (k0_off11 L) S1x5008.size (k0_off11_inb L h1)
abbrev oRowK (L : grid0.Coords) (h1 : k0_cond1 L = 1#1) : Memref sig .scVector .hbm S5008 .f32 :=
  ((Memref.whole main_v41_scv : Memref sig .scVector .hbm S8x5008 .f32).slice (orowK L h1) (fun _ => rfl)).squeeze S5008 squeezes_S1x5008_S5008

/-- Where element `y` of the row lies in the result. -/
theorem emb_oRowK (L : grid0.Coords) (h1 : k0_cond1 L = 1#1) (y : S5008.Idx) : ∀ a : Fin 2, (((oRowK L h1).view.emb y) a).val = (![(L 1).val, (y 0).val] : Fin 2 → ℕ) a := by
  intro a
  show ((orowK L h1).emb (Shape.reshapeEquiv squeezes_S1x5008_S5008.numel_eq y) a).val = _
  rw [show Shape.reshapeEquiv squeezes_S1x5008_S5008.numel_eq y = Fin.cons ⟨0, Nat.one_pos⟩ y from Shape.reshapeEquiv_cons_one _ y]
  show k0_off11 L a + 1 * _ = _
  rw [k0_off11_eq]
  fin_cases a
  · rfl
  · show 0 + 1 * (y 0).val = (y 0).val
    omega

/-- Contents whose rows are all `f`. -/
def rowsOf (f : Vec F S5008 .f32) : Vec F S8x5008 .f32 := fun x => f fun a => ⟨(x 1).val, by fin_cases a; exact (x 1).isLt⟩

theorem writes_oRowK (L : grid0.Coords) (h1 : k0_cond1 L = 1#1) (g : Vec F S8x5008 .f32) (f : Vec F S5008 .f32) :
    ∀ x ∈ (oRowK L h1).view.set, ((oRowK L h1).view.writes (Elt F) g [⟨Rect.whole S5008, f⟩] : Vec F S8x5008 .f32) x = rowsOf f x := by
  intro x hx
  obtain ⟨y, -, rfl⟩ := Finset.mem_map.mp hx
  have e : (oRowK L h1).view.emb y = ((oRowK L h1).view.slice (Rect.whole S5008)).emb y := by
    show _ = (oRowK L h1).view.emb ((Rect.whole S5008).emb y)
    rw [Rect.emb_whole_apply]
  rw [e]
  refine (View.write_emb_of_mem (v := (oRowK L h1).view.slice (Rect.whole S5008)) g f (Finset.mem_univ y)).trans ?_
  rw [cast_eq, ← e]
  refine congrArg f (funext fun a => Fin.ext ?_)
  fin_cases a
  exact (emb_oRowK L h1 y 1).symm

/-- The pass's remainder takes no trip. -/
theorem t6_ret {E : Type → Type} {σ : Type} (c : BitVec 32) (hok : (k0_t6_loop c).OK) (init : σ) (body : Fin (k0_t6_loop c).trips → σ → Prog E σ) :
    (k0_t6_loop c).for hok init body = .ret init := Scf.for_rem_eq _ _ _ _ _

theorem cp6 (d : Dev nD) (L : grid0.Coords) (hc1 : k0_cond1 L = 1#1) {α : Type} {f : Vec F S5008 .f32} {g : Vec F S8x5008 .f32} {O : CellTallies nD τ sig (HIx 1)} {W : Waits sig (HIx 1)}
    {h1 h2 h3 h4 h5} {k : PUnit → Prog (TpuEff nD τ sig (Elt F) Λ₀ (.scVector (cV L) (jV L))) α} {Q : α → sProp 𝕄} :
    (iprop(Transfers.MayWaits (thr d L) (none : HIx 1) O ∗ ((thr d L).loc cc0_scratch11 ↦{fullShare} f)
        ∗ ((oRowK L hc1).view.loc (thr d L) ↦[(oRowK L hc1).view.set]{fullShare} g)
        ∗ semVal (thr d L, SemLoc.dma cc0_scoped6.sem) 0 ∗ due d L O W
        ∗ (((thr d L).loc cc0_scratch11 ↦{fullShare} f) -∗ ((oRowK L hc1).view.loc (thr d L) ↦[(oRowK L hc1).view.set]{fullShare} rowsOf f)
          -∗ semVal (thr d L, SemLoc.dma cc0_scoped6.sem) 0 -∗ due d L O W
          -∗ wp (M := 𝕄) frame (wpE (defs₀ (F := F)) 𝒱₀ (thr d L) none) Set.univ (k ⟨⟩) Q)) : sProp 𝕄)
      ⊢ wp (M := 𝕄) frame (wpE (defs₀ (F := F)) 𝒱₀ (thr d L) none) Set.univ
        (Prog.lift (.enqueueDma (Memref.whole cc0_scratch11 : Memref sig .scVector .vmem S5008 .f32) (.here (oRowK L hc1)) (.dma cc0_scoped6.sem) h1 h2 h3) >>= fun _ =>
          Prog.lift (.waitDma2 cc0_scoped6.sem (Memref.whole cc0_scratch11 : Memref sig .scVector .vmem S5008 .f32) (oRowK L hc1) h4 h5) >>= k) Q := by
  iintro ⟨#Hmw, Hs, Hd', Hsem, ⟨%W', %hW', HO⟩, HQ⟩
  ihave Hs' := (Entails.of_eq (show ((thr d L).loc cc0_scratch11 ↦{fullShare} f : sProp 𝕄)
    = ((Memref.whole cc0_scratch11 : Memref sig .scVector .vmem S5008 .f32).view.loc (thr d L) ↦{fullShare} f) from rfl)) $$ Hs
  sl_exec
  ihave Hd2 := (Entails.of_eq (show ((oRowK L hc1).view.loc (thr d L) ↦[(oRowK L hc1).view.set]{fullShare}
        (oRowK L hc1).view.writes (Elt F) g [⟨Rect.whole S5008, cp6.sl.dma0 (f := f)⟩] : sProp 𝕄)
      = ((oRowK L hc1).view.loc (thr d L) ↦[(oRowK L hc1).view.set]{fullShare} rowsOf f)
      from pointsTo_congr (writes_oRowK L hc1 g f))) $$ Hd'
  ihave Hsem' := (Entails.of_eq (show (semVal (thr d L, SemLoc.dma ⟨6, _⟩) 0 : sProp 𝕄) = semVal (thr d L, SemLoc.dma cc0_scoped6.sem) 0 from rfl)) $$ Hsem
  iapply HQ $$ Hs' Hd2 Hsem'
  iexists _
  isplitr; swap; · iexact HO
  ipureintro
  exact fun p hp => (Finset.mem_insert.mp hp).elim (fun h => Or.inr (h ▸ rfl)) (hW' p)

/-- The tile's program, on a tile that has a class. -/
theorem body_on (d : Dev nD) (L : grid0.Coords) (hc1 : k0_cond1 L = 1#1) (q : PosShare TreeShare) (T : Tab F) (mt : Vec F S16 .f32) (g : Vec F S8x5008 .f32)
    (hb : (startOf mt L).toNat + (cntOf mt L).toNat ≤ 5000) (hord : ∀ x, (fptosi (φ := .f32) 32 T.ord x).toNat < 5008)
    {O : CellTallies nD τ sig (HIx 1)} {W : Waits sig (HIx 1)} (Q : PUnit → sProp 𝕄) :
    (iprop(Transfers.MayWaits (thr d L) (none : HIx 1) O ∗ ins d L q T mt ∗ sems6 d L ∗ semVal (thr d L, SemLoc.dma cc0_scoped6.sem) 0 ∗ scr d L ∗ due d L O W
        ∗ ((oRowK L hc1).view.loc (thr d L) ↦[(oRowK L hc1).view.set]{fullShare} g)
        ∗ (ins d L q T mt -∗ sems6 d L -∗ semVal (thr d L, SemLoc.dma cc0_scoped6.sem) 0 -∗ scr d L -∗ due d L O W
          -∗ ((oRowK L hc1).view.loc (thr d L) ↦[(oRowK L hc1).view.set]{fullShare} rowsOf (flags T mt L)) -∗ Q ⟨⟩)) : sProp 𝕄)
      ⊢ wp (M := 𝕄) frame (wpE (defs₀ (F := F)) 𝒱₀ (thr d L) none) Set.univ (body L) Q := by
  have h3 : k0_chk3 L (cntOf mt L) := chk3 L rfl (by omega)
  have ht := t3_trips (c := cntOf mt L) rfl (by omega)
  unfold flags
  iintro ⟨#Hmw, Hi, Hs, Hs6, Hscr, HO, Ho, HQ⟩
  unfold body cc0__sc_nms_body_skel
  dsimp only
  rw [dif_pos hc1]
  rw [k0_part19_eq_skeleton, wp_bind]
  iapply (part19_spec d L hc1 q T mt h3)
  isplitr; · iexact Hmw
  isplitl [Hi]; · iexact Hi
  isplitl [Hs]; · iexact Hs
  isplitl [Hscr]; · iexact Hscr
  isplitl [HO]; · iexact HO
  iintro Hi Hs HT H5 HK HF HO
  dsimp only
  rw [wp_bind]
  iapply (wp_loop d L (k0_t3_loop (cntOf mt L)) _ _ _ (fun k acc => iprop(⌜acc = (st T (startOf mt L) (cntOf mt L) k).n⌝ ∗ tabs d L T
      ∗ kept d L (st T (startOf mt L) (cntOf mt L) k) ∗ keepB d L (st T (startOf mt L) (cntOf mt L) k))) (fun t acc => by
    iintro ⟨%ha, HT, HK, HF⟩
    subst ha
    iapply (trip_spec d L hc1 lanes k0_pay108 (startOf mt L) (cntOf mt L) h3 T hb hord (st T (startOf mt L) (cntOf mt L) t) t
      (st_n_le T (startOf mt L) (cntOf mt L) t.val (by have := t.isLt; omega)))
    isplitl [HT]; · iexact HT
    isplitl [HK]; · iexact HK
    isplitl [HF]; · iexact HF
    iintro HT HK HF
    isplitr; · ipureintro; rfl
    isplitl [HT]; · iexact HT
    isplitl [HK]; · iexact HK
    iexact HF))
  isplitl [HT HK HF]
  · isplitr; · ipureintro; rfl
    isplitl [HT]; · iexact HT
    isplitl [HK]; · iexact HK
    iexact HF
  iintro %acc ⟨%ha, HT, HK, HF⟩
  subst ha
  rw [t6_ret, wp_bind, wp_ret]
  imodintro
  iapply (cp6 d L hc1)
  isplitr; · iexact Hmw
  isplitl [HF]; · iexact HF
  isplitl [Ho]; · iexact Ho
  isplitl [Hs6]; · iexact Hs6
  isplitl [HO]; · iexact HO
  iintro HF Ho Hs6 HO
  rw [wp_pure]; imodintro
  icases HT with ⟨H0, H1, H2, H3, H4⟩
  icases HK with ⟨H6, H7, H8, H9, H10⟩
  iapply HQ $$ Hi Hs Hs6 [H0 H1 H2 H3 H4 H5 H6 H7 H8 H9 H10 HF] HO Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact HF

/-- The tile's program, on a tile that has none: it does nothing. -/
theorem body_off (d : Dev nD) (L : grid0.Coords) (hc1 : ¬ k0_cond1 L = 1#1) (Q : PUnit → sProp 𝕄) :
    Q ⟨⟩ ⊢ wp (M := 𝕄) frame (wpE (defs₀ (F := F)) 𝒱₀ (thr d L) none) Set.univ (body L) Q := by
  unfold body cc0__sc_nms_body_skel
  dsimp only
  rw [dif_neg hc1, wp_pure]
  iintro H
  imodintro
  iexact H

end Cert.Proof.Nms

end
-- ==== Proof.Payload.lean ====
/-
  What the call hands each tile and takes back: a share of the six tables and its class's row of the result; and the
  tile's whole task from them.
-/
module

public import proofs.«01_k».proof.Proof.Tile

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Equal read shares: a share halved `n` times -/

/-- The `i`-th of the `2 ^ n` parts of a share. -/
def nth : (n : ℕ) → PosShare TreeShare → Fin (2 ^ n) → PosShare TreeShare
  | 0, q, _ => q
  | n + 1, q, i => Sum.elim (nth n q.left) (nth n q.right) ((finSumFinEquiv.trans (finCongr (by omega : 2 ^ n + 2 ^ n = 2 ^ (n + 1)))).symm i)

theorem pts_parts {ℓ : Loc nD τ sig} (f : Buf (Elt F) ℓ) :
    ∀ (n : ℕ) (q : PosShare TreeShare), (ℓ ↦{q} f : sProp 𝕄) = bigSep Finset.univ fun i : Fin (2 ^ n) => ℓ ↦{nth n q i} f
  | 0, q => (bigSep_univ_of_subsingleton (0 : Fin 1) (Φ := fun i : Fin (2 ^ 0) => (ℓ ↦{nth 0 q i} f : sProp 𝕄))).symm
  | n + 1, q => by
    rw [BI.Entails.antisymm (pointsTo_share (PosShare.mem_left_op_right q)).1 (pointsTo_share (PosShare.mem_left_op_right q)).2,
      pts_parts f n q.left, pts_parts f n q.right,
      bigSep_univ_equiv (finSumFinEquiv.trans (finCongr (by omega : 2 ^ n + 2 ^ n = 2 ^ (n + 1)))) (fun i : Fin (2 ^ (n + 1)) => (ℓ ↦{nth (n + 1) q i} f : sProp 𝕄)), bigSep_univ_sum]
    congr 1 <;> refine bigSep_congr fun i _ => ?_
    · simp only [nth, Equiv.symm_apply_apply, Sum.elim_inl]
    · simp only [nth, Equiv.symm_apply_apply, Sum.elim_inr]

/-! ## The rows of the result -/

theorem odiv : 8 ∣ S8x5008.size 0 := ⟨1, rfl⟩
abbrev orow (i : Fin 8) : Rect S8x5008 := Rect.part (s := S8x5008) (a₀ := 0) odiv i
abbrev oRowSet (i : Fin 8) : Finset S8x5008.Idx := (orow i).set

theorem orows_disjoint : ∀ i ∈ (Finset.univ : Finset (Fin 8)), ∀ j ∈ (Finset.univ : Finset (Fin 8)), i ≠ j → Disjoint (oRowSet i) (oRowSet j) :=
  fun _ _ _ _ h => Rect.part_disjoint odiv h
theorem orows_cover : (Finset.univ : Finset (Fin 8)).biUnion oRowSet = Finset.univ := Rect.biUnion_part odiv

abbrev oLoc (d : Dev nD) : Loc nD τ sig := (SparseCore.T d).loc main_v41

theorem oPts_rows (d : Dev nD) (f : Buf (Elt F) (oLoc d)) :
    (oLoc d ↦{fullShare} f : sProp 𝕄) = bigSep Finset.univ fun i : Fin 8 => oLoc d ↦[oRowSet i]{fullShare} f := by
  rw [← pointsTo_biUnion Finset.univ (ℓ := oLoc d) oRowSet orows_disjoint, orows_cover]; try rfl

theorem orowK_eq (L : grid0.Coords) (h1 : k0_cond1 L = 1#1) : orowK L h1 = orow ⟨(L 1).val, ((cond_iff L).mp h1).2⟩ := by
  unfold orowK orow Rect.part Rect.block
  congr 1 <;> funext a
  · rw [k0_off11_eq]
    match a with
    | 0 => simp [Shape.partIx, Shape.partSize]
    | 1 => simp [Shape.partIx, Shape.partSize]
  · match a with
    | 0 => simp [Shape.partSize]
    | 1 => simp [Shape.partSize]

theorem set_oRowK (L : grid0.Coords) (h1 : k0_cond1 L = 1#1) : (oRowK L h1).view.set = oRowSet ⟨(L 1).val, ((cond_iff L).mp h1).2⟩ := by
  show (((View.whole main_v41_scv).slice (orowK L h1)).reshape S5008 squeezes_S1x5008_S5008.numel_eq).set = _
  rw [View.set_reshape, View.set_slice]
  refine Finset.map_refl.trans ?_
  rw [orowK_eq]

theorem pts_oRowK (d : Dev nD) (L : grid0.Coords) (h1 : k0_cond1 L = 1#1) (f : Buf (Elt F) (oLoc d)) :
    ((oRowK L h1).view.loc (thr d L) ↦[(oRowK L h1).view.set]{fullShare} f : sProp 𝕄)
      = oLoc d ↦[oRowSet ⟨(L 1).val, ((cond_iff L).mp h1).2⟩]{fullShare} f := by
  rw [set_oRowK]

/-- An element of row `i` has first coordinate `i`. -/
theorem mem_oRowSet {i : Fin 8} {x : S8x5008.Idx} (hx : x ∈ oRowSet i) : (x 0).val = i.val := by
  obtain ⟨j, hj, e⟩ := (LoadRect.mem_set _).mp hx 0
  simp [Rect.part, Rect.block, Shape.partIx, Shape.partSize] at hj e
  omega

/-! ## What the flags array ends at -/

/-- The tile that handles class `r`. -/
def coordsV (c : Fin (grid0.bound 0)) (s : Fin (grid0.bound 1)) : grid0.Coords :=
  fun | 0 => c | 1 => s | ⟨_ + 2, h⟩ => absurd h (Nat.not_lt.2 (Nat.le_add_left _ _))

def tileOf (r : Fin 8) : grid0.Coords := coordsV ⟨0, by decide⟩ ⟨r.val, by have := r.isLt; show _ < 16; omega⟩

/-- Row `r` of the result: class `r`'s keep flags. -/
def allFlags (TT : Tab F) (mt : Vec F S16 .f32) : Vec F S8x5008 .f32 := fun x => rowsOf (flags TT mt (tileOf (x 0))) x

theorem flags_row (TT : Tab F) (mt : Vec F S16 .f32) (L : grid0.Coords) {i : Fin 8} (hi : (L 1).val = i.val) {x : S8x5008.Idx} (hx : x ∈ oRowSet i) :
    rowsOf (flags TT mt L) x = allFlags TT mt x := by
  have e : classOf (tileOf (x 0)) = classOf L := by
    show broadcast S16 (BitVec.ofNat 32 (x 0).val) = broadcast S16 (BitVec.ofNat 32 (L 1).val)
    rw [mem_oRowSet hx, hi]
  unfold allFlags flags startOf cntOf
  rw [e]

/-! ## The payload -/

theorem bigSep_emp' {I : Type} (s : Finset I) : (bigSep s fun _ => iprop(emp)) = (iprop(emp) : sProp 𝕄) := bigSep_emp_const s

theorem sep_emp_eq {A : sProp 𝕄} : BI.sep A iprop(emp) = A := BI.Entails.antisymm BI.sep_emp.1 BI.sep_emp.2

section Pay

variable (TT : Dev nD → Tab F) (MM : Dev nD → Vec F S16 .f32) (OO : Dev nD → Vec F S8x5008 .f32)

/-- The six tables in the device's memory, at a share. -/
abbrev insT (d : Dev nD) (q : PosShare TreeShare) : sProp 𝕄 :=
  iprop(((SparseCore.T d).loc main_v25 ↦{q} (TT d).yc) ∗ ((SparseCore.T d).loc main_v30 ↦{q} (TT d).xc) ∗ ((SparseCore.T d).loc main_v35 ↦{q} (TT d).h)
    ∗ ((SparseCore.T d).loc main_v40 ↦{q} (TT d).w) ∗ ((SparseCore.T d).loc main_v20 ↦{q} (TT d).ord) ∗ ((SparseCore.T d).loc main_v16 ↦{q} MM d))

/-- The whole of it, the result at `f`. -/
abbrev whole (d : Dev nD) (f : Vec F S8x5008 .f32) : sProp 𝕄 := iprop(insT TT MM d fullShare ∗ (oLoc d ↦{fullShare} f))

/-- Class `i`'s part of it. -/
abbrev slot (d : Dev nD) (i : Fin 8) (f : Vec F S8x5008 .f32) : sProp 𝕄 :=
  iprop(insT TT MM d (nth 3 fullShare i) ∗ (oLoc d ↦[oRowSet i]{fullShare} f))

/-- What subcore `i` of SparseCore `c` has of it. -/
def forTile (d : Dev nD) (c i : ℕ) (f : Vec F S8x5008 .f32) : sProp 𝕄 := if h : c = 0 ∧ i < 8 then slot TT MM d ⟨i, h.2⟩ f else iprop(emp)

/-- What SparseCore `c` has of it. -/
def forCore (d : Dev nD) (c : ℕ) (f : Vec F S8x5008 .f32) : sProp 𝕄 := if c = 0 then whole TT MM d f else iprop(emp)

instance forTile_storable (d : Dev nD) (c i : ℕ) (f : Vec F S8x5008 .f32) : BI.Storable (upEmb : UEmb _ 𝕄) (forTile TT MM d c i f) := by
  unfold forTile
  split <;> infer_instance

instance forCore_storable (d : Dev nD) (c : ℕ) (f : Vec F S8x5008 .f32) : BI.Storable (upEmb : UEmb _ 𝕄) (forCore TT MM d c f) := by
  unfold forCore
  split <;> infer_instance

/-- The call takes the tables and the result to SparseCore 0; each of its first eight tiles has a share of the tables and
    its row, and brings the row back at its class's flags. -/
def P : (K (F := F)).Pay (nD := nD) (Val := Elt F) (Name := ℕ) (U := UU) where
  st := fun q d c => match q with | 0 => forCore TT MM d c.val (OO d)
  dn := fun q d c => match q with | 0 => forCore TT MM d c.val (allFlags (TT d) (MM d))
  go := fun q d c i => match q with | 0 => forTile TT MM d c.val i.val (OO d)
  td := fun q d c i => match q with | 0 => forTile TT MM d c.val i.val (allFlags (TT d) (MM d))
  x := fun _ _ => iprop(emp)

instance P_storable : (P TT MM OO).IsStorable where
  st q d c := match q with | 0 => forCore_storable TT MM d c.val (OO d)
  dn q d c := match q with | 0 => forCore_storable TT MM d c.val (allFlags (TT d) (MM d))
  go q d c i := match q with | 0 => forTile_storable TT MM d c.val i.val (OO d)
  td q d c i := match q with | 0 => forTile_storable TT MM d c.val i.val (allFlags (TT d) (MM d))

theorem whole_slots (d : Dev nD) (f : Vec F S8x5008 .f32) : (whole TT MM d f : sProp 𝕄) = bigSep Finset.univ fun i : Fin 8 => slot TT MM d i f := by
  unfold whole insT slot
  rw [oPts_rows]
  simp only [bigSep_sep']
  rw [pts_parts (ℓ := (SparseCore.T d).loc main_v25) _ 3, pts_parts (ℓ := (SparseCore.T d).loc main_v30) _ 3, pts_parts (ℓ := (SparseCore.T d).loc main_v35) _ 3,
    pts_parts (ℓ := (SparseCore.T d).loc main_v40) _ 3, pts_parts (ℓ := (SparseCore.T d).loc main_v20) _ 3, pts_parts (ℓ := (SparseCore.T d).loc main_v16) _ 3]
  rfl

theorem tiles_eq (d : Dev nD) (c : ℕ) (f : Vec F S8x5008 .f32) :
    (forCore TT MM d c f : sProp 𝕄) = bigSep Finset.univ fun i : Fin 16 => forTile TT MM d c i.val f := by
  by_cases hc : c = 0
  · unfold forCore
    rw [if_pos hc, whole_slots, bigSep_univ_equiv (finSumFinEquiv (m := 8) (n := 8)) (fun i : Fin 16 => forTile TT MM d c i.val f), bigSep_univ_sum]
    rw [show (bigSep Finset.univ fun i : Fin 8 => forTile TT MM d c (finSumFinEquiv (m := 8) (n := 8) (Sum.inr i)).val f) = bigSep Finset.univ fun _ : Fin 8 => (iprop(emp) : sProp 𝕄) from
      bigSep_congr fun i _ => by
        unfold forTile
        rw [dif_neg]
        rw [finSumFinEquiv_apply_right, Fin.val_natAdd]
        omega, bigSep_emp', sep_emp_eq]
    refine bigSep_congr fun i _ => ?_
    unfold forTile
    rw [dif_pos ⟨hc, by rw [finSumFinEquiv_apply_left, Fin.val_castAdd]; exact i.isLt⟩]
    rfl
  · unfold forCore
    rw [if_neg hc]
    rw [show (bigSep Finset.univ fun i : Fin 16 => forTile TT MM d c i.val f) = bigSep Finset.univ fun _ : Fin 16 => (iprop(emp) : sProp 𝕄) from
      bigSep_congr fun i _ => by
        unfold forTile
        rw [dif_neg]
        exact fun h => hc h.1, bigSep_emp']

theorem vecSplit : (K (F := F)).VecSplit' (P TT MM OO) 0 := by
  intro d c
  show forCore TT MM d c.val (OO d) ⊢ |={Set.univ}=> iprop(
      (bigSep Finset.univ fun i : Fin 16 => forTile TT MM d c.val i.val (OO d))
      ∗ ((bigSep Finset.univ fun i : Fin 16 => forTile TT MM d c.val i.val (allFlags (TT d) (MM d))) -∗ forCore TT MM d c.val (allFlags (TT d) (MM d))))
  rw [tiles_eq TT MM d c.val (OO d), tiles_eq TT MM d c.val (allFlags (TT d) (MM d))]
  iintro H
  imodintro
  isplitl [H]; · iexact H
  iintro H
  iexact H

end Pay

end Cert.Proof.Nms

end
-- ==== Proof.Task.lean ====
/-
  A tile's task as the launch theorem asks for it: its buffers and semaphores taken from what the launch hands it, the body
  on a tile that has a class and on one that has none.
-/
module

public import proofs.«01_k».proof.Proof.Payload

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Taking listed elements out of a big separating conjunction -/

/-- The listed conjuncts, then the rest. -/
def pull {I : Type} (Φ : I → sProp 𝕄) (R : sProp 𝕄) : List I → sProp 𝕄
  | [] => R
  | a :: l => iprop(Φ a ∗ pull Φ R l)

theorem bigSep_pull {I : Type} [DecidableEq I] (Φ : I → sProp 𝕄) : ∀ (l : List I) (s : Finset I), l.Nodup → (∀ a ∈ l, a ∈ s) →
    (bigSep s Φ : sProp 𝕄) = pull Φ (bigSep (l.foldl (fun s a => s.erase a) s) Φ) l
  | [], _, _, _ => rfl
  | a :: l, s, hn, hs => by
    rw [SparseCore.bigSep_erase' (hs a (by simp))]
    show iprop(Φ a ∗ _) = iprop(Φ a ∗ _)
    rw [bigSep_pull Φ l (s.erase a) (List.nodup_cons.mp hn).2
      (fun b hb => Finset.mem_erase.mpr ⟨fun e => (List.nodup_cons.mp hn).1 (e ▸ hb), hs b (by simp [hb])⟩)]
    rfl

/-! ## The tile's own semaphores and buffers -/

/-- The seven semaphores of the tile's copies. -/
def semList : List (SemLoc sig) := [.dma cc0_scoped0.sem, .dma cc0_scoped1.sem, .dma cc0_scoped2.sem, .dma cc0_scoped3.sem, .dma cc0_scoped4.sem, .dma cc0_scoped5.sem, .dma cc0_scoped6.sem]

/-- The twelve buffers of the tile. -/
def refList : List (Ref sig .scVector) := [cc0_scratch0, cc0_scratch1, cc0_scratch2, cc0_scratch3, cc0_scratch4, cc0_scratch5, cc0_scratch6, cc0_scratch7, cc0_scratch8, cc0_scratch9, cc0_scratch10, cc0_scratch11]

def semCells (d : Dev nD) (L : grid0.Coords) : List (GSem nD τ sig) := semList.map fun s => (thr d L, s)
def refLocs (L : grid0.Coords) : List (DevRef τ sig) := refList.map (Proc.scVector (cV L) (jV L)).devRef

/-- What else the launch hands the tile. -/
def semRest (d : Dev nD) (L : grid0.Coords) : sProp 𝕄 :=
  bigSep ((semCells d L).foldl (fun s a => s.erase a) (ownCells (thr d L))) fun g => semVal g 0
def bufRest (d : Dev nD) (L : grid0.Coords) : sProp 𝕄 :=
  bigSep ((refLocs L).foldl (fun s a => s.erase a) (ownRefs (τ := τ) (.scVector (cV L) (jV L)))) fun b => iprop(∃ f, ((d, b) : Loc nD τ sig) ↦{fullShare} f)

theorem semList_nodup : semList.Nodup := by unfold semList; decide
theorem semList_scoped : ∀ s ∈ semList, SemLoc.isScoped .scVector s = true := by unfold semList; decide
theorem refList_nodup : refList.Nodup := by unfold refList; decide
theorem refList_owner (L : grid0.Coords) : ∀ b ∈ refList, ((Proc.scVector (cV L) (jV L)).devRef b).owner = Owner.proc (Proc.scVector (cV L) (jV L)) := by
  intro b hb
  unfold refList at hb
  simp only [List.mem_cons, List.not_mem_nil, _root_.or_false] at hb
  rcases hb with rfl | rfl | rfl | rfl | rfl | rfl | rfl | rfl | rfl | rfl | rfl | rfl <;> rfl

theorem ownSems0_V (d : Dev nD) (L : grid0.Coords) :
    (ownSems0 (thr d L) : sProp 𝕄) = iprop(semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semRest d L) := by
  unfold SparseCore.Cfg.ownSems0
  rw [bigSep_pull _ (semCells d L) _ (List.Nodup.map (fun a b h => (Prod.mk.inj h).2) semList_nodup) (fun a ha => by
    obtain ⟨s, hs, rfl⟩ := List.mem_map.mp ha
    exact mem_ownCells.mpr ⟨rfl, semList_scoped s hs⟩)]
  rfl

theorem ownBufs_V (d : Dev nD) (L : grid0.Coords) :
    (ownBufs (thr d L) : sProp 𝕄) = iprop((∃ g, (thr d L).loc cc0_scratch0 ↦{fullShare} g) ∗ (∃ g, (thr d L).loc cc0_scratch1 ↦{fullShare} g) ∗ (∃ g, (thr d L).loc cc0_scratch2 ↦{fullShare} g) ∗ (∃ g, (thr d L).loc cc0_scratch3 ↦{fullShare} g) ∗ (∃ g, (thr d L).loc cc0_scratch4 ↦{fullShare} g) ∗ (∃ g, (thr d L).loc cc0_scratch5 ↦{fullShare} g) ∗ (∃ g, (thr d L).loc cc0_scratch6 ↦{fullShare} g) ∗ (∃ g, (thr d L).loc cc0_scratch7 ↦{fullShare} g) ∗ (∃ g, (thr d L).loc cc0_scratch8 ↦{fullShare} g) ∗ (∃ g, (thr d L).loc cc0_scratch9 ↦{fullShare} g) ∗ (∃ g, (thr d L).loc cc0_scratch10 ↦{fullShare} g) ∗ (∃ g, (thr d L).loc cc0_scratch11 ↦{fullShare} g) ∗ bufRest d L) := by
  unfold SparseCore.Cfg.ownBufs
  rw [bigSep_pull _ (refLocs L) _ (List.Nodup.map (Proc.devRef_injective _) refList_nodup) (fun a ha => by
    obtain ⟨b, hb, rfl⟩ := List.mem_map.mp ha
    exact SparseCore.Cfg.mem_ownRefs_of_owner (p := Proc.scVector (cV L) (jV L)) (refList_owner L b hb))]
  rfl

/-! ## The task -/

section Task

variable (TT : Dev nD → Tab F) (MM : Dev nD → Vec F S16 .f32) (OO : Dev nD → Vec F S8x5008 .f32)

/-- What the launch's values must satisfy: every class's segment lies in the order, and the order's places are in range. -/
def Good : Prop := ∀ d : Dev nD, (∀ L : grid0.Coords, k0_cond1 L = 1#1 → (startOf (MM d) L).toNat + (cntOf (MM d) L).toNat ≤ 5000)
  ∧ ∀ x, (fptosi (φ := .f32) 32 (TT d).ord x).toNat < 5008

theorem due_self (d : Dev nD) (L : grid0.Coords) (O : CellTallies nD τ sig (HIx 1)) (W : Waits sig (HIx 1)) :
    (owes (thr d L) O W : sProp 𝕄) ⊢ due d L O W := by
  unfold due
  iintro H
  iexists W
  isplitr
  · ipureintro; exact fun p hp => .inl hp
  · iexact H

theorem ins_eq (d : Dev nD) (L : grid0.Coords) (q : PosShare TreeShare) : (insT TT MM d q : sProp 𝕄) = ins d L q (TT d) (MM d) := rfl

/-- The task on tile `L` of device `d`. -/
theorem tile_body (hF : (K (F := F)).Facts) (hG : Good TT MM) (d : Dev nD) (L : grid0.Coords) (O : CellTallies nD τ sig (HIx 1)) (W : Waits sig (HIx 1)) (hO : ∀ g, O g none = 0) :
    iprop(levAts (K (F := F)).L (K (F := F)).lev ∗ emp ∗ forTile TT MM d (L 0).val (L 1).val (OO d)
        ∗ scopedBufs (thr d L) ∗ scopedSems0 (thr d L) ∗ owes (thr d L) O W)
      ⊢ wp (M := 𝕄) frame (wpE (defs₀ (F := F)) 𝒱₀ (thr d L) none) Set.univ (body L)
          fun _ => iprop(forTile TT MM d (L 0).val (L 1).val (allFlags (TT d) (MM d))
            ∗ scopedBufs (thr d L) ∗ scopedSems0 (thr d L) ∗ ∃ W', ⌜∀ p ∈ W', p ∈ W ∨ p.2 = none⌝ ∗ owes (thr d L) O W') := by
  by_cases hc : k0_cond1 L = 1#1
  · have hL := (cond_iff L).mp hc
    rw [(K (F := F)).scopedBufs_V hF d (cV L) (jV L), SparseCore.Cfg.scopedSems0_V (Val := Elt F) d (cV L) (jV L), ownSems0_V, ownBufs_V]
    unfold forTile
    rw [dif_pos hL, dif_pos hL]
    unfold slot
    rw [ins_eq TT MM d L]
    rw [← pts_oRowK d L hc (OO d)]
    rw [show (oLoc d ↦[oRowSet ⟨(L 1).val, hL.2⟩]{fullShare} allFlags (TT d) (MM d) : sProp 𝕄)
      = ((oRowK L hc).view.loc (thr d L) ↦[(oRowK L hc).view.set]{fullShare} rowsOf (flags (TT d) (MM d) L)) from by
        rw [pts_oRowK d L hc]
        exact (pointsTo_congr fun x hx => flags_row (TT d) (MM d) L (i := ⟨(L 1).val, hL.2⟩) rfl hx).symm]
    iintro ⟨#Hlv, -, ⟨Hi, Ho⟩, ⟨B0, B1, B2, B3, B4, B5, B6, B7, B8, B9, B10, B11, BR⟩, ⟨S0, S1, S2, S3, S4, S5, S6, SR⟩, HO⟩
    ihave Hmw := (show levAts (K (F := F)).L (K (F := F)).lev ⊢ Transfers.MayWaits (thr d L) (none : HIx 1) O from
      (K (F := F)).mayWaits_none (thr := thr d L) hO) $$ Hlv
    ihave HO' := (due_self (F := F) d L O W) $$ HO
    iapply (body_on d L hc (nth 3 fullShare ⟨(L 1).val, hL.2⟩) (TT d) (MM d) (OO d) ((hG d).1 L hc) (hG d).2 (O := O) (W := W))
    isplitl [Hmw]; · iexact Hmw
    isplitl [Hi]; · iexact Hi
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [S6]; · iexact S6
    isplitl [B0 B1 B2 B3 B4 B5 B6 B7 B8 B9 B10 B11]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      iexact B11
    isplitl [HO']; · iexact HO'
    isplitl [Ho]; · iexact Ho
    iintro Hi ⟨S0, S1, S2, S3, S4, S5⟩ S6 ⟨B0, B1, B2, B3, B4, B5, B6, B7, B8, B9, B10, B11⟩ HO Ho
    isplitl [Hi Ho]
    · isplitl [Hi]; · iexact Hi
      iexact Ho
    isplitl [B0 B1 B2 B3 B4 B5 B6 B7 B8 B9 B10 B11 BR]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      iexact BR
    isplitl [S0 S1 S2 S3 S4 S5 S6 SR]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact SR
    unfold due
    iexact HO
  · have hL : ¬ ((L 0).val = 0 ∧ (L 1).val < 8) := fun h => hc ((cond_iff L).mpr h)
    unfold forTile
    rw [dif_neg hL, dif_neg hL]
    iintro ⟨-, -, -, Hb, Hs, HO⟩
    iapply (body_off d L hc)
    isplitr; · iempintro
    isplitl [Hb]; · iexact Hb
    isplitl [Hs]; · iexact Hs
    iexists W
    isplitr
    · ipureintro; exact fun p hp => .inl hp
    · iexact HO

theorem defs₀_vector (c : Fin τ.nSC) (s : Fin τ.nSub) :
    defs₀ (F := F) (.scVector c s) 0 () = SparseCore.onTile hcore0 hsub0 (fun c s => body (coordsV c s)) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hG : Good TT MM) : (K (F := F)).TileObl (D (F := F)) 𝒱 (P TT MM OO) v₀ 0 := by
  intro d c i O W hO _ _
  simp only [show (P TT MM OO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body TT MM OO hF hG d (coordsV ⟨c.val, c.isLt⟩ ⟨i.val, i.isLt⟩) O W hO).trans (wp_mono frame _ _ fun _ => obl_post)

end Task

end Cert.Proof.Nms

end
-- ==== Proof.Launch.lean ====
/-
  The program's run: the host's first line, the call, the host's second line; what the three arguments and the result end at.
-/
module

public import proofs.«01_k».proof.Proof.Task
public import proofs.«01_k».proof.Proof.Host

@[expose] public section

noncomputable section

namespace Cert.Proof.Nms

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values on the way -/

section Values

variable (m : (ℓ : Loc nD τ sig) → Buf (Elt F) ℓ)

/-- A TensorCore array as a device's buffer. -/
abbrev tcRef (b : Ref sig .tc) : DevRef τ sig := Proc.devRef .tc b

/-- What the memory holds when the call is made. -/
def VA (d : Dev nD) : Valuation τ sig (Elt F) := StableHlo.after opsA (fun b => m (d, b))

/-- The tables the call reads, and the class table, and what the result holds before. -/
def tabOf (W : Valuation τ sig (Elt F)) : Tab F := ⟨W (tcRef main_v25), W (tcRef main_v30), W (tcRef main_v35), W (tcRef main_v40), W (tcRef main_v20)⟩
def metaOf (W : Valuation τ sig (Elt F)) : Vec F S16 .f32 := W (tcRef main_v16)
def outOf (W : Valuation τ sig (Elt F)) : Vec F S8x5008 .f32 := W (tcRef main_v41)
def setOut (W : Valuation τ sig (Elt F)) : Valuation τ sig (Elt F) := Function.update W (tcRef main_v41) (allFlags (tabOf W) (metaOf W) : Vec F S8x5008 .f32)

def TT : Dev nD → Tab F := fun d => tabOf (VA m d)
def MM : Dev nD → Vec F S16 .f32 := fun d => metaOf (VA m d)
def OO : Dev nD → Vec F S8x5008 .f32 := fun d => outOf (VA m d)

/-- What it holds when the call is over. -/
def VC (d : Dev nD) : Valuation τ sig (Elt F) := setOut (VA m d)

/-- What it holds at the end. -/
def VE (d : Dev nD) : Valuation τ sig (Elt F) := StableHlo.after opsB (VC m d)

end Values

/-! ## The launch's own element -/

def u₀ : UU := (initOf (K (F := F)).hsCells (K (F := F)).hsToks, 1)

theorem hu₀ (TT : Dev nD → Tab F) (MM : Dev nD → Vec F S16 .f32) (OO : Dev nD → Vec F S8x5008 .f32) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P TT MM OO).x q t) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the call takes and hands back -/

section Call

variable (TT : Dev nD → Tab F) (MM : Dev nD → Vec F S16 .f32) (OO : Dev nD → Vec F S8x5008 .f32)

theorem forCore_zero (d : Dev nD) (f : Vec F S8x5008 .f32) : (forCore TT MM d 0 f : sProp 𝕄) = whole TT MM d f := by unfold forCore; exact if_pos rfl
theorem forCore_one (d : Dev nD) (f : Vec F S8x5008 .f32) : (forCore TT MM d 1 f : sProp 𝕄) = iprop(emp) := by unfold forCore; exact if_neg (by decide)

theorem st0_eq (d : Dev nD) : (bigSep Finset.univ fun c : Fin ((K (F := F)).nCore 0) => (P TT MM OO).st 0 d c) = (iprop(whole TT MM d (OO d) ∗ emp) : sProp 𝕄) := by
  show (bigSep (Finset.univ : Finset (Fin 2)) fun c => forCore TT MM d c.val (OO d)) = _
  rw [show (Finset.univ : Finset (Fin 2)) = {0, 1} by decide, SparseCore.bigSep_insert' (by decide), bigSep_singleton]
  show iprop(forCore TT MM d 0 _ ∗ forCore TT MM d 1 _) = _
  rw [forCore_zero, forCore_one]

theorem dn0_eq (d : Dev nD) : (bigSep Finset.univ fun c : Fin ((K (F := F)).nCore 0) => (P TT MM OO).dn 0 d c) = (iprop(whole TT MM d (allFlags (TT d) (MM d)) ∗ emp) : sProp 𝕄) := by
  show (bigSep (Finset.univ : Finset (Fin 2)) fun c => forCore TT MM d c.val (allFlags (TT d) (MM d))) = _
  rw [show (Finset.univ : Finset (Fin 2)) = {0, 1} by decide, SparseCore.bigSep_insert' (by decide), bigSep_singleton]
  show iprop(forCore TT MM d 0 _ ∗ forCore TT MM d 1 _) = _
  rw [forCore_zero, forCore_one]

end Call

/-- The seven arrays the call works on. -/
def callRefs : Finset (DevRef τ sig) := {tcRef main_v25, tcRef main_v30, tcRef main_v35, tcRef main_v40, tcRef main_v20, tcRef main_v16, tcRef main_v41}

/-- The arguments and the result. -/
def endRefs : Finset (DevRef τ sig) := {tcRef main_arg0, tcRef main_arg1, tcRef main_arg2, tcRef main_v57}

theorem unscoped_tc (b : Ref sig .tc) (h : b.isScoped = false) : tcRef b ∈ Pipeline.ucRefs τ sig :=
  Finset.mem_filter.mpr ⟨StableHlo.devRef_mem_tcRefs b, fun h' => Bool.false_ne_true (h.symm.trans h')⟩

theorem callRefs_sub : callRefs ⊆ Pipeline.ucRefs τ sig := by
  intro b hb
  unfold callRefs at hb
  simp only [Finset.mem_insert, Finset.mem_singleton] at hb
  rcases hb with rfl | rfl | rfl | rfl | rfl | rfl | rfl <;> exact unscoped_tc _ (by decide)

theorem endRefs_sub : endRefs ⊆ Pipeline.ucRefs τ sig := by
  intro b hb
  unfold endRefs at hb
  simp only [Finset.mem_insert, Finset.mem_singleton] at hb
  rcases hb with rfl | rfl | rfl | rfl <;> exact unscoped_tc _ (by decide)

theorem held_call (d : Dev nD) (W : Valuation τ sig (Elt F)) :
    (StableHlo.held (SparseCore.T d) callRefs W : sProp 𝕄) = iprop(((SparseCore.T d).loc main_v25 ↦{fullShare} W (tcRef main_v25)) ∗ ((SparseCore.T d).loc main_v30 ↦{fullShare} W (tcRef main_v30))
      ∗ ((SparseCore.T d).loc main_v35 ↦{fullShare} W (tcRef main_v35)) ∗ ((SparseCore.T d).loc main_v40 ↦{fullShare} W (tcRef main_v40)) ∗ ((SparseCore.T d).loc main_v20 ↦{fullShare} W (tcRef main_v20))
      ∗ ((SparseCore.T d).loc main_v16 ↦{fullShare} W (tcRef main_v16)) ∗ ((SparseCore.T d).loc main_v41 ↦{fullShare} W (tcRef main_v41))) := by
  unfold StableHlo.held callRefs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem held_end (d : Dev nD) (W : Valuation τ sig (Elt F)) :
    (StableHlo.held (SparseCore.T d) endRefs W : sProp 𝕄) = iprop(((SparseCore.T d).loc main_arg0 ↦{fullShare} W (tcRef main_arg0)) ∗ ((SparseCore.T d).loc main_arg1 ↦{fullShare} W (tcRef main_arg1))
      ∗ ((SparseCore.T d).loc main_arg2 ↦{fullShare} W (tcRef main_arg2)) ∗ ((SparseCore.T d).loc main_v57 ↦{fullShare} W (tcRef main_v57))) := by
  unfold StableHlo.held endRefs
  rw [SparseCore.bigSep_insert' (by decide), SparseCore.bigSep_insert' (by decide), SparseCore.bigSep_insert' (by decide), bigSep_singleton]

section Main

variable (m : (ℓ : Loc nD τ sig) → Buf (Elt F) ℓ) (ρ : Dev nD → PrngReg)

theorem setOut_out (W : Valuation τ sig (Elt F)) : setOut W (tcRef main_v41) = (allFlags (tabOf W) (metaOf W) : Vec F S8x5008 .f32) := Function.update_self _ _ _
theorem setOut_ne (W : Valuation τ sig (Elt F)) {b : DevRef τ sig} (h : b ≠ tcRef main_v41) : setOut W b = W b := Function.update_of_ne h _ _

/-- Before the call the seven arrays are what the call takes; after it, what it hands back. -/
theorem call_before (W : Dev nD → Valuation τ sig (Elt F)) (d : Dev nD) :
    (StableHlo.held (SparseCore.T d) callRefs (W d) : sProp 𝕄) ⊢ whole (fun d => tabOf (W d)) (fun d => metaOf (W d)) d (outOf (W d)) := by
  rw [held_call]
  unfold whole insT tabOf metaOf outOf
  dsimp only
  iintro ⟨H0, H1, H2, H3, H4, H5, H6⟩
  isplitr [H6]
  · isplitl [H0]; · iexact H0
    isplitl [H1]; · iexact H1
    isplitl [H2]; · iexact H2
    isplitl [H3]; · iexact H3
    isplitl [H4]; · iexact H4
    iexact H5
  · iexact H6

theorem call_after (W : Dev nD → Valuation τ sig (Elt F)) (d : Dev nD) :
    (whole (fun d => tabOf (W d)) (fun d => metaOf (W d)) d (allFlags (tabOf (W d)) (metaOf (W d))) : sProp 𝕄) ⊢ StableHlo.held (SparseCore.T d) callRefs (setOut (W d)) := by
  rw [held_call, setOut_out, setOut_ne _ (show tcRef main_v25 ≠ tcRef main_v41 by decide), setOut_ne _ (show tcRef main_v30 ≠ tcRef main_v41 by decide),
    setOut_ne _ (show tcRef main_v35 ≠ tcRef main_v41 by decide), setOut_ne _ (show tcRef main_v40 ≠ tcRef main_v41 by decide),
    setOut_ne _ (show tcRef main_v20 ≠ tcRef main_v41 by decide), setOut_ne _ (show tcRef main_v16 ≠ tcRef main_v41 by decide)]
  iintro ⟨⟨H0, H1, H2, H3, H4, H5⟩, H6⟩
  isplitl [H0]; · iexact H0
  isplitl [H1]; · iexact H1
  isplitl [H2]; · iexact H2
  isplitl [H3]; · iexact H3
  isplitl [H4]; · iexact H4
  isplitl [H5]; · iexact H5
  iexact H6

theorem rest_call (W : Valuation τ sig (Elt F)) (d : Dev nD) : (StableHlo.held (SparseCore.T d) (Pipeline.ucRefs τ sig \ callRefs) W : sProp 𝕄)
    = StableHlo.held (SparseCore.T d) (Pipeline.ucRefs τ sig \ callRefs) (setOut W) :=
  StableHlo.held_congr (SparseCore.T d) fun b hb => (setOut_ne W (by rintro rfl; exact (Finset.mem_sdiff.mp hb).2 (by unfold callRefs; simp))).symm

/-- What the run keeps for the claim: the arguments and the result. -/
abbrev FIN (d : Dev nD) : sProp 𝕄 := StableHlo.held (SparseCore.T d) endRefs (VE m d)

theorem unscoped_start (d : Dev nD) : (unscopedBufs d (fun b => m ((SparseCore.T d).loc b)) : sProp 𝕄)
    = StableHlo.held (SparseCore.T d) (Pipeline.ucRefs τ sig) (fun b => m (d, b)) :=
  Pipeline.unscopedBufs_held (Ix := HIx 1) (Name := ℕ) (U := UU) (Lvl := ℕ) d (fun b => m (d, b))

theorem hmain (κ : GSem nD τ sig → ℕ) (d : Dev nD) :
    iprop((K (F := F)).ctx EH (P (TT m) (MM m) (OO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_start, main_eq]
  iintro ⟨#Hctx, Hst, ⟨Hb, Hheld, Hts, -⟩, -⟩
  iapply (StableHlo.wp_seq 𝒱 none Set.univ d (Pipeline.ucRefs τ sig) _ opsA
    (fun op h => Pipeline.sub_ucRefs op ((List.forall_iff_forall_mem.mp opsA_sub) op h))
    (fun op h => (List.forall_iff_forall_mem.mp opsA_fresh) op h) _) $$ [Hb Hheld]
  · isplitl [Hb]; · iexact Hb
    iexact Hheld
  iintro ⟨Hb, Hheld⟩
  ihave Hh := (show (StableHlo.held (SparseCore.T d) (Pipeline.ucRefs τ sig) (StableHlo.after opsA fun b => m (d, b)) : sProp 𝕄)
      ⊢ iprop(StableHlo.held (SparseCore.T d) callRefs (VA m d) ∗ StableHlo.held (SparseCore.T d) (Pipeline.ucRefs τ sig \ callRefs) (VA m d)) from
    Entails.of_eq (StableHlo.held_sub_split (SparseCore.T d) callRefs_sub (VA m d))) $$ Hheld
  icases Hh with ⟨Hcall, Hrest⟩
  ihave Hw := (show (StableHlo.held (SparseCore.T d) callRefs (VA m d) : sProp 𝕄) ⊢ whole (TT m) (MM m) d (OO m d) from call_before (VA m) d) $$ Hcall
  rw [wp_bind]
  iapply ((K (F := F)).wp_run (D (F := F)) 𝒱 (EH := EH) (P := P (TT m) (MM m) (OO m)) κ d 0) $$ [Hst Hw Hb Hrest Hts]
  isplitr; · iexact Hctx
  isplitl [Hst]; · iexact Hst
  isplitl [Hw]
  · rw [st0_eq]
    isplitl [Hw]; · iexact Hw
    iempintro
  iintro ⟨Hst, Hdn⟩
  ihave Hdn' := (Entails.of_eq (dn0_eq (TT m) (MM m) (OO m) d)) $$ Hdn
  icases Hdn' with ⟨Hw, -⟩
  ihave Hcall := (show (whole (TT m) (MM m) d (allFlags (TT m d) (MM m d)) : sProp 𝕄) ⊢ StableHlo.held (SparseCore.T d) callRefs (VC m d) from call_after (VA m) d) $$ Hw
  ihave Hrest' := (show (StableHlo.held (SparseCore.T d) (Pipeline.ucRefs τ sig \ callRefs) (VA m d) : sProp 𝕄)
      ⊢ StableHlo.held (SparseCore.T d) (Pipeline.ucRefs τ sig \ callRefs) (VC m d) from Entails.of_eq (rest_call (VA m d) d)) $$ Hrest
  ihave Hheld := (Entails.of_eq (StableHlo.held_sub_split (SparseCore.T d) callRefs_sub (VC m d)).symm) $$ [Hcall Hrest']
  · isplitl [Hcall]; · iexact Hcall
    iexact Hrest'
  iapply (StableHlo.wp_seq 𝒱 none Set.univ d (Pipeline.ucRefs τ sig) _ opsB
    (fun op h => Pipeline.sub_ucRefs op ((List.forall_iff_forall_mem.mp opsB_sub) op h))
    (fun op h => (List.forall_iff_forall_mem.mp opsB_fresh) op h) _) $$ [Hb Hheld]
  · isplitl [Hb]; · iexact Hb
    iexact Hheld
  iintro ⟨Hb, Hheld⟩
  ihave Hh := (show (StableHlo.held (SparseCore.T d) (Pipeline.ucRefs τ sig) (StableHlo.after opsB (VC m d)) : sProp 𝕄)
      ⊢ iprop(StableHlo.held (SparseCore.T d) endRefs (VE m d) ∗ StableHlo.held (SparseCore.T d) (Pipeline.ucRefs τ sig \ endRefs) (VE m d)) from
    Entails.of_eq (StableHlo.held_sub_split (SparseCore.T d) endRefs_sub (VE m d))) $$ Hheld
  icases Hh with ⟨Hend, -⟩
  rw [wp_pure]; imodintro
  isplitl [Hst]; · iexact Hst
  isplitl [Hend]; · iexact Hend
  isplitl [Hb] <;> iassumption

/-! ## What the final memory holds -/

def fq (d : Dev nD) (s' : Phys nD τ sig (Elt F)) : Prop :=
  s'.mem.mem ((SparseCore.T d).loc main_arg0) = VE m d (tcRef main_arg0) ∧ s'.mem.mem ((SparseCore.T d).loc main_arg1) = VE m d (tcRef main_arg1)
    ∧ s'.mem.mem ((SparseCore.T d).loc main_arg2) = VE m d (tcRef main_arg2) ∧ s'.mem.mem ((SparseCore.T d).loc main_v57) = VE m d (tcRef main_v57)

theorem read_end (s' : Phys nD τ sig (Elt F)) (ℓ : Loc nD τ sig) (f : Buf (Elt F) ℓ) :
    (iprop((ℓ ↦{fullShare} f) ∗ SI s') : sProp 𝕄) ⊢ ⌜s'.mem.mem ℓ = f⌝ := by
  iintro ⟨H, HSI⟩
  ihave H' := (SI_pointsTo_agree (st := s') (ℓ := ℓ) (I := Finset.univ) (q := fullShare) (f := f)) $$ [HSI H]
  · isplitl [HSI] <;> iassumption
  icases H' with %hx
  ipureintro; exact funext fun i => hx i (Finset.mem_univ i)

theorem part_end (s' : Phys nD τ sig (Elt F)) (ℓ : Loc nD τ sig) (f : Buf (Elt F) ℓ) {A : sProp 𝕄} (h : A ⊢ iprop((ℓ ↦{fullShare} f) ∗ SI s')) :
    A ⊢ ⌜s'.mem.mem ℓ = f⌝ := BI.Entails.trans h (read_end s' ℓ f)

theorem pure_both {A : sProp 𝕄} {φ ψ : Prop} (h₁ : A ⊢ ⌜φ⌝) (h₂ : A ⊢ ⌜ψ⌝) : A ⊢ ⌜φ ∧ ψ⌝ :=
  fun a h => ⟨h₁ a h, h₂ a h⟩

theorem hfin (d : Dev nD) (s' : Phys nD τ sig (Elt F)) : iprop(FIN m d ∗ SI s') ⊢ (⌜fq m d s'⌝ : sProp 𝕄) := by
  unfold FIN
  rw [held_end]
  exact pure_both (part_end s' _ _ (by iintro ⟨⟨H, -⟩, HS⟩; isplitl [H]; · iexact H
                                       iexact HS))
    (pure_both (part_end s' _ _ (by iintro ⟨⟨-, H, -⟩, HS⟩; isplitl [H]; · iexact H
                                    iexact HS))
      (pure_both (part_end s' _ _ (by iintro ⟨⟨-, -, H, -⟩, HS⟩; isplitl [H]; · iexact H
                                      iexact HS))
        (part_end s' _ _ (by iintro ⟨⟨-, -, -, H⟩, HS⟩; isplitl [H]; · iexact H
                             iexact HS))))

def QC : PUnit × MemSt nD τ sig (Elt F) → Prop := fun r =>
  (∀ d : Dev nD, r.2.mem ((SparseCore.T d).loc main_arg0) = VE m d (tcRef main_arg0) ∧ r.2.mem ((SparseCore.T d).loc main_arg1) = VE m d (tcRef main_arg1)
    ∧ r.2.mem ((SparseCore.T d).loc main_arg2) = VE m d (tcRef main_arg2) ∧ r.2.mem ((SparseCore.T d).loc main_v57) = VE m d (tcRef main_v57)) ∧ r.2.sem = fun _ => 0

theorem run_main [∀ e, Nonempty (Elt F e)] (hG : Good (TT m) (MM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (TT m) (MM m) (OO m)) (A := ∅) facts v₀
    (fun q hq => match q with | 0 => nomatch hq)
    (fun q _ => match q with | 0 => tileObl (TT m) (MM m) (OO m) facts hG)
    (fun q _ => match q with | 0 => SparseCore.Cfg.VecSplit.of_plain (vecSplit (TT m) (MM m) (OO m)))
    m ρ main (fun _ => iprop(emp)) (FIN m) (u₀ (F := F)) (sep_elim_left.trans (hu₀ (TT m) (MM m) (OO m))) (hmain m ρ) (fq m) (hfin m) (QC m) (fun _ h hz => ⟨h, hz⟩)

end Main

end Cert.Proof.Nms

end
-- ==== Proof.Order.lean ====
/-
  The order of the boxes is a permutation, the counts are what they say, the starts are the running sums; so a tile's places
  stay in the order and the order's numbers stay in the tables.
-/
module

public import proofs.«01_k».proof.Proof.Values
public import proofs.«01_k».proof.Proof.Launch
public import Idealize.ShloMosaic.Lib.Routing.OpsSet
public import Idealize.ShloMosaic.Lib.Routing.OpsOrder
public import Idealize.ShloMosaic.Lib.Pipeline.Value
public import Idealize.ShloMosaic.Lib.NatWordsOrder

@[expose] public section

noncomputable section

namespace Cert.Proof.Nms

open Cert.KernelIdeal Cert.KernelIdeal.Gen

open Idealize.ShloMosaic Idealize.ShloMosaic.ValueIdx Idealize.ShloMosaic.Routing
open Idealize.SL Idealize.SL.Sem

variable {F : FTy → Type} [FloatOps F]

/-! ## The order -/

/-- A box's row as the sort compares it. -/
def rowOf (lab : IVec S5000 32) (sc : FVec F S5000 .f32) (i : Fin 5000) : BitVec 32 × F .f32 × BitVec 32 :=
  (lab (ix1 i), Host.negf sc (ix1 i), BitVec.ofNat 32 i.val)

/-- The box that stands at a place of the order. -/
def ordσ (lab : IVec S5000 32) (sc : FVec F S5000 .f32) : Fin 5000 → Fin 5000 :=
  sortedFrom fun k k' => comparator_i32_f32_i32_d0 (rowOf lab sc k) (rowOf lab sc k') == 1#1

theorem ordσ_bij (lab : IVec S5000 32) (sc : FVec F S5000 .f32) : Function.Bijective (ordσ lab sc) :=
  ⟨sortedFrom_injective _, sortedFrom_surjective _⟩

/-- A sort of a vector reads it through one self-map of the positions. -/
theorem sortBy_vec {n : ℕ} {α β : Type} (cmp : α → α → BitVec 1) (rows : (shape1 n).Idx → α) (z : (shape1 n).Idx → β) (i : Fin n) :
    Host.sortBy (shape1 n) 0 cmp rows z (ix1 i) = z (ix1 (sortedFrom (fun k k' => cmp (rows (ix1 k)) (rows (ix1 k')) == 1#1) i)) := by
  unfold Host.sortBy
  have hal : ∀ k : Fin n, (ix1 i : (shape1 n).Idx).along (0 : Fin 1) k = ix1 k := fun k => (Shape.Idx.along_rank1 (n := n) _ k).trans (ofFin_eq_ix1 k)
  rw [dif_pos (by decide : (0 : ℕ) < 1)]
  exact (congrArg z (hal _)).trans (congrArg (fun f : Fin n → Fin n → Bool => z (ix1 (sortedFrom f i))) (funext fun k => funext fun k' =>
    congrArg (fun b : BitVec 1 => b == 1#1) (congrArg₂ cmp (congrArg rows (hal k)) (congrArg rows (hal k')))))

theorem iota_vec (i : Fin 5000) : iotaInDim S5000 32 0 (ix1 i) = BitVec.ofNat 32 i.val := rfl

theorem ordV_apply (lab : IVec S5000 32) (sc : FVec F S5000 .f32) (i : Fin 5000) : ordV lab sc (ix1 i) = BitVec.ofNat 32 (ordσ lab sc i).val := by
  unfold ordV ordσ rowOf
  rw [Host.sort3_eq_sortBy]
  dsimp only
  rw [sortBy_vec, iota_vec]
  simp only [iota_vec]

/-! ## The padded columns -/

theorem pad_lands (i : Fin 5000) (e : Fin 5008) (z : IVec S1 32) (hz : ∀ j, z j = 0#32) :
    scatter_S5008_S1_S5000_0_n_0_0.resultIdx? (ix1 i) z = some (ix1 e) ↔ i.val = e.val := by
  rw [resultIdx?_ix1]
  have hs : scatter_S5008_S1_S5000_0_n_0_0.start (ix1 i) z 0 = 0 := by
    unfold ScatterDims.start
    split
    · rw [hz]; rfl
    · rfl
  have hw : scatter_S5008_S1_S5000_0_n_0_0.window (ix1 i) 0 = i.val := by
    unfold ScatterDims.window
    rw [dif_pos (by decide)]
    rfl
  rw [hs, hw]; omega

/-- A padded column's entry: the column's, and zero past it. -/
theorem padV_apply (x : FVec F S5000 .f32) (e : Fin 5008) :
    padV x (ix1 e) = if h : e.val < 5000 then x (ix1 ⟨e.val, h⟩) else FloatOps.ofBits .f32 0x00000000#32 := by
  have hz : ∀ j, (broadcastInDim S1 ![] bcast_S_S1 (constantI S_ 32 0#32)) j = 0#32 := fun j => bc0 bcast_S_S1 _ j
  unfold padV
  split
  · next h =>
    refine scatter_set_hit _ _ _ _ _ _ (fun k hk => ?_) (ix1 ⟨e.val, h⟩) ((pad_lands _ _ _ hz).2 rfl)
    rw [eq_ix1 k] at hk ⊢
    have := (pad_lands _ _ _ hz).1 hk
    exact congrArg x (congrArg ix1 (Fin.ext this))
  · next h =>
    refine (scatter_set_miss _ _ _ _ _ fun k hk => ?_).trans (bc0 bcast_S_S5008 _ _)
    rw [eq_ix1 k] at hk
    have := (pad_lands _ _ _ hz).1 hk
    have := (k 0).isLt
    change (k 0).val < 5000 at this
    omega

/-! ## The counts and the starts -/

/-- A label as the counting reads it. -/
def labOf (lab : IVec S5000 32) (i : Fin 5000) : BitVec 32 :=
  Scalar.select (IntOp.cmpi .slt (lab (ix1 i)) 0#32) (IntOp.addi (lab (ix1 i)) 8#32) (lab (ix1 i))

theorem labV_apply (lab : IVec S5000 32) (i : Fin 5000) : labV lab (ix2 i (0 : Fin 1)) = labOf lab i := by
  unfold labV
  refine (bcCol bcast_S5000_S5000x1_0 _ i).trans ?_
  show Scalar.select (IntOp.cmpi .slt (lab (ix1 i)) (broadcastInDim S5000 ![] bcast_S_S5000 (constantI S_ 32 0#32) (ix1 i)))
    (IntOp.addi (lab (ix1 i)) (broadcastInDim S5000 ![] bcast_S_S5000 (constantI S_ 32 8#32) (ix1 i))) (lab (ix1 i)) = _
  rw [bc0 bcast_S_S5000, bc0 bcast_S_S5000]
  rfl

/-- The boxes of a class, -/
def members (lab : IVec S5000 32) (c : ℕ) : Finset (Fin 5000) := Finset.univ.filter fun i => (labOf lab i).toInt = (c : ℤ)

/-- their number, -/
def cntN (lab : IVec S5000 32) (c : ℕ) : ℕ := (members lab c).card

/-- and where they start. -/
def startN (lab : IVec S5000 32) (c : ℕ) : ℕ := ((List.range c).map (cntN lab)).sum

theorem cnt_lands (i : Fin 5000) (c : Fin 8) (idx : IVec S5000x1 32) :
    scatter_S8_S5000x1_S5000_n_0_0_1.resultIdx? (ix1 i) idx = some (ix1 c) ↔ (idx (ix2 i (0 : Fin 1))).toInt = (c.val : ℤ) := by
  rw [resultIdx?_ix1]
  have hw : scatter_S8_S5000x1_S5000_n_0_0_1.window (ix1 i) 0 = 0 := by
    unfold ScatterDims.window
    rw [dif_neg (by decide)]
  have hs : scatter_S8_S5000x1_S5000_n_0_0_1.start (ix1 i) idx 0 = (idx (ix2 i (0 : Fin 1))).toInt := by
    unfold ScatterDims.start
    rw [dif_pos (by decide)]
    refine congrArg (fun v => (idx v).toInt) (funext fun b => Fin.ext ?_)
    match b with
    | ⟨0, _⟩ => rfl
    | ⟨1, _⟩ => rfl
  rw [hs, hw]; simp

theorem countP_card {n : ℕ} (p : Fin n → Prop) [DecidablePred p] :
    (List.finRange n).countP (fun i => decide (p i)) = (Finset.univ.filter p).card := by
  rw [List.countP_eq_length_filter]
  rfl

theorem cntV_apply (lab : IVec S5000 32) (c : Fin 8) : cntV lab (ix1 c) = BitVec.ofNat 32 (cntN lab c.val) := by
  have hnum : ∀ (M : ℕ) (hM : M = 5000) (p : Fin 5000 → Bool), (List.finRange M).countP (fun n => p (n.cast hM)) = (List.finRange 5000).countP p := by
    intro M hM p; subst hM; rfl
  unfold cntV Host.scatter
  refine (foldl_count _ (ix1 c) (fun n => decide ((labOf lab (n.cast (numel1 5000))).toInt = (c.val : ℤ))) (fun r n => ?_) _ _ 0 (bc0 bcast_S_S8 _ _)).trans ?_
  · have e : (S5000.rowMajor.symm n) = ix1 (n.cast (numel1 5000)) := symm1 n
    rw [e]
    have hi := cnt_lands (n.cast (numel1 5000)) c (labV lab)
    rw [labV_apply] at hi
    generalize scatter_S8_S5000x1_S5000_n_0_0_1.resultIdx? (ix1 (n.cast (numel1 5000))) (labV lab) = o at hi ⊢
    cases o with
    | none =>
      dsimp only
      rw [if_neg fun h => by have := hi.2 (of_decide_eq_true h); cases this]
    | some k =>
      dsimp only
      by_cases e : (labOf lab (n.cast (numel1 5000))).toInt = (c.val : ℤ)
      · have hk : k = ix1 c := Option.some.inj (hi.2 e)
        rw [hk, if_pos rfl, if_pos (decide_eq_true e), bc0 bcast_S_S5000]
        rfl
      · rw [if_neg fun h : ix1 c = k => e (hi.1 (congrArg some h.symm)), if_neg fun h => e (of_decide_eq_true h)]
  · rw [Nat.zero_add]
    refine congrArg (BitVec.ofNat 32) ((hnum _ (numel1 5000) fun i => decide ((labOf lab i).toInt = (c.val : ℤ))).trans (countP_card _))

theorem sumV_apply (lab : IVec S5000 32) (j : Fin 8) : sumV (cntV lab) (ix1 j) = BitVec.ofNat 32 (startN lab (j.val + 1)) := by
  unfold sumV
  exact cumsum1 (N := 8) (Nm1 := 7) rfl _ (cntN lab) (cntV_apply lab) _ (bc0 bcast_S_S_ _ _) _ _ j

theorem metaV_start (lab : IVec S5000 32) (c : Fin 8) : metaV (cntV lab) (ix1 ⟨c.val, by omega⟩) = BitVec.ofNat 32 (startN lab c.val) := by
  unfold metaV
  rw [concatenate_pair_apply_left (t := S16) 0 _ _ concatenates_S8_S8_S16_d0 _ rfl (ix1 c) (fun b => by match b with | ⟨0, _⟩ => rfl)]
  by_cases h : c.val = 0
  · rw [concatenate_pair_apply_left (t := S8) 0 _ _ concatenates_S1_S7_S8_d0 _ rfl (ix1 (0 : Fin 1)) (fun b => by match b with | ⟨0, _⟩ => exact h.symm)]
    rw [bc0 bcast_S_S1, h]; rfl
  · rw [concatenate_pair_apply_right (t := S8) 0 _ _ concatenates_S1_S7_S8_d0 _ rfl rfl (ix1 (⟨c.val - 1, by omega⟩ : Fin 7))
      (fun b hb => by match b with | ⟨0, _⟩ => exact absurd rfl hb) (by show c.val - 1 + 1 = c.val; omega)]
    have : extractStridedSlice S7 ![0] (sumV (cntV lab)) slices_S8_S7_0 (ix1 (⟨c.val - 1, by omega⟩ : Fin 7)) = sumV (cntV lab) (ix1 (⟨c.val - 1, by omega⟩ : Fin 8)) := by
      unfold extractStridedSlice
      refine congrArg (sumV (cntV lab)) (funext fun b => Fin.ext ?_)
      match b with
      | ⟨0, _⟩ => show 0 + (c.val - 1) = c.val - 1; omega
    rw [this, sumV_apply]
    show BitVec.ofNat 32 (startN lab (c.val - 1 + 1)) = _
    rw [Nat.sub_add_cancel (by omega)]

theorem metaV_cnt (lab : IVec S5000 32) (c : Fin 8) : metaV (cntV lab) (ix1 ⟨c.val + 8, by omega⟩) = BitVec.ofNat 32 (cntN lab c.val) := by
  unfold metaV
  rw [concatenate_pair_apply_right (t := S16) 0 _ _ concatenates_S8_S8_S16_d0 _ rfl rfl (ix1 c)
    (fun b hb => by match b with | ⟨0, _⟩ => exact absurd rfl hb) rfl, cntV_apply]

theorem members_disj (lab : IVec S5000 32) {c c' : ℕ} (h : c ≠ c') : Disjoint (members lab c) (members lab c') := by
  rw [Finset.disjoint_left]
  intro i hi hi'
  unfold members at hi hi'
  rw [Finset.mem_filter] at hi hi'
  have := hi.2.symm.trans hi'.2
  omega

theorem startN_le (lab : IVec S5000 32) (c : ℕ) : startN lab c ≤ 5000 := by
  have : startN lab c = ((Finset.range c).biUnion (members lab)).card := by
    rw [Finset.card_biUnion (fun a _ b _ hab => members_disj lab hab)]
    unfold startN
    rw [Finset.sum_range, ← List.sum_ofFn, List.ofFn_eq_map]
    exact congrArg List.sum (map_finRange_val c (cntN lab)).symm
  rw [this]
  exact (Finset.card_le_univ _).trans (by simp)

theorem startN_succ (lab : IVec S5000 32) (c : ℕ) : startN lab (c + 1) = startN lab c + cntN lab c := by
  unfold startN
  rw [List.range_succ, List.map_append, List.sum_append]
  simp

theorem startN_add_le (lab : IVec S5000 32) (c : ℕ) : startN lab c + cntN lab c ≤ 5000 := by
  rw [← startN_succ]; exact startN_le lab _

/-! ## Numbers carried as floats -/

/-- Small numbers survive the way to a float and back. -/
structure Conv (F : FTy → Type) [FloatOps F] : Prop where
  back : ∀ n : ℕ, n < 2 ^ 24 → FloatOps.fptosi (F := F) (φ := .f32) 32 (FloatOps.sitofp .f32 (BitVec.ofNat 32 n)) = BitVec.ofNat 32 n
  zero : FloatOps.fptosi (F := F) (φ := .f32) 32 (FloatOps.ofBits .f32 0x00000000#32) = 0#32

theorem conv_bits : Conv Bits where
  back n hn := by
    show Bits.fptosi32 32 (Bits.sitofp32 (BitVec.ofNat 32 n)) = _
    rw [Bits.sitofp32_ofNat (by omega), Bits.fptosi32_nat n hn]
  zero := by
    show Bits.fptosi32 32 (Bits.ofBits .f32 0x00000000#32) = _
    rw [← Bits.f32OfNat_zero, Bits.fptosi32_nat 0 (by decide)]

theorem ideal_back (z : ℤ) (h0 : 0 ≤ z) (h : z < 2 ^ 24) : Ideal.fptosi 32 ((z : ℝ) : EReal) = BitVec.ofInt 32 z := by
  unfold Ideal.fptosi
  rw [Ideal.toIntClamped_coe, if_pos (by exact_mod_cast h0), Int.floor_intCast]
  congr 1
  norm_num
  omega

theorem conv_ideal : Conv Ideal where
  back n hn := by
    show Ideal.fptosi 32 (((BitVec.ofNat 32 n).toInt : ℝ) : EReal) = _
    rw [StableHlo.Predicate.toInt_ofNat_small _ (by omega), ideal_back _ (by omega) (by exact_mod_cast hn), BitVec.ofInt_natCast]
  zero := by
    show Ideal.fptosi 32 (Ideal.ofBits .f32 0x00000000#32) = _
    have : (Ideal.ofBits .f32 0x00000000#32 : EReal) = (((0 : ℤ) : ℝ) : EReal) := by simp [Ideal.ofBits, Ideal.ieee]
    rw [this, ideal_back 0 (by omega) (by omega)]
    rfl

/-! ## What a tile reads -/

variable (hc : Conv F)

theorem gat16_at (f : Vec F S16 .f32) (n : ℕ) (hn : n < 16) (j : S16.Idx) : gat16 f (broadcast S16 (BitVec.ofNat 32 n)) j = f (ix1 ⟨n, hn⟩) := by
  have hx : ∀ a x, ((![broadcast S16 (BitVec.ofNat 32 n)] : Fin 1 → IVec S16 32) a x).toNat < S16.size a := by
    intro a x
    match a with
    | ⟨0, _⟩ =>
      show (BitVec.ofNat 32 n).toNat < 16
      rw [BitVec.toNat_ofNat, Nat.mod_eq_of_lt (by omega)]; exact hn
  rw [gat16_eq _ _ hx]
  refine congrArg f (funext fun a => Fin.ext ?_)
  match a with
  | ⟨0, _⟩ =>
    show (BitVec.ofNat 32 n).toNat = n
    rw [BitVec.toNat_ofNat, Nat.mod_eq_of_lt (by omega)]

include hc in
theorem startOf_meta (lab : IVec S5000 32) (L : grid0.Coords) (hL : (L 1).val < 8) :
    startOf (sitofp (F := F) .f32 (metaV (cntV lab))) L = BitVec.ofNat 32 (startN lab (L 1).val) := by
  have := startN_le lab (L 1).val
  show FloatOps.fptosi (F := F) (φ := .f32) 32 (gat16 (sitofp (F := F) .f32 (metaV (cntV lab))) (broadcast S16 (BitVec.ofNat 32 (L 1).val)) _) = _
  rw [gat16_at _ _ (by omega)]
  show FloatOps.fptosi (F := F) (φ := .f32) 32 (FloatOps.sitofp .f32 (metaV (cntV lab) (ix1 ⟨(L 1).val, _⟩))) = _
  rw [metaV_start lab ⟨(L 1).val, hL⟩]
  exact hc.back _ (by show startN lab (L 1).val < _; omega)

include hc in
theorem cntOf_meta (lab : IVec S5000 32) (L : grid0.Coords) (hL : (L 1).val < 8) :
    cntOf (sitofp (F := F) .f32 (metaV (cntV lab))) L = BitVec.ofNat 32 (cntN lab (L 1).val) := by
  have := startN_add_le lab (L 1).val
  have hcl : k0_pay102 (classOf L) = broadcast S16 (BitVec.ofNat 32 ((L 1).val + 8)) := by
    funext j
    show BitVec.ofNat 32 (L 1).val + 8#32 = BitVec.ofNat 32 ((L 1).val + 8)
    exact (BitVec.ofNat_add _ _).symm
  show FloatOps.fptosi (F := F) (φ := .f32) 32 (gat16 (sitofp (F := F) .f32 (metaV (cntV lab))) (k0_pay102 (classOf L)) _) = _
  rw [hcl, gat16_at _ _ (by omega)]
  show FloatOps.fptosi (F := F) (φ := .f32) 32 (FloatOps.sitofp .f32 (metaV (cntV lab) (ix1 ⟨(L 1).val + 8, _⟩))) = _
  rw [metaV_cnt lab ⟨(L 1).val, hL⟩]
  exact hc.back _ (by show cntN lab (L 1).val < _; omega)

include hc in
/-- The number at a place of the padded order. -/
theorem ord_at (lab : IVec S5000 32) (sc : FVec F S5000 .f32) (e : Fin 5008) :
    FloatOps.fptosi (F := F) (φ := .f32) 32 (padV (sitofp .f32 (ordV lab sc)) (ix1 e))
      = if h : e.val < 5000 then BitVec.ofNat 32 (ordσ lab sc ⟨e.val, h⟩).val else 0#32 := by
  rw [padV_apply]
  split
  · next h =>
    show FloatOps.fptosi (F := F) (φ := .f32) 32 (FloatOps.sitofp .f32 (ordV lab sc (ix1 ⟨e.val, h⟩))) = _
    rw [ordV_apply]
    exact hc.back _ (by have := (ordσ lab sc ⟨e.val, h⟩).isLt; omega)
  · exact hc.zero

section Facts

variable (m : (ℓ : Loc nD τ sig) → Buf (Elt F) ℓ)

/-- The three arguments as a device holds them. -/
def bxOf (d : Dev nD) : FVec F S5000x4 .f32 := m (d, tcRef main_arg0)
def lbOf (d : Dev nD) : IVec S5000 32 := m (d, tcRef main_arg1)
def scOf (d : Dev nD) : FVec F S5000 .f32 := m (d, tcRef main_arg2)

theorem VA_def (d : Dev nD) : VA m d = StableHlo.after opsA (fun b => m (d, b)) := by unfold VA; rfl
theorem tabOf_ord (W : Valuation τ sig (Elt F)) : (tabOf W).ord = W (tcRef main_v20) := by unfold tabOf; rfl
theorem tabOf_yc (W : Valuation τ sig (Elt F)) : (tabOf W).yc = W (tcRef main_v25) := by unfold tabOf; rfl
theorem tabOf_xc (W : Valuation τ sig (Elt F)) : (tabOf W).xc = W (tcRef main_v30) := by unfold tabOf; rfl
theorem tabOf_h (W : Valuation τ sig (Elt F)) : (tabOf W).h = W (tcRef main_v35) := by unfold tabOf; rfl
theorem tabOf_w (W : Valuation τ sig (Elt F)) : (tabOf W).w = W (tcRef main_v40) := by unfold tabOf; rfl

theorem MM_eq (d : Dev nD) : MM m d = sitofp .f32 (metaV (cntV (lbOf m d))) := by
  unfold MM metaOf lbOf
  rw [VA_def]
  exact opsA_v16 (fun b => m (d, b))
theorem TT_ord (d : Dev nD) : (TT m d).ord = padV (sitofp .f32 (ordV (lbOf m d) (scOf m d))) := by
  unfold TT lbOf scOf
  rw [tabOf_ord, VA_def]
  exact opsA_v20 _
theorem TT_yc (d : Dev nD) : (TT m d).yc = padV (colV ![0, 0] slices_S5000x4_S5000x1_0_0 (bxOf m d)) := by
  unfold TT bxOf
  rw [tabOf_yc, VA_def]
  exact opsA_v25 _
theorem TT_xc (d : Dev nD) : (TT m d).xc = padV (colV ![0, 1] slices_S5000x4_S5000x1_0_1 (bxOf m d)) := by
  unfold TT bxOf
  rw [tabOf_xc, VA_def]
  exact opsA_v30 _
theorem TT_h (d : Dev nD) : (TT m d).h = padV (colV ![0, 2] slices_S5000x4_S5000x1_0_2 (bxOf m d)) := by
  unfold TT bxOf
  rw [tabOf_h, VA_def]
  exact opsA_v35 _
theorem TT_w (d : Dev nD) : (TT m d).w = padV (colV ![0, 3] slices_S5000x4_S5000x1_0_3 (bxOf m d)) := by
  unfold TT bxOf
  rw [tabOf_w, VA_def]
  exact opsA_v40 _

include hc in
theorem good : Good (TT m) (MM m) := by
  intro d
  constructor
  · intro L hL
    have hl := ((cond_iff L).1 hL).2
    have hs := startN_add_le (lbOf m d) (L 1).val
    rw [MM_eq, startOf_meta hc _ _ hl, cntOf_meta hc _ _ hl, BitVec.toNat_ofNat, BitVec.toNat_ofNat, Nat.mod_eq_of_lt (by omega), Nat.mod_eq_of_lt (by omega)]
    exact hs
  · intro x
    obtain ⟨e, rfl⟩ : ∃ e : Fin 5008, x = ix1 e := ⟨x 0, eq_ix1 x⟩
    rw [TT_ord]
    refine lt_of_eq_of_lt (congrArg BitVec.toNat (ord_at hc (lbOf m d) (scOf m d) e)) ?_
    split
    · next h =>
      have := (ordσ (lbOf m d) (scOf m d) ⟨e.val, h⟩).isLt
      rw [BitVec.toNat_ofNat]; omega
    · decide

end Facts

end Cert.Proof.Nms

end
-- ==== Proof.Frames.lean ====
/-
  What the run leaves, read off its end: the arguments are as they were, and the result is the host's second stretch over the flags.
-/
module

public import proofs.«01_k».proof.Proof.Order
public import proofs.«01_k».proof.Proof.Gen.Kernel

@[expose] public section

noncomputable section

namespace Cert.Proof.Nms

open Cert.KernelIdeal Cert.KernelIdeal.Gen

open Idealize.ShloMosaic
open Idealize.SL.Sem

variable {F : FTy → Type} [FloatOps F]

theorem VE_def (m : (ℓ : Loc nD τ sig) → Buf (Elt F) ℓ) (d : Dev nD) : VE m d = StableHlo.after opsB (VC m d) := by unfold VE; rfl
theorem VC_def (m : (ℓ : Loc nD τ sig) → Buf (Elt F) ℓ) (d : Dev nD) : VC m d = setOut (VA m d) := by unfold VC; rfl

variable (m : (ℓ : Loc nD τ sig) → Buf (Elt F) ℓ) (ρ : Dev nD → PrngReg)

theorem VC_arg0 (d : Dev nD) : VC m d (tcRef main_arg0) = bxOf m d := by
  rw [VC_def, setOut_ne _ (by decide), VA_def]; exact opsA_arg0 _
theorem VC_arg1 (d : Dev nD) : VC m d (tcRef main_arg1) = lbOf m d := by
  rw [VC_def, setOut_ne _ (by decide), VA_def]; exact opsA_arg1 _
theorem VC_arg2 (d : Dev nD) : VC m d (tcRef main_arg2) = scOf m d := by
  rw [VC_def, setOut_ne _ (by decide), VA_def]; exact opsA_arg2 _
theorem VC_v1 (d : Dev nD) : VC m d (tcRef main_v1) = ordV (lbOf m d) (scOf m d) := by
  rw [VC_def, setOut_ne _ (by decide), VA_def]; exact opsA_v1 _
theorem VC_v41 (d : Dev nD) : VC m d (tcRef main_v41) = allFlags (TT m d) (MM m d) := by
  rw [VC_def, setOut_out]; rfl

theorem VE_arg0 (d : Dev nD) : VE m d (tcRef main_arg0) = bxOf m d := by
  rw [VE_def]; exact (opsB_arg0 _).trans (VC_arg0 m d)
theorem VE_arg1 (d : Dev nD) : VE m d (tcRef main_arg1) = lbOf m d := by
  rw [VE_def]; exact (opsB_arg1 _).trans (VC_arg1 m d)
theorem VE_arg2 (d : Dev nD) : VE m d (tcRef main_arg2) = scOf m d := by
  rw [VE_def]; exact (opsB_arg2 _).trans (VC_arg2 m d)
theorem VE_v57 (d : Dev nD) : VE m d (tcRef main_v57) = outV (allFlags (TT m d) (MM m d)) (ordV (lbOf m d) (scOf m d)) (bxOf m d) (scOf m d) := by
  rw [VE_def]
  refine (opsB_v57 _).trans ?_
  rw [← VC_v41, ← VC_v1, ← VC_arg0, ← VC_arg2]

/-- The whole run: it ends, quiet, with the arguments as they were and the result this array. -/
theorem run_values [∀ e, Nonempty (Elt F e)] (hc : Conv F) :
    θ_run (Cert.KernelIdeal.defs (F := F)) (Cert.KernelIdeal.threads (F := F)) ⟨m, fun _ => 0, ρ⟩ (fun r =>
      (∀ d : Dev nD, r.2.mem ((d.tc : Thread nD τ).loc main_v57) = outV (allFlags (TT m d) (MM m d)) (ordV (lbOf m d) (scOf m d)) (bxOf m d) (scOf m d)
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)) ∧ r.2.sem = fun _ => 0) :=
  (θ_run _ _ _).mono (fun r h => ⟨fun d => ⟨(h.1 d).2.2.2.trans (VE_v57 m d), (h.1 d).1.trans (VE_arg0 m d),
    (h.1 d).2.1.trans (VE_arg1 m d), (h.1 d).2.2.1.trans (VE_arg2 m d)⟩, h.2⟩) (run_main m ρ (good hc m))

theorem frame_ideal (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩ (fun r =>
      (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)) ∧ r.2.sem = fun _ => 0) :=
  (θ_run _ _ _).mono (fun _ h => ⟨fun d => (h.1 d).2, h.2⟩) (run_values m g conv_ideal)

theorem frame_bits (m : (ℓ : Loc nD τ sig) → Buf (Elt Bits) ℓ) (g : Dev nD → PrngReg) :
    θ_run (Cert.KernelIdeal.defs (F := Bits)) (Cert.KernelIdeal.threads (F := Bits)) ⟨m, fun _ => 0, g⟩ (fun r =>
      (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)) ∧ r.2.sem = fun _ => 0) :=
  (θ_run _ _ _).mono (fun _ h => ⟨fun d => (h.1 d).2, h.2⟩) (run_values m g conv_bits)

end Cert.Proof.Nms

end
-- ==== Proof.RefRun.lean ====
/-
  The reference's run: quiet, its arguments as they were, and its result the last stretches over what its loop leaves.
-/
module

public import proofs.«01_k».proof.Proof.Gen.ReferenceIdeal.Run
public import Idealize.ShloMosaic.Lib.Quiescent

@[expose] public section

set_option maxRecDepth 8192

noncomputable section

namespace Cert.Proof.Ref

open Cert.ReferenceIdeal Cert.ReferenceIdeal.Gen Cert.ReferenceIdeal.Value

open Idealize.ShloMosaic Idealize.ShloMosaic.StableHlo
open Idealize.SL.Sem

variable {F : FTy → Type} [FloatOps F]

variable (m : (ℓ : Loc nD τ sig) → Buf (Elt F) ℓ) (ρ : Dev nD → PrngReg)

/-- What the loop starts from, and what holds before its `k`-th test. -/
def EN (c : Dev nD) : Valuation τ sig (Elt F) := entryContents preI m c
def AT (k : ℕ) (c : Dev nD) : Valuation τ sig (Elt F) := atK m k c

theorem loop_keep (c : Dev nD) (b : Ref sig .tc) (h1 : b ∉ condOps_W) (h2 : b ∉ while0Ops0_W) : ∀ k, AT m k c (Proc.devRef .tc b) = EN m c (Proc.devRef .tc b)
  | 0 => rfl
  | k + 1 => by
    show afterL bodyI (after condOps (AT m k c)) (Proc.devRef .tc b) = _
    rw [afterL_cons, afterL_nil, after_of_writes_sub while0Ops0 _ while0Ops0_writes h2, after_of_writes_sub condOps _ condOps_writes h1, loop_keep c b h1 h2 k]

theorem post_arg0 (V : Valuation τ sig (Elt F)) : afterL postI V (Proc.devRef .tc main_arg0) = V (Proc.devRef .tc main_arg0) := by
  rw [afterL_cons, afterL_cons, afterL_nil]; after_results_simp
theorem post_arg1 (V : Valuation τ sig (Elt F)) : afterL postI V (Proc.devRef .tc main_arg1) = V (Proc.devRef .tc main_arg1) := by
  rw [afterL_cons, afterL_cons, afterL_nil]; after_results_simp
theorem post_arg2 (V : Valuation τ sig (Elt F)) : afterL postI V (Proc.devRef .tc main_arg2) = V (Proc.devRef .tc main_arg2) := by
  rw [afterL_cons, afterL_cons, afterL_nil]; after_results_simp

theorem pre_keep (V : Valuation τ sig (Elt F)) (b : Ref sig .tc) (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W) : afterL preI V (Proc.devRef .tc b) = V (Proc.devRef .tc b) := by
  simp only [afterL_cons, afterL_nil]
  rw [after_of_writes_sub hostOps0_6 _ hostOps0_6_writes h6, after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2, after_of_writes_sub hostOps0_1 _ hostOps0_1_writes h1,
    after_of_writes_sub hostOps0 _ hostOps0_writes h0]

theorem EN_arg0 (c : Dev nD) : EN m c (Proc.devRef .tc main_arg0) = m (c, Proc.devRef .tc main_arg0) :=
  pre_keep _ main_arg0 (by decide +kernel) (by decide +kernel) (by decide +kernel) (by decide +kernel) (by decide +kernel) (by decide +kernel) (by decide +kernel)
theorem EN_arg1 (c : Dev nD) : EN m c (Proc.devRef .tc main_arg1) = m (c, Proc.devRef .tc main_arg1) :=
  pre_keep _ main_arg1 (by decide +kernel) (by decide +kernel) (by decide +kernel) (by decide +kernel) (by decide +kernel) (by decide +kernel) (by decide +kernel)
theorem EN_arg2 (c : Dev nD) : EN m c (Proc.devRef .tc main_arg2) = m (c, Proc.devRef .tc main_arg2) :=
  pre_keep _ main_arg2 (by decide +kernel) (by decide +kernel) (by decide +kernel) (by decide +kernel) (by decide +kernel) (by decide +kernel) (by decide +kernel)

/-- What holds when the loop is over. -/
def VL (c : Dev nD) : Valuation τ sig (Elt F) := after condOps (AT m 5000 c)

theorem VL_keep (c : Dev nD) (b : Ref sig .tc) (h1 : b ∉ condOps_W) (h2 : b ∉ while0Ops0_W) : VL m c (Proc.devRef .tc b) = EN m c (Proc.devRef .tc b) := by
  unfold VL
  rw [after_of_writes_sub condOps _ condOps_writes h1, loop_keep m c b h1 h2]

theorem VL_arg0 (c : Dev nD) : VL m c (Proc.devRef .tc main_arg0) = m (c, Proc.devRef .tc main_arg0) :=
  (VL_keep m c main_arg0 (by decide +kernel) (by decide +kernel)).trans (EN_arg0 m c)
theorem VL_arg1 (c : Dev nD) : VL m c (Proc.devRef .tc main_arg1) = m (c, Proc.devRef .tc main_arg1) :=
  (VL_keep m c main_arg1 (by decide +kernel) (by decide +kernel)).trans (EN_arg1 m c)
theorem VL_arg2 (c : Dev nD) : VL m c (Proc.devRef .tc main_arg2) = m (c, Proc.devRef .tc main_arg2) :=
  (VL_keep m c main_arg2 (by decide +kernel) (by decide +kernel)).trans (EN_arg2 m c)

theorem run_ref : θ_run (defs (F := F)) (onTc (τ := τ) (main (F := F))) ⟨m, fun _ => 0, ρ⟩ (fun r =>
    (∀ c : Dev nD, r.2.mem ((c.tc : Thread nD τ).loc main_v98) = afterL postI (VL m c) (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => ⟨h c main_v98 rfl,
    (h c main_arg0 rfl).trans ((post_arg0 _).trans (VL_arg0 m c)),
    (h c main_arg1 rfl).trans ((post_arg1 _).trans (VL_arg1 m c)),
    (h c main_arg2 rfl).trans ((post_arg2 _).trans (VL_arg2 m c))⟩, sem_eq_zero_of_no_sems rfl _⟩) (run_fold m ρ)

end Cert.Proof.Ref

end
-- ==== Proof.RefArr.lean ====
/-
  The reference's arrays as functions of its three arguments: what its loop starts from, and its result from what the loop
  leaves.
-/
module

public import proofs.«01_k».proof.Proof.RefRun

@[expose] public section

noncomputable section

namespace Cert.Proof.Ref

open Cert.ReferenceIdeal Cert.ReferenceIdeal.Gen Cert.ReferenceIdeal.Value

open Idealize.ShloMosaic Idealize.ShloMosaic.StableHlo

variable {F : FTy → Type} [FloatOps F]

/-- The boxes by score, -/
def byV (sc : FVec F S5000 .f32) : IVec S5000 32 := (Host.sort2 S5000 0 comparator_f32_i32_d0 (Host.negf sc) (iotaInDim S5000 32 0)).2

/-- an order as a column of indices, -/
def idxV (o : IVec S5000 32) : IVec S5000x1 32 :=
  broadcastInDim S5000x1 ![0] bcast_S5000_S5000x1_0
    (select (cmpi .slt o (broadcastInDim S5000 ![] bcast_S_S5000 (constantI S_ 32 0#32)))
      (addi o (broadcastInDim S5000 ![] bcast_S_S5000 (constantI S_ 32 5000#32))) o)

/-- the boxes and the labels in that order, -/
def gbV (bx : FVec F S5000x4 .f32) (o : IVec S5000 32) : FVec F S5000x4 .f32 := Host.gather gather_S5000x4_S5000x1_S5000x4_1_0_n_n_0_1_14 bx (idxV o)
def glV (lab : IVec S5000 32) (o : IVec S5000 32) : IVec S5000 32 := Host.gather gather_S5000_S5000x1_S5000_n_0_n_n_0_1_1 lab (idxV o)

/-- a column of the boxes, -/
def cV (k : Fin 2 → ℕ) (hk : S5000x4.Slices k S5000x1) (g : FVec F S5000x4 .f32) : FVec F S5000 .f32 :=
  shapeCast S5000 (extractStridedSlice S5000x1 k g hk) shapeCasts_S5000x1_S5000

/-- half an extent, -/
def hfV (h : FVec F S5000 .f32) : FVec F S5000 .f32 := Host.divf (Host.absf h) (broadcastInDim S5000 ![] bcast_S_S5000 (constant S_ .f32 0x40000000#32))

/-- a vector down the rows and along the columns of a square. -/
def rowsV {α : Type} (v : S5000.Idx → α) : S5000x5000.Idx → α := broadcastInDim S5000x5000 ![0, 1] bcast_S5000x1_S5000x5000_0_1 (broadcastInDim S5000x1 ![0] bcast_S5000_S5000x1_0 v)
def colsV {α : Type} (v : S5000.Idx → α) : S5000x5000.Idx → α := broadcastInDim S5000x5000 ![0, 1] bcast_S1x5000_S5000x5000_0_1 (broadcastInDim S1x5000 ![1] bcast_S5000_S1x5000_1 v)

/-- The larger and the smaller of two boxes' bounds, for all pairs. -/
def mxV (v : FVec F S5000 .f32) : FVec F S5000x5000 .f32 := maximumf (rowsV v) (colsV v)
def mnV (v : FVec F S5000 .f32) : FVec F S5000x5000 .f32 := minimumf (rowsV v) (colsV v)
/-- Nought at least. -/
def clV (g : FVec F S5000x5000 .f32) : FVec F S5000x5000 .f32 := maximumf (broadcastInDim S5000x5000 ![] bcast_S_S5000x5000 (constant S_ .f32 0x00000000#32)) g

/-- Which pairs overlap by more than a half and are of one class, from the shared areas, the areas and the labels. -/
def supV (it : FVec F S5000x5000 .f32) (ar : FVec F S5000 .f32) (lab : IVec S5000 32) : IVec S5000x5000 1 :=
  andi (cmpf .ogt (Host.divf it (maximumf (subf (addf (rowsV ar) (colsV ar)) it) (broadcastInDim S5000x5000 ![] bcast_S_S5000x5000 (constant S_ .f32 0x3089705F#32))))
      (broadcastInDim S5000x5000 ![] bcast_S_S5000x5000 (constant S_ .f32 0x3F000000#32)))
    (cmpi .eq (rowsV lab) (colsV lab))

/-- The boxes in order, as centres and extents. -/
def c0 (g : FVec F S5000x4 .f32) : FVec F S5000 .f32 := cV ![0, 0] slices_S5000x4_S5000x1_0_0 g
def c1 (g : FVec F S5000x4 .f32) : FVec F S5000 .f32 := cV ![0, 1] slices_S5000x4_S5000x1_0_1 g
def c2 (g : FVec F S5000x4 .f32) : FVec F S5000 .f32 := cV ![0, 2] slices_S5000x4_S5000x1_0_2 g
def c3 (g : FVec F S5000x4 .f32) : FVec F S5000 .f32 := cV ![0, 3] slices_S5000x4_S5000x1_0_3 g

set_option maxHeartbeats 4000000
set_option maxRecDepth 100000

variable (V : Valuation τ sig (Elt F))

theorem s1_v1 : after hostOps0_1 (after hostOps0 V) (Proc.devRef .tc main_v1) = byV (V (Proc.devRef .tc main_arg2)) := by
  after_results_simp
  simp only [TRef.ofBuf, TRef.toBuf, cast_cast, cast_eq, byV]

theorem s2_v15 : after hostOps0_2 V (Proc.devRef .tc main_v15) = glV (V (Proc.devRef .tc main_arg1)) (V (Proc.devRef .tc main_v1)) := by
  after_results_simp; rfl
theorem s2_v38 : after hostOps0_2 V (Proc.devRef .tc main_v38) = mulf (Host.absf (c2 (gbV (V (Proc.devRef .tc main_arg0)) (V (Proc.devRef .tc main_v1)))))
    (Host.absf (c3 (gbV (V (Proc.devRef .tc main_arg0)) (V (Proc.devRef .tc main_v1))))) := by
  after_results_simp; rfl
theorem s2_v48 : after hostOps0_2 V (Proc.devRef .tc main_v48) = mxV (subf (c1 (gbV (V (Proc.devRef .tc main_arg0)) (V (Proc.devRef .tc main_v1))))
    (hfV (c3 (gbV (V (Proc.devRef .tc main_arg0)) (V (Proc.devRef .tc main_v1)))))) := by
  after_results_simp; rfl
theorem s2_v58 : after hostOps0_2 V (Proc.devRef .tc main_v58) = mnV (addf (c1 (gbV (V (Proc.devRef .tc main_arg0)) (V (Proc.devRef .tc main_v1))))
    (hfV (c3 (gbV (V (Proc.devRef .tc main_arg0)) (V (Proc.devRef .tc main_v1)))))) := by
  after_results_simp; rfl
theorem s2_v59 : after hostOps0_2 V (Proc.devRef .tc main_v59) = subf
    (mnV (addf (c0 (gbV (V (Proc.devRef .tc main_arg0)) (V (Proc.devRef .tc main_v1)))) (hfV (c2 (gbV (V (Proc.devRef .tc main_arg0)) (V (Proc.devRef .tc main_v1)))))))
    (mxV (subf (c0 (gbV (V (Proc.devRef .tc main_arg0)) (V (Proc.devRef .tc main_v1)))) (hfV (c2 (gbV (V (Proc.devRef .tc main_arg0)) (V (Proc.devRef .tc main_v1))))))) := by
  after_results_simp; rfl
theorem s2_cst : after hostOps0_2 V (Proc.devRef .tc main_cst_6) = constant S_ .f32 0x00000000#32 := by
  after_results_simp

theorem s5_v60 : after hostOps0_5 (after hostOps0_4 (after hostOps0_3 V)) (Proc.devRef .tc main_v60)
    = maximumf (broadcastInDim S5000x5000 ![] bcast_S_S5000x5000 (V (Proc.devRef .tc main_cst_6))) (V (Proc.devRef .tc main_v59)) := by
  after_results_simp
  simp only [TRef.ofBuf, TRef.toBuf, cast_cast, cast_eq, id]
theorem s5_v62 : after hostOps0_5 (after hostOps0_4 (after hostOps0_3 V)) (Proc.devRef .tc main_v62)
    = clV (subf (V (Proc.devRef .tc main_v58)) (V (Proc.devRef .tc main_v48))) := by
  after_results_simp
  simp only [TRef.ofBuf, TRef.toBuf, cast_cast, cast_eq, id, clV]
theorem s5_keep (b : Ref sig .tc) (h3 : b ∉ hostOps0_3_W) (h4 : b ∉ hostOps0_4_W) (h5 : b ∉ hostOps0_5_W) :
    after hostOps0_5 (after hostOps0_4 (after hostOps0_3 V)) (Proc.devRef .tc b) = V (Proc.devRef .tc b) := by
  rw [after_of_writes_sub hostOps0_5 _ hostOps0_5_writes h5, after_of_writes_sub hostOps0_4 _ hostOps0_4_writes h4, after_of_writes_sub hostOps0_3 _ hostOps0_3_writes h3]

theorem s6_0 : after hostOps0_6 V (Proc.devRef .tc main_v83_0) = supV (mulf (V (Proc.devRef .tc main_v60)) (V (Proc.devRef .tc main_v62))) (V (Proc.devRef .tc main_v38)) (V (Proc.devRef .tc main_v15)) := by
  after_results_simp; rfl
theorem s6_1 : after hostOps0_6 V (Proc.devRef .tc main_v83_1) = iotaInDim S5000 32 0 := by
  after_results_simp; rfl
theorem s6_3 : after hostOps0_6 V (Proc.devRef .tc main_v83_3) = constantI S_ 32 0#32 := by
  after_results_simp; rfl
theorem s6_4 : after hostOps0_6 V (Proc.devRef .tc main_v83_4) = broadcastInDim S5000 ![] bcast_S_S5000 (constantI S_ 1 1#1) := by
  after_results_simp; rfl

/-- The shared areas of the boxes in an order, and their areas. -/
def itV (g : FVec F S5000x4 .f32) : FVec F S5000x5000 .f32 :=
  mulf (clV (subf (mnV (addf (c0 g) (hfV (c2 g)))) (mxV (subf (c0 g) (hfV (c2 g))))))
    (clV (subf (mnV (addf (c1 g) (hfV (c3 g)))) (mxV (subf (c1 g) (hfV (c3 g))))))
def arV (g : FVec F S5000x4 .f32) : FVec F S5000 .f32 := mulf (Host.absf (c2 g)) (Host.absf (c3 g))

/-- Before the boxes are gone through: the order, -/
theorem pre_v1 : afterL preI V (Proc.devRef .tc main_v1) = byV (V (Proc.devRef .tc main_arg2)) := by
  simp only [afterL_cons, afterL_nil]
  rw [after_of_writes_sub hostOps0_6 _ hostOps0_6_writes (by decide +kernel : main_v1 ∉ hostOps0_6_W), s5_keep _ main_v1 (by decide +kernel) (by decide +kernel) (by decide +kernel),
    after_of_writes_sub hostOps0_2 _ hostOps0_2_writes (by decide +kernel : main_v1 ∉ hostOps0_2_W), s1_v1]

/-- the pairs, -/
theorem pre_0 : afterL preI V (Proc.devRef .tc main_v83_0)
    = supV (itV (gbV (V (Proc.devRef .tc main_arg0)) (byV (V (Proc.devRef .tc main_arg2))))) (arV (gbV (V (Proc.devRef .tc main_arg0)) (byV (V (Proc.devRef .tc main_arg2)))))
      (glV (V (Proc.devRef .tc main_arg1)) (byV (V (Proc.devRef .tc main_arg2)))) := by
  simp only [afterL_cons, afterL_nil]
  rw [s6_0, s5_v60, s5_v62, s5_keep _ main_v38 (by decide +kernel) (by decide +kernel) (by decide +kernel), s5_keep _ main_v15 (by decide +kernel) (by decide +kernel) (by decide +kernel),
    s2_cst, s2_v59, s2_v58, s2_v48, s2_v38, s2_v15, s1_v1,
    after_of_writes_sub hostOps0_1 _ hostOps0_1_writes (by decide +kernel : main_arg0 ∉ hostOps0_1_W), after_of_writes_sub hostOps0 _ hostOps0_writes (by decide +kernel : main_arg0 ∉ hostOps0_W),
    after_of_writes_sub hostOps0_1 _ hostOps0_1_writes (by decide +kernel : main_arg1 ∉ hostOps0_1_W), after_of_writes_sub hostOps0 _ hostOps0_writes (by decide +kernel : main_arg1 ∉ hostOps0_W)]
  rfl

/-- and the counts and flags at their start. -/
theorem pre_1 : afterL preI V (Proc.devRef .tc main_v83_1) = iotaInDim S5000 32 0 := by
  simp only [afterL_cons, afterL_nil]; exact s6_1 _
theorem pre_3 : afterL preI V (Proc.devRef .tc main_v83_3) = constantI S_ 32 0#32 := by
  simp only [afterL_cons, afterL_nil]; exact s6_3 _
theorem pre_4 : afterL preI V (Proc.devRef .tc main_v83_4) = broadcastInDim S5000 ![] bcast_S_S5000 (constantI S_ 1 1#1) := by
  simp only [afterL_cons, afterL_nil]; exact s6_4 _

/-- The places of the boxes in the order, -/
def invV (o : IVec S5000 32) : IVec S5000 32 := (Host.sort2 S5000 0 comparator_i32_i32_d0 o (iotaInDim S5000 32 0)).2

/-- the flags box by box, -/
def keptV (k : IVec S5000 1) (o : IVec S5000 32) : FVec F S5000 .f32 :=
  uitofp .f32 (Host.gather gather_S5000_S5000x1_S5000_n_0_n_n_0_1_1 k (idxV (invV o)))

/-- and the result. -/
def resV (kept : FVec F S5000 .f32) (bx : FVec F S5000x4 .f32) (sc : FVec F S5000 .f32) : FVec F S5000x5 .f32 :=
  concatenate S5000x5 1 [⟨S5000x4, mulf bx (broadcastInDim S5000x4 ![0, 1] bcast_S5000x1_S5000x4_0_1 (broadcastInDim S5000x1 ![0] bcast_S5000_S5000x1_0 kept))⟩,
    ⟨S5000x1, broadcastInDim S5000x1 ![0] bcast_S5000_S5000x1_0 (mulf sc kept)⟩] concatenates_S5000x4_S5000x1_S5000x5_d1

theorem cat5 (a a' : FVec F S5000x4 .f32) (b b' : FVec F S5000x1 .f32) (ha : a = a') (hb : b = b') :
    concatenate S5000x5 1 [⟨S5000x4, a⟩, ⟨S5000x1, b⟩] concatenates_S5000x4_S5000x1_S5000x5_d1
    = concatenate S5000x5 1 [⟨S5000x4, a'⟩, ⟨S5000x1, b'⟩] concatenates_S5000x4_S5000x1_S5000x5_d1 := by rw [ha, hb]

theorem s7_v84 : after hostOps0_7 V (Proc.devRef .tc main_v84) = invV (V (Proc.devRef .tc main_v1)) := by
  after_results_simp
  simp only [TRef.ofBuf, TRef.toBuf, cast_cast, cast_eq, invV]

theorem s8_v98 : after hostOps0_8 V (Proc.devRef .tc main_v98)
    = resV (uitofp .f32 (Host.gather gather_S5000_S5000x1_S5000_n_0_n_n_0_1_1 (V (Proc.devRef .tc main_v83_4)) (idxV (V (Proc.devRef .tc main_v84)))))
      (V (Proc.devRef .tc main_arg0)) (V (Proc.devRef .tc main_arg2)) := by
  after_results_simp
  refine cat5 _ _ _ _ ?_ ?_
  · after_results_simp; rfl
  · after_results_simp; rfl

theorem post_v98 : afterL postI V (Proc.devRef .tc main_v98)
    = resV (keptV (V (Proc.devRef .tc main_v83_4)) (V (Proc.devRef .tc main_v1))) (V (Proc.devRef .tc main_arg0)) (V (Proc.devRef .tc main_arg2)) := by
  simp only [afterL_cons, afterL_nil]
  have h4 : after hostOps0_7 V (Proc.devRef .tc main_v83_4) = V (Proc.devRef .tc main_v83_4) := by after_results_simp
  have h0 : after hostOps0_7 V (Proc.devRef .tc main_arg0) = V (Proc.devRef .tc main_arg0) := by after_results_simp
  have h2 : after hostOps0_7 V (Proc.devRef .tc main_arg2) = V (Proc.devRef .tc main_arg2) := by after_results_simp
  rw [s8_v98, s7_v84, h4, h0, h2]
  rfl

end Cert.Proof.Ref

end
-- ==== Proof.Greedy.lean ====
/-
  The mathematics of greedy suppression along an order, and of stable sorts: a stable sort's order is the comparison with
  ties by position; a rule that keeps what no earlier kept thing strikes out has one solution, and two orders that agree
  within the classes lead to the same one.
-/
module

public import Idealize.ShloMosaic.Lib.SortFacts

@[expose] public section

namespace Cert.Proof.Greedy

open Idealize.ShloMosaic

/-! ## A stable sort's order -/

section Sorting

variable {n : ℕ} (B : Fin n → Fin n → Bool)

/-- Sorts before, or ties with and stands before. -/
def Before (a b : Fin n) : Prop := B a b = true ∨ (B b a = false ∧ a < b)

variable (hasym : ∀ a b, B a b = true → B b a = false) (hnt : ∀ a b c, B a b = false → B b c = false → B a c = false)

include hasym hnt in
theorem insert_before (a : Fin n) (l : List (Fin n)) (ha : ∀ b ∈ l, a < b) (hl : l.Pairwise (Before B)) :
    (insertBefore B a l).Pairwise (Before B) := by
  induction l with
  | nil => exact List.pairwise_singleton _ _
  | cons b l ih =>
    obtain ⟨hb, hl'⟩ := List.pairwise_cons.mp hl
    unfold insertBefore
    split
    · next h =>
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl h
      · exact hb x hx'
    · next h =>
      have h' : B b a = false := by simpa using h
      refine List.pairwise_cons.mpr ⟨fun x hx => Or.inr ⟨?_, ha x hx⟩, hl⟩
      rcases List.mem_cons.mp hx with rfl | hx'
      · exact h'
      · have : B x b = false := by
          rcases hb x hx' with h1 | ⟨h1, -⟩
          · exact hasym _ _ h1
          · exact h1
        exact hnt _ _ _ this h'

include hasym hnt in
theorem stable_before (l : List (Fin n)) (hl : l.Pairwise (· < ·)) : (stableSort B l).Pairwise (Before B) := by
  induction l with
  | nil => exact List.Pairwise.nil
  | cons a l ih =>
    obtain ⟨ha, hl'⟩ := List.pairwise_cons.mp hl
    unfold stableSort
    exact insert_before B hasym hnt a _ (fun b hb => ha b ((perm_stableSort _ l).mem_iff.mp hb)) (ih hl')

include hasym hnt in
theorem sorted_before (i j : Fin n) (hij : i < j) : Before B (sortedFrom B i) (sortedFrom B j) := by
  have hp : ∀ a b : Fin (sortPositions n B).length, a < b → Before B ((sortPositions n B).get a) ((sortPositions n B).get b) :=
    List.pairwise_iff_get.mp (stable_before B hasym hnt (List.finRange n) (List.pairwise_lt_finRange n))
  unfold sortedFrom
  exact hp _ _ (by simp only [Fin.lt_def, Fin.val_cast]; exact hij)

include hasym in
theorem before_asym (a b : Fin n) (h : Before B a b) (h' : Before B b a) : False := by
  rcases h with h | ⟨h, hl⟩ <;> rcases h' with h' | ⟨h', hl'⟩
  · rw [hasym _ _ h] at h'; cases h'
  · rw [h] at h'; cases h'
  · rw [h] at h'; cases h'
  · exact lt_asymm hl hl'

include hasym hnt in
theorem sorted_lt_iff (i j : Fin n) : i < j ↔ Before B (sortedFrom B i) (sortedFrom B j) := by
  refine ⟨sorted_before B hasym hnt i j, fun h => ?_⟩
  rcases lt_trichotomy i j with h1 | h1 | h1
  · exact h1
  · subst h1; exact (before_asym B hasym _ _ h h).elim
  · exact (before_asym B hasym _ _ h (sorted_before B hasym hnt j i h1)).elim

end Sorting

/-! ## The greedy rule -/

/-- Kept: no earlier kept one strikes it out. -/
def greedy (H : ℕ → ℕ → Prop) (q : ℕ) : Prop := ¬ ∃ r, ∃ _ : r < q, greedy H r ∧ H r q
termination_by q

theorem greedy_iff (H : ℕ → ℕ → Prop) (q : ℕ) : greedy H q ↔ ¬ ∃ r, r < q ∧ greedy H r ∧ H r q := by
  rw [greedy]
  refine not_congr ⟨?_, ?_⟩
  · rintro ⟨r, h, h'⟩; exact ⟨r, h, h'⟩
  · rintro ⟨r, h, h'⟩; exact ⟨r, h, h'⟩

/-- Two orders that agree wherever one may strike the other out keep the same. -/
theorem same_kept {n : ℕ} (ρ κ : Fin n → Fin n) (hρ : Function.Bijective ρ) (hκ : Function.Bijective κ) (S : Fin n → Fin n → Prop)
    (hag : ∀ a b, S (ρ a) (ρ b) → ∀ e f, κ e = ρ a → κ f = ρ b → (a < b ↔ e < f))
    (KR KK : Fin n → Prop) (hR : ∀ b, KR b ↔ ¬ ∃ a, a < b ∧ KR a ∧ S (ρ a) (ρ b)) (hK : ∀ f, KK f ↔ ¬ ∃ e, e < f ∧ KK e ∧ S (κ e) (κ f)) :
    ∀ b f, κ f = ρ b → (KR b ↔ KK f) := by
  intro b
  induction b using WellFoundedLT.induction with
  | ind b ih =>
    intro f hf
    rw [hR, hK]
    refine not_congr ⟨?_, ?_⟩
    · rintro ⟨a, hab, ha, hs⟩
      obtain ⟨e, he⟩ := hκ.2 (ρ a)
      exact ⟨e, (hag a b hs e f he hf).1 hab, (ih a hab e he).1 ha, by rw [he, hf]; exact hs⟩
    · rintro ⟨e, hef, he, hs⟩
      obtain ⟨a, ha⟩ := hρ.2 (κ e)
      have hs' : S (ρ a) (ρ b) := by rw [ha, ← hf]; exact hs
      have hab := (hag a b hs' e f ha.symm hf).2 hef
      exact ⟨a, hab, (ih a hab e ha.symm).2 he, hs'⟩

/-- A pass that goes down the list once, striking out what comes later, keeps what the rule keeps. -/
theorem pass_rule {n : ℕ} (S : Fin n → Fin n → Prop) (K : ℕ → Fin n → Prop) (h0 : ∀ b, K 0 b)
    (hs : ∀ (k : Fin n) b, K (k.val + 1) b ↔ K k.val b ∧ ¬ (S k b ∧ K k.val k ∧ k < b)) (b : Fin n) :
    K n b ↔ ¬ ∃ a, a < b ∧ K n a ∧ S a b := by
  have key : ∀ k, k ≤ n → ∀ b : Fin n, K k b ↔ ∀ a : Fin n, a.val < k → a < b → ¬ (K a.val a ∧ S a b) := by
    intro k
    induction k with
    | zero => intro _ b; exact ⟨fun _ a ha => absurd ha (Nat.not_lt_zero _), fun _ => h0 b⟩
    | succ k ih =>
      intro hk b
      rw [hs ⟨k, hk⟩ b, ih (by omega) b]
      constructor
      · rintro ⟨h1, h2⟩ a ha hab ⟨h3, h4⟩
        rcases Nat.lt_succ_iff_lt_or_eq.1 ha with h | h
        · exact h1 a h hab ⟨h3, h4⟩
        · have : a = ⟨k, hk⟩ := Fin.ext h
          subst this
          exact h2 ⟨h4, h3, hab⟩
      · intro h
        exact ⟨fun a ha => h a (by omega), fun ⟨h1, h2, h3⟩ => h ⟨k, hk⟩ (Nat.lt_succ_self k) h3 ⟨h2, h1⟩⟩
  have stay : ∀ a : Fin n, K n a ↔ K a.val a := by
    intro a
    rw [key n le_rfl, key a.val (by omega)]
    exact ⟨fun h c hc hca => h c c.isLt hca, fun h c _ hca => h c hca hca⟩
  rw [key n le_rfl]
  constructor
  · rintro h ⟨a, hab, ha, hs⟩
    exact h a a.isLt hab ⟨(stay a).1 ha, hs⟩
  · intro h a _ hab ⟨ha, hs⟩
    exact h ⟨a, hab, (stay a).2 ha, hs⟩

end Cert.Proof.Greedy

end
-- ==== Proof.Places.lean ====
/-
  The two orders of the boxes at the extended reals: by class and then score, and by score alone. Within a class they
  agree, and a class's boxes stand together in the first.
-/
module

public import proofs.«01_k».proof.Proof.Order
public import proofs.«01_k».proof.Proof.Greedy
public import proofs.«01_k».proof.Proof.RefRun

@[expose] public section

noncomputable section

namespace Cert.Proof.Nms

open Idealize.ShloMosaic Idealize.ShloMosaic.ValueIdx Idealize.ShloMosaic.Routing
open Cert.Proof.Greedy

/-- What a comparison of floats sees of a number: at the extended reals the number. -/
theorem seen (x : Ideal .f32) :
    Scalar.select (FloatOps.cmpf .une x x) (FloatOps.ofBits .f32 0x7FC00000#32 : Ideal .f32)
      (Scalar.select (FloatOps.cmpf .oeq x (FloatOps.ofBits .f32 0x00000000#32)) (FloatOps.ofBits .f32 0x00000000#32 : Ideal .f32) x) = x := by
  have h1 : FloatOps.cmpf .une x x = 0#1 := by
    show Ideal.cmp .une x x = 0#1
    exact congrArg BitVec.ofBool (decide_eq_false (fun h => h rfl))
  rw [h1]
  show Scalar.select (FloatOps.cmpf .oeq x (FloatOps.ofBits .f32 0x00000000#32)) (FloatOps.ofBits .f32 0x00000000#32 : Ideal .f32) x = x
  by_cases h : x = (FloatOps.ofBits .f32 0x00000000#32 : Ideal .f32)
  · have h2 : FloatOps.cmpf .oeq x (FloatOps.ofBits .f32 0x00000000#32) = 1#1 := by
      show Ideal.cmp .oeq x _ = 1#1
      exact congrArg BitVec.ofBool (decide_eq_true h)
    rw [h2]; exact h.symm
  · have h2 : FloatOps.cmpf .oeq x (FloatOps.ofBits .f32 0x00000000#32) = 0#1 := by
      show Ideal.cmp .oeq x _ = 0#1
      exact congrArg BitVec.ofBool (decide_eq_false h)
    rw [h2]; rfl

theorem lt_bit (x y : Ideal .f32) : FloatOps.cmpfTotal .lt x y = BitVec.ofBool (decide ((x : EReal) < y)) := rfl

/-- A score as the sorts order it. -/
def key (sc : FVec Ideal Cert.KernelIdeal.S5000 .f32) (i : Fin 5000) : EReal := -(sc (ix1 i) : EReal)

/-- A label as a number. -/
def labI (lab : IVec Cert.KernelIdeal.S5000 32) (i : Fin 5000) : ℤ := (lab (ix1 i)).toInt

variable (lab : IVec Cert.KernelIdeal.S5000 32) (sc : FVec Ideal Cert.KernelIdeal.S5000 .f32)

/-- The comparison by class and score, -/
def byClass (k k' : Fin 5000) : Bool := Cert.KernelIdeal.comparator_i32_f32_i32_d0 (rowOf lab sc k) (rowOf lab sc k') == 1#1

/-- and by score. -/
def byScore (k k' : Fin 5000) : Bool :=
  Cert.ReferenceIdeal.comparator_f32_i32_d0 (F := Ideal) (Host.negf sc (ix1 k), BitVec.ofNat 32 k.val) (Host.negf sc (ix1 k'), BitVec.ofNat 32 k'.val) == 1#1

theorem byScore_iff (a b : Fin 5000) : byScore sc a b = true ↔ key sc a < key sc b := by
  unfold byScore Cert.ReferenceIdeal.comparator_f32_i32_d0
  dsimp only
  rw [seen, seen, lt_bit]
  show (BitVec.ofBool (decide (key sc a < key sc b)) == 1#1) = true ↔ _
  by_cases h : key sc a < key sc b
  · rw [decide_eq_true h]; exact ⟨fun _ => h, fun _ => rfl⟩
  · rw [decide_eq_false h]; exact ⟨fun h' => absurd h' (by decide), fun h' => absurd h' h⟩

theorem byClass_iff (a b : Fin 5000) : byClass lab sc a b = true ↔ labI lab a < labI lab b ∨ (labI lab a = labI lab b ∧ key sc a < key sc b) := by
  unfold byClass Cert.KernelIdeal.comparator_i32_f32_i32_d0
  dsimp only
  rw [seen, seen, lt_bit]
  show ((BitVec.ofBool (BitVec.slt (lab (ix1 a)) (lab (ix1 b))) ||| (BitVec.ofBool (lab (ix1 a) == lab (ix1 b)) &&& BitVec.ofBool (decide (key sc a < key sc b)))) == 1#1) = true ↔ _
  have hb : ∀ x y z : Bool, ((BitVec.ofBool x ||| (BitVec.ofBool y &&& BitVec.ofBool z)) == 1#1) = true ↔ x = true ∨ (y = true ∧ z = true) := by decide
  rw [hb, BitVec.slt_eq_decide, decide_eq_true_iff, decide_eq_true_iff, beq_iff_eq, ← BitVec.toInt_inj]
  rfl

theorem byScore_asym (a b : Fin 5000) (h : byScore sc a b = true) : byScore sc b a = false := by
  rw [byScore_iff] at h
  rw [← Bool.not_eq_true, byScore_iff]
  exact lt_asymm h

theorem byScore_nt (a b c : Fin 5000) (h : byScore sc a b = false) (h' : byScore sc b c = false) : byScore sc a c = false := by
  rw [← Bool.not_eq_true, byScore_iff, not_lt] at h h' ⊢
  exact h'.trans h

theorem byClass_asym (a b : Fin 5000) (h : byClass lab sc a b = true) : byClass lab sc b a = false := by
  rw [byClass_iff] at h
  rw [← Bool.not_eq_true, byClass_iff]
  rintro (h' | ⟨h', h''⟩) <;> rcases h with h | ⟨h1, h2⟩
  · omega
  · omega
  · omega
  · exact lt_asymm h'' h2

theorem byClass_nt (a b c : Fin 5000) (h : byClass lab sc a b = false) (h' : byClass lab sc b c = false) : byClass lab sc a c = false := by
  rw [← Bool.not_eq_true, byClass_iff, not_or, not_and, not_lt, not_lt] at h h' ⊢
  refine ⟨h'.1.trans h.1, fun e => ?_⟩
  have e1 : labI lab a = labI lab b := by have := h.1; have := h'.1; omega
  exact (h'.2 (by omega)).trans (h.2 e1)

/-- The score order. -/
def refσ : Fin 5000 → Fin 5000 := sortedFrom (byScore sc)

theorem refσ_bij : Function.Bijective (refσ sc) := ⟨sortedFrom_injective _, sortedFrom_surjective _⟩

theorem refσ_lt (a b : Fin 5000) : a < b ↔ Before (byScore sc) (refσ sc a) (refσ sc b) := sorted_lt_iff _ (byScore_asym sc) (byScore_nt sc) a b
theorem ordσ_lt (e f : Fin 5000) : e < f ↔ Before (byClass lab sc) (ordσ lab sc e) (ordσ lab sc f) :=
  sorted_lt_iff (byClass lab sc) (byClass_asym lab sc) (byClass_nt lab sc) e f

/-- Within a class the two orders agree. -/
theorem orders_agree (a b e f : Fin 5000) (hl : labI lab (refσ sc a) = labI lab (refσ sc b)) (he : ordσ lab sc e = refσ sc a) (hf : ordσ lab sc f = refσ sc b) :
    a < b ↔ e < f := by
  rw [refσ_lt sc, ordσ_lt lab sc, he, hf]
  unfold Before
  rw [← Bool.not_eq_true, ← Bool.not_eq_true, byScore_iff, byScore_iff, byClass_iff, byClass_iff, hl]
  simp

/-! ## A class's stretch of the order -/

theorem below_iff {n : ℕ} (S : Finset (Fin n)) (hS : ∀ a b, a ≤ b → b ∈ S → a ∈ S) (e : Fin n) : e ∈ S ↔ e.val < S.card := by
  constructor
  · intro he
    have : (Finset.Iic e).card ≤ S.card := Finset.card_le_card fun x hx => hS x e (Finset.mem_Iic.1 hx) he
    rw [Fin.card_Iic] at this
    omega
  · intro he
    by_contra h
    have : S.card ≤ (Finset.Iio e).card := Finset.card_le_card fun x hx => by
      rw [Finset.mem_Iio]
      by_contra hx'
      exact h (hS e x (not_lt.1 hx') hx)
    rw [Fin.card_Iio] at this
    omega

theorem ordσ_mono (e f : Fin 5000) (h : e ≤ f) : labI lab (ordσ lab sc e) ≤ labI lab (ordσ lab sc f) := by
  rcases h.lt_or_eq with h | rfl
  · rw [ordσ_lt lab sc] at h
    rcases h with h | ⟨h, -⟩
    · rw [byClass_iff] at h; omega
    · rw [← Bool.not_eq_true, byClass_iff] at h; omega
  · exact le_refl _

variable (hl : ∀ i, 0 ≤ labI lab i ∧ labI lab i < 8)

include hl in
theorem labOf_self (i : Fin 5000) : labOf lab i = lab (ix1 i) := by
  unfold labOf
  have h : IntOp.cmpi .slt (lab (ix1 i)) 0#32 = 0#1 := by
    show BitVec.ofBool (BitVec.slt _ _) = 0#1
    rw [BitVec.slt_eq_decide]
    exact congrArg BitVec.ofBool (decide_eq_false (by have := (hl i).1; unfold labI at this; rw [show (0#32).toInt = 0 from rfl]; omega))
  rw [h]; rfl

include hl in
theorem startN_card (c : ℕ) : startN lab c = (Finset.univ.filter fun i => labI lab i < (c : ℤ)).card := by
  have : startN lab c = ((Finset.range c).biUnion (members lab)).card := by
    rw [Finset.card_biUnion (fun a _ b _ hab => members_disj lab hab)]
    unfold startN
    rw [Finset.sum_range, ← List.sum_ofFn, List.ofFn_eq_map]
    exact congrArg List.sum (map_finRange_val c (cntN lab)).symm
  rw [this]
  congr 1
  ext i
  simp only [Finset.mem_biUnion, Finset.mem_range, members, Finset.mem_filter, Finset.mem_univ, true_and]
  rw [labOf_self lab hl]
  have := hl i
  constructor
  · rintro ⟨a, ha, he⟩
    unfold labI; omega
  · intro h
    refine ⟨(labI lab i).toNat, by omega, ?_⟩
    have : (lab (ix1 i)).toInt = labI lab i := rfl
    omega

include hl in
theorem lt_start (c : ℕ) (e : Fin 5000) : e.val < startN lab c ↔ labI lab (ordσ lab sc e) < (c : ℤ) := by
  have hc : (Finset.univ.filter fun e => labI lab (ordσ lab sc e) < (c : ℤ)).card = startN lab c := by
    rw [startN_card lab hl]
    refine Finset.card_bij (fun e _ => ordσ lab sc e) ?_ ?_ ?_
    · intro a ha; rw [Finset.mem_filter] at ha ⊢; exact ⟨Finset.mem_univ _, ha.2⟩
    · intro a _ b _ h; exact (ordσ_bij lab sc).1 h
    · intro b hb
      obtain ⟨a, rfl⟩ := (ordσ_bij lab sc).2 b
      rw [Finset.mem_filter] at hb
      exact ⟨a, by rw [Finset.mem_filter]; exact ⟨Finset.mem_univ _, hb.2⟩, rfl⟩
  rw [← hc, ← below_iff _ ?_ e, Finset.mem_filter]
  · exact ⟨fun h => h.2, fun h => ⟨Finset.mem_univ _, h⟩⟩
  · intro a b hab hb
    rw [Finset.mem_filter] at hb ⊢
    exact ⟨Finset.mem_univ _, (ordσ_mono lab sc a b hab).trans_lt hb.2⟩

include hl in
/-- A class's boxes are those at its stretch. -/
theorem stretch_iff (c : ℕ) (e : Fin 5000) : startN lab c ≤ e.val ∧ e.val < startN lab c + cntN lab c ↔ labI lab (ordσ lab sc e) = (c : ℤ) := by
  rw [← startN_succ, lt_start lab sc hl (c + 1), ← not_lt, lt_start lab sc hl c]
  push_cast
  omega

end Cert.Proof.Nms

end
-- ==== Proof.Lanes.lean ====
/-
  One trip's arithmetic at the extended reals: which kept boxes strike a candidate out, lane by lane, and what the maximum
  over the lanes says.
-/
module

public import proofs.«01_k».proof.Proof.Model
public import Idealize.ShloMosaic.Lib.Routing.OpsSet
public import Idealize.ShloMosaic.Lib.Pipeline.Value

@[expose] public section

noncomputable section

namespace Cert.Proof.Nms

open Cert.KernelIdeal Cert.KernelIdeal.Gen
open Idealize.ShloMosaic Idealize.ShloMosaic.ValueIdx Idealize.ShloMosaic.Routing

/-! ## Two boxes -/

abbrev R := Ideal .f32

def zero : R := Scalar.ofBits .f32 0x00000000#32
def one : R := Scalar.ofBits .f32 0x3F800000#32
def half : R := Scalar.ofBits .f32 0x3F000000#32
def tiny : R := Scalar.ofBits .f32 0x3089705F#32

theorem zero_eq : zero = (0 : EReal) := by
  show Ideal.ofBits .f32 0x00000000#32 = 0
  simp [Ideal.ofBits, Ideal.ieee]
theorem one_eq : one = (1 : EReal) := by
  show Ideal.ofBits .f32 0x3F800000#32 = 1
  simp [Ideal.ofBits, Ideal.ieee]
  rw [← EReal.coe_mul, ← EReal.coe_one]
  exact congrArg _ (by norm_num)
theorem half_eq : half = (((1 : ℝ) / 2 : ℝ) : EReal) := by
  show Ideal.ofBits .f32 0x3F000000#32 = _
  simp only [Ideal.ofBits, Ideal.ieee]
  simp
  rw [← EReal.coe_mul]
  exact congrArg _ (by norm_num)

/-- A box's corners and area. -/
structure C5 where
  y1 : R
  x1 : R
  y2 : R
  x2 : R
  ar : R

/-- The corners and the area of the box of a centre and extents. -/
def mkBox (yc xc h w : R) : C5 where
  y1 := FloatOps.subf yc (FloatOps.mulf half (FloatOps.absf h))
  x1 := FloatOps.subf xc (FloatOps.mulf half (FloatOps.absf w))
  y2 := FloatOps.addf yc (FloatOps.mulf half (FloatOps.absf h))
  x2 := FloatOps.addf xc (FloatOps.mulf half (FloatOps.absf w))
  ar := FloatOps.mulf (FloatOps.absf h) (FloatOps.absf w)

/-- The area two boxes share, -/
def inter (k c : C5) : R :=
  FloatOps.mulf (FloatOps.maximumf (FloatOps.subf (FloatOps.minimumf k.y2 c.y2) (FloatOps.maximumf k.y1 c.y1)) zero)
    (FloatOps.maximumf (FloatOps.subf (FloatOps.minimumf k.x2 c.x2) (FloatOps.maximumf k.x1 c.x1)) zero)

/-- its part of what they cover, -/
def iou (k c : C5) : R :=
  FloatOps.divf (inter k c) (FloatOps.maximumf (FloatOps.subf (FloatOps.addf k.ar c.ar) (inter k c)) tiny)

/-- and whether that is more than a half. -/
def hit (k c : C5) : BitVec 1 := FloatOps.cmpf .ogt (iou k c) half

/-- One where the bit is set, zero where not. -/
def ind (b : BitVec 1) : R := Scalar.select b one zero

theorem bit_cases (b : BitVec 1) : b = 0#1 ∨ b = 1#1 := by revert b; decide

theorem zero_ne_one : zero ≠ one := by rw [zero_eq, one_eq]; exact _root_.zero_ne_one
theorem ind_one : ind 1#1 = one := rfl
theorem ind_zero : ind 0#1 = zero := rfl

theorem ind_gt (b : BitVec 1) : FloatOps.cmpf .ogt (ind b) half = b := by
  show Ideal.cmp .ogt (ind b) half = b
  rcases bit_cases b with rfl | rfl
  · rw [ind_zero, zero_eq, half_eq]
    have : ¬ ((((1 : ℝ) / 2 : ℝ) : EReal) < 0) := by
      rw [not_lt]; exact_mod_cast (by norm_num : (0 : ℝ) ≤ 1 / 2)
    exact congrArg BitVec.ofBool (decide_eq_false this)
  · rw [ind_one, one_eq, half_eq]
    have : ((((1 : ℝ) / 2 : ℝ) : EReal) < 1) := by
      exact_mod_cast (by norm_num : ((1 : ℝ) / 2) < 1)
    exact congrArg BitVec.ofBool (decide_eq_true this)

theorem ind_max (b c : BitVec 1) : FloatOps.maximumf (ind b) (ind c) = ind (b ||| c) := by
  show max (ind b) (ind c) = ind (b ||| c)
  have h01 : (zero : EReal) ≤ one := by rw [zero_eq, one_eq]; exact zero_le_one
  rcases bit_cases b with rfl | rfl <;> rcases bit_cases c with rfl | rfl
  · exact max_self _
  · exact max_eq_right h01
  · exact max_eq_left h01
  · exact max_self _

/-! ## One chunk of the sweep -/

/-- An element of a kept array, by number. -/
def elt (f : Vec Ideal S5024 .f32) (k : ℕ) : R := f fun a => ⟨k % S5024.size a, Nat.mod_lt _ (by revert a; decide)⟩

/-- A kept box, by number. -/
def keptBox (s : St Ideal) (k : ℕ) : C5 := ⟨elt s.y1 k, elt s.x1 k, elt s.y2 k, elt s.x2 k, elt s.ar k⟩

/-- The box of an entry, in one lane. -/
def laneBox (a : Ent Ideal) (x : S16.Idx) : C5 := mkBox (a.yc x) (a.xc x) (a.h x) (a.w x)

theorem boxA_lane (a : Ent Ideal) (x : S16.Idx) :
    (⟨(boxA a).y1 x, (boxA a).x1 x, (boxA a).y2 x, (boxA a).x2 x, (boxA a).ar x⟩ : C5) = laneBox a x := rfl
theorem boxB_lane (a : Ent Ideal) (x : S16.Idx) :
    (⟨(boxB a).y1 x, (boxB a).x1 x, (boxB a).y2 x, (boxB a).x2 x, (boxB a).ar x⟩ : C5) = laneBox a x := rfl

theorem chunk_fst (a b : Ent Ideal) (s : St Ideal) (c : ℕ) (r : FVec Ideal S16 .f32 × FVec Ideal S16 .f32) (x : S16.Idx) :
    (chunk a b s c r).1 x = FloatOps.maximumf (FloatOps.maximumf (r.1 x) (ind (hit (keptBox s (32 * c + (x 0).val)) (laneBox a x))))
      (ind (hit (keptBox s (32 * c + 16 + (x 0).val)) (laneBox a x))) := rfl
theorem chunk_snd (a b : Ent Ideal) (s : St Ideal) (c : ℕ) (r : FVec Ideal S16 .f32 × FVec Ideal S16 .f32) (x : S16.Idx) :
    (chunk a b s c r).2 x = FloatOps.maximumf (FloatOps.maximumf (r.2 x) (ind (hit (keptBox s (32 * c + (x 0).val)) (laneBox b x))))
      (ind (hit (keptBox s (32 * c + 16 + (x 0).val)) (laneBox b x))) := rfl

theorem hitAB_lane (a b : Ent Ideal) : hitAB a b = FloatOps.cmpf .ogt (ind (hit (laneBox a (ix1 0)) (laneBox b (ix1 0)))) half := by
  have hz : ∀ v : FVec Ideal S16 .f32, extractAt ![0] (extractStridedSlice S1 ![0] v slices_S16_o0_S1) inpos_S1_p0 = v (ix1 0) := by
    intro v
    refine congrArg v (funext fun a => Fin.ext ?_)
    match a with
    | ⟨0, _⟩ => rfl
  unfold hitAB k0_pay39
  dsimp only
  rw [hz]
  rfl

/-! ## The maximum over the lanes -/

/-- A vector turned round by `k` lanes. -/
theorem turn {m k : ℕ} (v : FVec Ideal S16 .f32) (h1 : S16.Slices ![k] (shape1 m)) (h0 : S16.Slices ![0] (shape1 k))
    (hc : Shape.Concatenates [shape1 m, shape1 k] S16 0) (hmk : m + k = 16) (i : Fin 16) :
    concatenate S16 0 [⟨shape1 m, extractStridedSlice (shape1 m) ![k] v h1⟩, ⟨shape1 k, extractStridedSlice (shape1 k) ![0] v h0⟩] hc (ix1 i)
      = v (ix1 ⟨(i.val + k) % 16, Nat.mod_lt _ (by decide)⟩) := by
  by_cases hi : i.val < m
  · rw [concatenate_pair_apply_left (t := S16) 0 _ _ hc (ix1 i) rfl (ix1 ⟨i.val, hi⟩) (by intro b; match b with | ⟨0, _⟩ => rfl)]
    refine congrArg v (funext fun a => Fin.ext ?_)
    match a with
    | ⟨0, _⟩ =>
      show k + i.val = (i.val + k) % 16
      omega
  · have hlt : i.val - m < k := by have := i.isLt; omega
    rw [concatenate_pair_apply_right (t := S16) 0 _ _ hc (ix1 i) rfl rfl (ix1 ⟨i.val - m, hlt⟩)
      (by intro b hb; match b with | ⟨0, _⟩ => exact absurd rfl hb) (by show i.val - m + m = i.val; omega)]
    refine congrArg v (funext fun a => Fin.ext ?_)
    match a with
    | ⟨0, _⟩ =>
      show 0 + (i.val - m) = (i.val + k) % 16
      have := i.isLt
      omega

/-- A vector of ones and zeros. -/
def vec (p : Fin 16 → BitVec 1) : FVec Ideal S16 .f32 := fun x => ind (p (x 0))

/-- Each lane with the lane whose number differs in one bit. -/
def fold (k : ℕ) (p : Fin 16 → BitVec 1) : Fin 16 → BitVec 1 := fun i =>
  p i ||| (if i.val &&& k = 0 then p ⟨(i.val + k) % 16, Nat.mod_lt _ (by decide)⟩ else p ⟨(i.val + (16 - k)) % 16, Nat.mod_lt _ (by decide)⟩)

theorem lane_bit (w : BitVec 32) (k : ℕ) (hk : k < 16) (hw : w = BitVec.ofNat 32 k) (i : Fin 16) :
    cmpi .eq (andi lanes (broadcast S16 w)) (broadcast S16 0#32) (ix1 i) = BitVec.ofBool (decide (i.val &&& k = 0)) := by
  subst hw
  have hl : lanes (ix1 i) = BitVec.ofNat 32 i.val := by fin_cases i <;> rfl
  show BitVec.ofBool (lanes (ix1 i) &&& BitVec.ofNat 32 k == 0#32) = _
  rw [hl]
  congr 1
  rw [beq_eq_decide]
  have hi := i.isLt
  rw [decide_eq_decide]
  rw [← BitVec.toNat_inj, BitVec.toNat_and, BitVec.toNat_ofNat, BitVec.toNat_ofNat, Nat.mod_eq_of_lt (by omega), Nat.mod_eq_of_lt (by omega)]
  rfl

/-- One step of the maximum over the lanes. -/
theorem fold_vec {m k : ℕ} (w : BitVec 32) (hw : w = BitVec.ofNat 32 k) (p : Fin 16 → BitVec 1) (h1 : S16.Slices ![k] (shape1 m)) (h0 : S16.Slices ![0] (shape1 k))
    (hc : Shape.Concatenates [shape1 m, shape1 k] S16 0) (h1' : S16.Slices ![m] (shape1 k)) (h0' : S16.Slices ![0] (shape1 m))
    (hc' : Shape.Concatenates [shape1 k, shape1 m] S16 0) (hmk : m + k = 16) (hm : 0 < m) :
    maximumf (vec p) (select (cmpi .eq (andi lanes (broadcast S16 w)) (broadcast S16 0#32))
      (concatenate S16 0 [⟨shape1 m, extractStridedSlice (shape1 m) ![k] (vec p) h1⟩, ⟨shape1 k, extractStridedSlice (shape1 k) ![0] (vec p) h0⟩] hc)
      (concatenate S16 0 [⟨shape1 k, extractStridedSlice (shape1 k) ![m] (vec p) h1'⟩, ⟨shape1 m, extractStridedSlice (shape1 m) ![0] (vec p) h0'⟩] hc'))
      = vec (fold k p) := by
  funext x
  obtain ⟨i, rfl⟩ : ∃ i : Fin 16, x = ix1 i := ⟨x 0, eq_ix1 x⟩
  show FloatOps.maximumf (vec p (ix1 i)) (Scalar.select (cmpi .eq (andi lanes (broadcast S16 w)) (broadcast S16 0#32) (ix1 i)) _ _) = _
  rw [lane_bit w k (by omega) hw i, turn (vec p) h1 h0 hc hmk i, turn (vec p) h1' h0' hc' (by omega) i]
  have hm' : m = 16 - k := by omega
  subst hm'
  show _ = ind (fold k p i)
  unfold fold
  by_cases h : i.val &&& k = 0
  · rw [decide_eq_true h, if_pos h]
    exact ind_max _ _
  · rw [decide_eq_false h, if_neg h]
    exact ind_max _ _

/-- Some lane is set. -/
theorem fold_all (p : Fin 16 → BitVec 1) : fold 8 (fold 4 (fold 2 (fold 1 p))) 0 = 1#1 ↔ ∃ i, p i = 1#1 := by
  have hor : ∀ a b : BitVec 1, a ||| b = 1#1 ↔ a = 1#1 ∨ b = 1#1 := by decide
  have e : fold 8 (fold 4 (fold 2 (fold 1 p))) 0
      = (((p 0 ||| p 1) ||| (p 2 ||| p 3)) ||| ((p 4 ||| p 5) ||| (p 6 ||| p 7))) ||| (((p 8 ||| p 9) ||| (p 10 ||| p 11)) ||| ((p 12 ||| p 13) ||| (p 14 ||| p 15))) := rfl
  rw [e]
  simp only [hor]
  constructor
  · rintro ((((h | h) | (h | h)) | ((h | h) | (h | h))) | (((h | h) | (h | h)) | ((h | h) | (h | h)))) <;> exact ⟨_, h⟩
  · rintro ⟨i, h⟩
    fin_cases i <;> simp_all

theorem first_lane (v : FVec Ideal S16 .f32) : extractAt ![0] (extractStridedSlice S1 ![0] v slices_S16_o0_S1) inpos_S1_p0 = v (ix1 0) := by
  refine congrArg v (funext fun a => Fin.ext ?_)
  match a with
  | ⟨0, _⟩ => rfl

theorem supA_vec (p : Fin 16 → BitVec 1) (r : FVec Ideal S16 .f32 × FVec Ideal S16 .f32) (hr : r.1 = vec p) :
    supA lanes r = fold 8 (fold 4 (fold 2 (fold 1 p))) 0 := by
  unfold supA
  rw [hr]
  have e : k0_pay34 lanes (vec p) = vec (fold 1 p) := by
    unfold k0_pay34
    dsimp only
    rw [fold_vec (m := 15) (k := 1) 1#32 rfl p slices_S16_o1_S15 slices_S16_o0_S1 concatenates_S15_S1_S16_d0 slices_S16_o15_S1 slices_S16_o0_S15 concatenates_S1_S15_S16_d0 rfl (by decide)]
  rw [e]
  unfold k0_pay36 k0_pay35
  dsimp only
  rw [fold_vec (m := 14) (k := 2) 2#32 rfl _ slices_S16_o2_S14 slices_S16_o0_S2 concatenates_S14_S2_S16_d0 slices_S16_o14_S2 slices_S16_o0_S14 concatenates_S2_S14_S16_d0 rfl (by decide),
      fold_vec (m := 12) (k := 4) 4#32 rfl _ slices_S16_o4_S12 slices_S16_o0_S4 concatenates_S12_S4_S16_d0 slices_S16_o12_S4 slices_S16_o0_S12 concatenates_S4_S12_S16_d0 rfl (by decide),
    fold_vec (m := 8) (k := 8) 8#32 rfl _ slices_S16_o8_S8 slices_S16_o0_S8 concatenates_S8_S8_S16_d0 slices_S16_o8_S8 slices_S16_o0_S8 concatenates_S8_S8_S16_d0 rfl (by decide),
    first_lane]
  exact ind_gt _

theorem supB_vec (p : Fin 16 → BitVec 1) (r : FVec Ideal S16 .f32 × FVec Ideal S16 .f32) (hr : r.2 = vec p) :
    supB lanes r = fold 8 (fold 4 (fold 2 (fold 1 p))) 0 := by
  unfold supB k0_pay42 k0_pay43
  rw [hr]
  have e : k0_pay40 lanes (vec p) = vec (fold 2 (fold 1 p)) := by
    unfold k0_pay40
    dsimp only
    rw [fold_vec (m := 15) (k := 1) 1#32 rfl p slices_S16_o1_S15 slices_S16_o0_S1 concatenates_S15_S1_S16_d0 slices_S16_o15_S1 slices_S16_o0_S15 concatenates_S1_S15_S16_d0 rfl (by decide),
      fold_vec (m := 14) (k := 2) 2#32 rfl _ slices_S16_o2_S14 slices_S16_o0_S2 concatenates_S14_S2_S16_d0 slices_S16_o14_S2 slices_S16_o0_S14 concatenates_S2_S14_S16_d0 rfl (by decide)]
  rw [e]
  unfold k0_pay44 k0_pay41
  dsimp only
  rw [fold_vec (m := 12) (k := 4) 4#32 rfl _ slices_S16_o4_S12 slices_S16_o0_S4 concatenates_S12_S4_S16_d0 slices_S16_o12_S4 slices_S16_o0_S12 concatenates_S4_S12_S16_d0 rfl (by decide),
    fold_vec (m := 8) (k := 8) 8#32 rfl _ slices_S16_o8_S8 slices_S16_o0_S8 concatenates_S8_S8_S16_d0 slices_S16_o8_S8 slices_S16_o0_S8 concatenates_S8_S8_S16_d0 rfl (by decide),
    first_lane]
  exact ind_gt _

/-! ## The sweep -/

/-- Which kept boxes the first `k` chunks have met in a lane, struck or not. -/
def met (s : St Ideal) (c : C5) : ℕ → Fin 16 → BitVec 1
  | 0 => fun _ => 0#1
  | k + 1 => fun i => (met s c k i ||| hit (keptBox s (32 * k + i.val)) c) ||| hit (keptBox s (32 * k + 16 + i.val)) c

theorem chunks_vec (a b : Ent Ideal) (s : St Ideal) (A B : C5) (ha : ∀ x, laneBox a x = A) (hb : ∀ x, laneBox b x = B) (k : ℕ) :
    (chunks a b s k).1 = vec (met s A k) ∧ (chunks a b s k).2 = vec (met s B k) := by
  induction k with
  | zero => exact ⟨rfl, rfl⟩
  | succ k ih =>
    constructor
    · funext x
      show (chunk a b s k (chunks a b s k)).1 x = _
      rw [chunk_fst, ih.1, ha]
      show FloatOps.maximumf (FloatOps.maximumf (ind _) _) _ = _
      rw [ind_max, ind_max]
      rfl
    · funext x
      show (chunk a b s k (chunks a b s k)).2 x = _
      rw [chunk_snd, ih.2, hb]
      show FloatOps.maximumf (FloatOps.maximumf (ind _) _) _ = _
      rw [ind_max, ind_max]
      rfl

theorem met_iff (s : St Ideal) (c : C5) (k : ℕ) (i : Fin 16) :
    met s c k i = 1#1 ↔ ∃ j, j < 32 * k ∧ j % 16 = i.val ∧ hit (keptBox s j) c = 1#1 := by
  have hor : ∀ a b : BitVec 1, a ||| b = 1#1 ↔ a = 1#1 ∨ b = 1#1 := by decide
  induction k with
  | zero => exact ⟨fun h => absurd h (by show ¬ (0#1 = 1#1); decide), fun ⟨j, h, _⟩ => absurd h (by omega)⟩
  | succ k ih =>
    refine (hor (met s c k i ||| hit (keptBox s (32 * k + i.val)) c) (hit (keptBox s (32 * k + 16 + i.val)) c)).trans
      ((or_congr ((hor _ _).trans (or_congr ih Iff.rfl)) Iff.rfl).trans ?_)
    have := i.isLt
    constructor
    · rintro ((⟨j, h1, h2, h3⟩ | h) | h)
      · exact ⟨j, by omega, h2, h3⟩
      · exact ⟨_, by omega, by omega, h⟩
      · exact ⟨_, by omega, by omega, h⟩
    · rintro ⟨j, h1, h2, h3⟩
      by_cases hj : j < 32 * k
      · exact Or.inl (Or.inl ⟨j, hj, h2, h3⟩)
      · by_cases hj' : j < 32 * k + 16
        · exact Or.inl (Or.inr (by rw [show 32 * k + i.val = j by omega]; exact h3))
        · exact Or.inr (by rw [show 32 * k + 16 + i.val = j by omega]; exact h3)

theorem some_met (s : St Ideal) (c : C5) (k : ℕ) : fold 8 (fold 4 (fold 2 (fold 1 (met s c k)))) 0 = 1#1 ↔ ∃ j, j < 32 * k ∧ hit (keptBox s j) c = 1#1 := by
  rw [fold_all]
  constructor
  · rintro ⟨i, h⟩
    obtain ⟨j, h1, -, h3⟩ := (met_iff s c k i).1 h
    exact ⟨j, h1, h3⟩
  · rintro ⟨j, h1, h3⟩
    exact ⟨⟨j % 16, Nat.mod_lt _ (by decide)⟩, (met_iff s c k _).2 ⟨j, h1, rfl, h3⟩⟩

/-- The first candidate is struck out exactly when a kept box strikes it, -/
theorem supA_iff (a b : Ent Ideal) (s : St Ideal) (A B : C5) (ha : ∀ x, laneBox a x = A) (hb : ∀ x, laneBox b x = B) (k : ℕ) :
    supA lanes (chunks a b s k) = 1#1 ↔ ∃ j, j < 32 * k ∧ hit (keptBox s j) A = 1#1 := by
  rw [supA_vec _ _ (chunks_vec a b s A B ha hb k).1, some_met]

/-- the second likewise, -/
theorem supB_iff (a b : Ent Ideal) (s : St Ideal) (A B : C5) (ha : ∀ x, laneBox a x = A) (hb : ∀ x, laneBox b x = B) (k : ℕ) :
    supB lanes (chunks a b s k) = 1#1 ↔ ∃ j, j < 32 * k ∧ hit (keptBox s j) B = 1#1 := by
  rw [supB_vec _ _ (chunks_vec a b s A B ha hb k).2, some_met]

/-- and the two against each other. -/
theorem hitAB_eq (a b : Ent Ideal) (A B : C5) (ha : ∀ x, laneBox a x = A) (hb : ∀ x, laneBox b x = B) : hitAB a b = hit A B := by
  rw [hitAB_lane, ha, hb, ind_gt]

end Cert.Proof.Nms

end
-- ==== Proof.Pass.lean ====
/-
  A tile's pass at the extended reals: after every trip the kept boxes are those of the greedy rule among the boxes gone
  through, and the flags say which.
-/
module

public import proofs.«01_k».proof.Proof.Lanes
public import proofs.«01_k».proof.Proof.Greedy
public import proofs.«01_k».proof.Proof.Ranges

@[expose] public section

noncomputable section

namespace Cert.Proof.Nms

open Cert.KernelIdeal Cert.KernelIdeal.Gen
open Idealize.ShloMosaic Idealize.ShloMosaic.ValueIdx Idealize.ShloMosaic.Routing
open Cert.Proof.Greedy

/-! ## A write in lane zero -/

theorem foldl_masked {β : Type} (l : List (Fin 16)) (g : β → Fin 16 → β) (f : β) (h : ∀ k ∈ l, ∀ f, g f k = f) : l.foldl g f = f := by
  induction l generalizing f with
  | nil => rfl
  | cons a l ih => rw [List.foldl_cons, h a List.mem_cons_self f]; exact ih f fun k hk => h k (List.mem_cons_of_mem _ hk)

theorem foldl_first {β : Type} (g : β → Fin 16 → β) (f : β) (h : ∀ k, k ≠ 0 → ∀ f, g f k = f) : (List.finRange 16).foldl g f = g f 0 := by
  have hf : List.finRange 16 = 0 :: (List.finRange 15).map Fin.succ := List.finRange_succ
  rw [hf, List.foldl_cons]
  refine foldl_masked _ _ _ fun k hk f => ?_
  obtain ⟨i, -, rfl⟩ := List.mem_map.1 hk
  exact h _ (Fin.succ_ne_zero i) f

theorem sto_one {N : ℕ} (f : Vec Ideal (shape1 N) .f32) (w : BitVec 32) (hw : w.toNat < N) (v : Vec Ideal S16 .f32) (m : IVec S16 1) (c : BitVec 1)
    (h0 : m (ix1 0) = c) (h1 : ∀ i : Fin 16, i ≠ 0 → m (ix1 i) = 0#1) (j : (shape1 N).Idx) :
    sto (s := shape1 N) f ![broadcast S16 w] v m j = if c = 1#1 ∧ (j 0).val = w.toNat then v (ix1 0) else f j := by
  have hb : ∀ a x, ((![broadcast S16 w] : Fin 1 → IVec S16 32) a x).toNat < (shape1 N).size a := by
    intro a x
    match a with
    | ⟨0, _⟩ => exact hw
  rw [sto_eq _ _ _ _ hb]
  unfold storeIdx
  have hl : ∀ k : Fin 16, (Shape.ofLane (d := ![16]) k : S16.Idx) = ix1 k := by
    intro k
    funext a
    match a with
    | ⟨0, _⟩ => rfl
  refine (congrFun (foldl_first _ f fun k hk g => ?_) j).trans ?_
  · show (if m (Shape.ofLane (d := ![16]) k) = 1 then _ else g) = g
    rw [hl, h1 k hk]
    exact if_neg (by decide)
  · have h0' : m (Shape.ofLane (d := ![16]) (0 : Fin 16)) = c := (congrArg m (hl 0)).trans h0
    have hv : v (Shape.ofLane (d := ![16]) (0 : Fin 16)) = v (ix1 0) := congrArg v (hl 0)
    dsimp only
    rw [if_neg (by decide : ¬ false = true)]
    by_cases hc : c = 1#1
    · refine (congrFun (if_pos (h0'.trans hc)) j).trans ?_
      by_cases hj : (j 0).val = w.toNat
      · exact ((if_pos fun a => by match a with | ⟨0, _⟩ => exact hj).trans hv).trans (if_pos ⟨hc, hj⟩).symm
      · exact (if_neg fun h => hj (h 0)).trans (if_neg fun h => hj h.2).symm
    · refine (congrFun (if_neg fun h => hc (h0'.symm.trans h)) j).trans ?_
      rw [if_neg fun h => hc h.1]

theorem mask_zero (b : BitVec 1) : andi (k0_pay108) (broadcast S16 b) (ix1 0) = b := by
  rcases bit_cases b with rfl | rfl <;> rfl
theorem mask_rest (b : BitVec 1) (i : Fin 16) (hi : i ≠ 0) : andi (k0_pay108) (broadcast S16 b) (ix1 i) = 0#1 := by
  have h : k0_pay108 (ix1 i) = 0#1 := by
    fin_cases i
    · exact absurd rfl hi
    all_goals rfl
  show k0_pay108 (ix1 i) &&& b = 0#1
  rw [h]
  exact BitVec.zero_and
theorem lane_zero : k0_pay108 (ix1 0) = 1#1 := rfl
theorem lane_rest (i : Fin 16) (hi : i ≠ 0) : k0_pay108 (ix1 i) = 0#1 := by
  fin_cases i
  · exact absurd rfl hi
  all_goals rfl

/-! ## The candidates -/

/-- The box at a place of the order. -/
def cnd (T : Tab Ideal) (q : ℕ) : C5 := laneBox (ent T (broadcast S16 (BitVec.ofNat 32 q))) (ix1 0)

theorem gat_const (f : Vec Ideal S5008 .f32) (w : BitVec 32) (x y : S16.Idx) : gat f (broadcast S16 w) x = gat f (broadcast S16 w) y := by
  unfold gat
  split
  · refine congrArg f (funext fun a => Fin.ext ?_)
    match a with
    | ⟨0, _⟩ => rfl
  · rfl

theorem gat_same (f : Vec Ideal S5008 .f32) (v : IVec S16 32) (h : ∀ x y, v x = v y) (x y : S16.Idx) : gat f v x = gat f v y := by
  have : v = broadcast S16 (v x) := funext fun z => h z x
  rw [this]
  exact gat_const f _ _ _

theorem lane_same (T : Tab Ideal) (w : BitVec 32) (x y : S16.Idx) : laneBox (ent T (broadcast S16 w)) x = laneBox (ent T (broadcast S16 w)) y := by
  have h : ∀ x y : S16.Idx, fptosi (φ := .f32) 32 (gat T.ord (broadcast S16 w)) x = fptosi (φ := .f32) 32 (gat T.ord (broadcast S16 w)) y :=
    fun x y => congrArg (FloatOps.fptosi (F := Ideal) (φ := .f32) 32) (gat_const T.ord w x y)
  unfold laneBox ent
  dsimp only
  rw [gat_same T.yc _ h x y, gat_same T.xc _ h x y, gat_same T.h _ h x y, gat_same T.w _ h x y]

theorem placeA_eq {start : BitVec 32} {b p : ℕ} (hs : start.toNat = b) (hb : b ≤ 5000) (hp : p ≤ 2500) :
    placeA start p = broadcast S16 (BitVec.ofNat 32 (b + 2 * p)) := by
  funext x
  refine BitVec.eq_of_toNat_eq ?_
  rw [placeA_toNat hs hb hp]
  show _ = (BitVec.ofNat 32 _).toNat
  rw [BitVec.toNat_ofNat]; omega

theorem placeB_eq (q : ℕ) : k0_pay15 (broadcast S16 (BitVec.ofNat 32 q)) = broadcast S16 (BitVec.ofNat 32 (q + 1)) := by
  funext x
  show BitVec.ofNat 32 q + 1#32 = BitVec.ofNat 32 (q + 1)
  rw [show (1#32) = BitVec.ofNat 32 1 from rfl, ← BitVec.ofNat_add]

/-! ## A box that strikes nothing -/

/-- What a place for a kept box holds before anything is put there. -/
def far : C5 := ⟨Scalar.ofBits .f32 0x72177617#32, Scalar.ofBits .f32 0x72177617#32, Scalar.ofBits .f32 0xF2177617#32, Scalar.ofBits .f32 0xF2177617#32,
  Scalar.ofBits .f32 0x00000000#32⟩

theorem tiny_pos : (0 : EReal) < tiny := by
  show (0 : EReal) < Ideal.ofBits .f32 0x3089705F#32
  simp only [Ideal.ofBits, Ideal.ieee]
  simp
  rw [← EReal.coe_mul, ← EReal.coe_zero]
  exact EReal.coe_lt_coe_iff.2 (by norm_num)

theorem far_gap : (Scalar.ofBits .f32 0xF2177617#32 : R) = (-(Scalar.ofBits .f32 0x72177617#32 : R) : EReal) ∧ (0 : EReal) ≤ (Scalar.ofBits .f32 0x72177617#32 : R) := by
  constructor
  · show Ideal.ofBits .f32 0xF2177617#32 = - Ideal.ofBits .f32 0x72177617#32
    simp [Ideal.ofBits, Ideal.ieee]
  · show 0 ≤ Ideal.ofBits .f32 0x72177617#32
    simp only [Ideal.ofBits, Ideal.ieee]
    simp
    rw [← EReal.coe_pow, ← EReal.coe_mul, ← EReal.coe_zero]
    exact EReal.coe_le_coe_iff.2 (by norm_num)

theorem gap_zero (S y1 y2 : EReal) (hS : 0 ≤ S) : max (min (-S) y2 - max S y1) 0 = 0 := by
  refine max_eq_right ?_
  have h1 : min (-S) y2 ≤ 0 := (min_le_left _ _).trans (EReal.neg_le_zero.2 hS)
  have h2 : 0 ≤ max S y1 := hS.trans (le_max_left _ _)
  rw [EReal.sub_nonpos]
  exact h1.trans h2

theorem far_hit (c : C5) : hit far c = 0#1 := by
  have hi : inter far c = (0 : EReal) := by
    show max (min (Scalar.ofBits .f32 0xF2177617#32 : R) c.y2 - max (Scalar.ofBits .f32 0x72177617#32 : R) c.y1) zero
      * max (min (Scalar.ofBits .f32 0xF2177617#32 : R) c.x2 - max (Scalar.ofBits .f32 0x72177617#32 : R) c.x1) zero = (0 : EReal)
    rw [zero_eq, far_gap.1]
    exact (congrArg₂ (· * ·) (gap_zero _ _ _ far_gap.2) (gap_zero _ _ _ far_gap.2)).trans (mul_zero _)
  have hz : iou far c = (0 : EReal) := by
    unfold iou
    rw [hi]
    show Ideal.div 0 (max _ tiny) = 0
    unfold Ideal.div
    rw [if_neg (ne_of_gt (lt_of_lt_of_le tiny_pos (le_max_right _ _))), zero_mul]
  unfold hit
  rw [hz, ← zero_eq]
  exact ind_gt 0#1

/-! ## One trip -/

theorem valid_iff {cnt : BitVec 32} {n p : ℕ} (hc : cnt.toNat = n) (hn : n ≤ 5000) (hp : p ≤ 2500) :
    Scalar.cmpi .slt (Scalar.addi (Scalar.muli 2#32 (Scf.iv 0#32 1#32 p)) 1#32) cnt = 1#1 ↔ 2 * p + 1 < n := by
  have hm : Affine.IsInt (Scalar.muli 2#32 (Scf.iv 0#32 1#32 p)) (2 * (p : ℤ)) :=
    Affine.muli (Affine.ofNat (e := 2) 2 (by omega)) (iv_int (k := p) rfl (by omega)) ⟨rfl, by omega, by omega⟩
  have ha : Affine.IsInt (Scalar.addi (Scalar.muli 2#32 (Scf.iv 0#32 1#32 p)) 1#32) ((2 * p + 1 : ℕ) : ℤ) :=
    Affine.addi hm (Affine.ofNat (e := 1) 1 (by omega)) (by push_cast; omega)
  have hcI : Affine.IsInt cnt (n : ℤ) := isInt_of_toNat hc (by omega)
  show BitVec.ofBool (BitVec.slt _ cnt) = 1#1 ↔ _
  rw [BitVec.slt_eq_decide]
  have e1 : (Scalar.addi (Scalar.muli 2#32 (Scf.iv 0#32 1#32 p)) 1#32).toInt = ((2 * p + 1 : ℕ) : ℤ) := by unfold Affine.IsInt at ha; exact ha
  have e2 : cnt.toInt = (n : ℤ) := by unfold Affine.IsInt at hcI; exact hcI
  rw [e1, e2]
  by_cases h : 2 * p + 1 < n
  · rw [decide_eq_true (by omega : ((2 * p + 1 : ℕ) : ℤ) < (n : ℤ))]
    exact ⟨fun _ => h, fun _ => rfl⟩
  · rw [decide_eq_false (by omega : ¬ ((2 * p + 1 : ℕ) : ℤ) < (n : ℤ))]
    exact ⟨fun h' => absurd h' (by decide), fun h' => absurd h' h⟩

/-- A trip's new state, its bits named. -/
theorem trip_eq (T : Tab Ideal) {start cnt : BitVec 32} {b p : ℕ} (hs : start.toNat = b) (hb : b ≤ 5000) (hp : p ≤ 2500) (s : St Ideal)
    (sA d v kA kB : BitVec 1) (a a' : Ent Ideal)
    (ea : a = ent T (broadcast S16 (BitVec.ofNat 32 (b + 2 * p)))) (ea' : a' = ent T (broadcast S16 (BitVec.ofNat 32 (b + 2 * p + 1))))
    (eA : sA = supA lanes (chunks a a' s (k0_t4_loop s.n).trips))
    (ekA : kA = Scalar.xori sA 1#1)
    (ed : d = Scalar.ori (supB lanes (chunks a a' s (k0_t4_loop s.n).trips)) (Scalar.andi kA (hitAB a a')))
    (ev : v = Scalar.cmpi .slt (Scalar.addi (Scalar.muli 2#32 (Scf.iv 0#32 1#32 p)) 1#32) cnt)
    (ekB : kB = Scalar.andi (Scalar.xori d 1#1) v) :
    trip T lanes k0_pay108 start cnt p s =
      { keep := sto (s := S5008) (sto (s := S5008) s.keep ![broadcast S16 (BitVec.ofNat 32 (b + 2 * p))] (broadcast S16 (Scalar.select sA zero one)) k0_pay108)
          ![broadcast S16 (BitVec.ofNat 32 (b + 2 * p + 1))] (broadcast S16 (Scalar.select d zero one)) (andi k0_pay108 (broadcast S16 v))
        y1 := sto (s := S5024) (sto (s := S5024) s.y1 ![broadcast S16 s.n] (boxA a).y1 (andi k0_pay108 (broadcast S16 kA))) ![broadcast S16 (s.n + Scalar.select kA 1#32 0#32)] (boxB a').y1 (andi k0_pay108 (broadcast S16 kB))
        x1 := sto (s := S5024) (sto (s := S5024) s.x1 ![broadcast S16 s.n] (boxA a).x1 (andi k0_pay108 (broadcast S16 kA))) ![broadcast S16 (s.n + Scalar.select kA 1#32 0#32)] (boxB a').x1 (andi k0_pay108 (broadcast S16 kB))
        y2 := sto (s := S5024) (sto (s := S5024) s.y2 ![broadcast S16 s.n] (boxA a).y2 (andi k0_pay108 (broadcast S16 kA))) ![broadcast S16 (s.n + Scalar.select kA 1#32 0#32)] (boxB a').y2 (andi k0_pay108 (broadcast S16 kB))
        x2 := sto (s := S5024) (sto (s := S5024) s.x2 ![broadcast S16 s.n] (boxA a).x2 (andi k0_pay108 (broadcast S16 kA))) ![broadcast S16 (s.n + Scalar.select kA 1#32 0#32)] (boxB a').x2 (andi k0_pay108 (broadcast S16 kB))
        ar := sto (s := S5024) (sto (s := S5024) s.ar ![broadcast S16 s.n] (boxA a).ar (andi k0_pay108 (broadcast S16 kA))) ![broadcast S16 (s.n + Scalar.select kA 1#32 0#32)] (boxB a').ar (andi k0_pay108 (broadcast S16 kB))
        n := Scalar.addi (Scalar.addi s.n (Scalar.select kA 1#32 0#32)) (Scalar.select kB 1#32 0#32) } := by
  have h46 : k0_pay46 lanes kA (hitAB a a') (k0_pay40 lanes (chunks a a' s (k0_t4_loop s.n).trips).2) (k0_pay41 lanes)
      (k0_pay42 lanes (chunks a a' s (k0_t4_loop s.n).trips).2) (k0_pay43 lanes (chunks a a' s (k0_t4_loop s.n).trips).2)
      = broadcast S16 (Scalar.select d zero one) := by rw [ed]; rfl
  have h49 : k0_pay49 lanes k0_pay108 kA (hitAB a a') v (k0_pay40 lanes (chunks a a' s (k0_t4_loop s.n).trips).2) (k0_pay41 lanes)
      (k0_pay42 lanes (chunks a a' s (k0_t4_loop s.n).trips).2) (k0_pay43 lanes (chunks a a' s (k0_t4_loop s.n).trips).2)
      = andi k0_pay108 (broadcast S16 kB) := by rw [ekB, ed]; rfl
  have h50 : k0_pay50 kA (broadcast S16 s.n) = broadcast S16 (s.n + Scalar.select kA 1#32 0#32) := rfl
  unfold trip
  dsimp only
  rw [placeA_eq hs hb hp, placeB_eq]
  rw [← ea, ← ea', ← eA, ← ekA, ← ev, h46, h49, h50, ← ed, ← ekB]
  rfl

/-- Two writes into a kept array. -/
theorem two_writes (f : Vec Ideal S5024 .f32) (w : BitVec 32) (kA kB : BitVec 1) (N : ℕ) (hN : w.toNat = N) (hN' : N ≤ 5000) (u v : Vec Ideal S16 .f32) (j : ℕ) (hj : j < 5024) :
    elt (sto (s := S5024) (sto (s := S5024) f ![broadcast S16 w] u (andi k0_pay108 (broadcast S16 kA))) ![broadcast S16 (w + Scalar.select kA 1#32 0#32)] v (andi k0_pay108 (broadcast S16 kB))) j
      = if kB = 1#1 ∧ j = N + kA.toNat then v (ix1 0) else if kA = 1#1 ∧ j = N then u (ix1 0) else elt f j := by
  have hk : (w + Scalar.select kA 1#32 0#32).toNat = N + kA.toNat := by
    rcases bit_cases kA with rfl | rfl
    · show (w + 0#32).toNat = N + 0
      rw [BitVec.toNat_add, hN]
      show (N + 0) % _ = _
      omega
    · show (w + 1#32).toNat = N + 1
      rw [BitVec.toNat_add, hN]
      show (N + 1) % _ = _
      omega
  have hkA : kA.toNat ≤ 1 := by rcases bit_cases kA with rfl | rfl <;> decide
  have hjm : j % 5024 = j := Nat.mod_eq_of_lt hj
  unfold elt
  rw [sto_one (N := 5024) _ _ (by omega) _ _ kB (mask_zero kB) (mask_rest kB), sto_one (N := 5024) _ _ (by omega) _ _ kA (mask_zero kA) (mask_rest kA), hk, hN]
  show (if kB = 1#1 ∧ j % 5024 = N + kA.toNat then _ else if kA = 1#1 ∧ j % 5024 = N then _ else _) = _
  rw [hjm]

theorem trip_means (T : Tab Ideal) {start cnt : BitVec 32} {b n p : ℕ} (hs : start.toNat = b) (hc : cnt.toNat = n) (hbn : b + n ≤ 5000) (hp : 2 * p < n)
    (s : St Ideal) (N : ℕ) (hN : s.n.toNat = N) (hN' : N ≤ 2 * p) :
    ∃ kA kB : BitVec 1,
      (kA = 1#1 ↔ ¬ ∃ j, j < 32 * ((N + 31) / 32) ∧ hit (keptBox s j) (cnd T (b + 2 * p)) = 1#1) ∧
      (kB = 1#1 ↔ 2 * p + 1 < n ∧ ¬ (∃ j, j < 32 * ((N + 31) / 32) ∧ hit (keptBox s j) (cnd T (b + 2 * p + 1)) = 1#1)
        ∧ ¬ (kA = 1#1 ∧ hit (cnd T (b + 2 * p)) (cnd T (b + 2 * p + 1)) = 1#1)) ∧
      (trip T lanes k0_pay108 start cnt p s).n.toNat = N + kA.toNat + kB.toNat ∧
      (∀ j, j < 5024 → keptBox (trip T lanes k0_pay108 start cnt p s) j
        = if kB = 1#1 ∧ j = N + kA.toNat then cnd T (b + 2 * p + 1) else if kA = 1#1 ∧ j = N then cnd T (b + 2 * p) else keptBox s j) ∧
      (∀ e : Fin 5008, (trip T lanes k0_pay108 start cnt p s).keep (ix1 e)
        = if 2 * p + 1 < n ∧ e.val = b + 2 * p + 1 then ind kB else if e.val = b + 2 * p then ind kA else s.keep (ix1 e)) := by
  obtain ⟨a, ea⟩ : ∃ a, a = ent T (broadcast S16 (BitVec.ofNat 32 (b + 2 * p))) := ⟨_, rfl⟩
  obtain ⟨a', ea'⟩ : ∃ a, a = ent T (broadcast S16 (BitVec.ofNat 32 (b + 2 * p + 1))) := ⟨_, rfl⟩
  obtain ⟨sA, eA⟩ : ∃ v, v = supA lanes (chunks a a' s (k0_t4_loop s.n).trips) := ⟨_, rfl⟩
  obtain ⟨kA, ekA⟩ : ∃ v, v = Scalar.xori sA 1#1 := ⟨_, rfl⟩
  obtain ⟨sB, eB⟩ : ∃ v, v = supB lanes (chunks a a' s (k0_t4_loop s.n).trips) := ⟨_, rfl⟩
  obtain ⟨d, ed⟩ : ∃ v, v = Scalar.ori sB (Scalar.andi kA (hitAB a a')) := ⟨_, rfl⟩
  obtain ⟨v, ev⟩ : ∃ v, v = Scalar.cmpi .slt (Scalar.addi (Scalar.muli 2#32 (Scf.iv 0#32 1#32 p)) 1#32) cnt := ⟨_, rfl⟩
  obtain ⟨kB, ekB⟩ : ∃ k, k = Scalar.andi (Scalar.xori d 1#1) v := ⟨_, rfl⟩
  have htrips : (k0_t4_loop s.n).trips = (N + 31) / 32 := t4_trips hN (by omega)
  have hA : ∀ x, laneBox a x = cnd T (b + 2 * p) := fun x => by subst ea; exact lane_same T _ x (ix1 0)
  have hB : ∀ x, laneBox a' x = cnd T (b + 2 * p + 1) := fun x => by subst ea'; exact lane_same T _ x (ix1 0)
  have hv : v = 1#1 ↔ 2 * p + 1 < n := by rw [ev]; exact valid_iff hc (by omega) (by omega)
  have iA : sA = 1#1 ↔ ∃ j, j < 32 * ((N + 31) / 32) ∧ hit (keptBox s j) (cnd T (b + 2 * p)) = 1#1 := by
    rw [eA, htrips]; exact supA_iff a a' s _ _ hA hB _
  have iB : sB = 1#1 ↔ ∃ j, j < 32 * ((N + 31) / 32) ∧ hit (keptBox s j) (cnd T (b + 2 * p + 1)) = 1#1 := by
    rw [eB, htrips]; exact supB_iff a a' s _ _ hA hB _
  have hh : hitAB a a' = hit (cnd T (b + 2 * p)) (cnd T (b + 2 * p + 1)) := hitAB_eq a a' _ _ hA hB
  have hx : ∀ x : BitVec 1, Scalar.xori x 1#1 = 1#1 ↔ ¬ x = 1#1 := by decide
  have ho : ∀ x y : BitVec 1, Scalar.ori x y = 1#1 ↔ x = 1#1 ∨ y = 1#1 := by decide
  have hn : ∀ x y : BitVec 1, Scalar.andi x y = 1#1 ↔ x = 1#1 ∧ y = 1#1 := by decide
  have hsel : ∀ x : BitVec 1, Scalar.select x zero one = ind (Scalar.xori x 1#1) := by
    intro x; rcases bit_cases x with rfl | rfl <;> rfl
  rw [trip_eq T hs (by omega) (by omega) s sA d v kA kB a a' ea ea' eA ekA (by rw [ed, eB]) ev ekB]
  refine ⟨kA, kB, ?_, ?_, ?_, ?_, ?_⟩
  · rw [ekA, hx, iA]
  · rw [ekB, hn, hx, ed, ho, iB, hn, hh, hv, not_or]
    exact ⟨fun h => ⟨h.2, h.1.1, h.1.2⟩, fun h => ⟨⟨h.2.1, h.2.2⟩, h.1⟩⟩
  · have hk : ∀ k : BitVec 1, (Scalar.select k 1#32 0#32).toNat = k.toNat := by
      intro k; rcases bit_cases k with rfl | rfl <;> rfl
    show ((s.n + Scalar.select kA 1#32 0#32) + Scalar.select kB 1#32 0#32).toNat = _
    have h1 : kA.toNat ≤ 1 := by rcases bit_cases kA with rfl | rfl <;> decide
    have h2 : kB.toNat ≤ 1 := by rcases bit_cases kB with rfl | rfl <;> decide
    rw [BitVec.toNat_add, BitVec.toNat_add, hk, hk, hN]
    omega
  · intro j hj
    have hAl := boxA_lane a (ix1 0)
    have hBl := boxB_lane a' (ix1 0)
    rw [hA] at hAl
    rw [hB] at hBl
    unfold keptBox
    dsimp only
    rw [two_writes _ _ _ _ N hN (by omega) _ _ j hj, two_writes _ _ _ _ N hN (by omega) _ _ j hj, two_writes _ _ _ _ N hN (by omega) _ _ j hj,
      two_writes _ _ _ _ N hN (by omega) _ _ j hj, two_writes _ _ _ _ N hN (by omega) _ _ j hj]
    by_cases h1 : kB = 1#1 ∧ j = N + kA.toNat
    · rw [if_pos h1, if_pos h1, if_pos h1, if_pos h1, if_pos h1, if_pos h1]
      exact hBl
    · rw [if_neg h1, if_neg h1, if_neg h1, if_neg h1, if_neg h1, if_neg h1]
      by_cases h2 : kA = 1#1 ∧ j = N
      · rw [if_pos h2, if_pos h2, if_pos h2, if_pos h2, if_pos h2, if_pos h2]
        exact hAl
      · rw [if_neg h2, if_neg h2, if_neg h2, if_neg h2, if_neg h2, if_neg h2]
  · intro e
    have w1 : (BitVec.ofNat 32 (b + 2 * p)).toNat = b + 2 * p := by rw [BitVec.toNat_ofNat]; omega
    have w2 : (BitVec.ofNat 32 (b + 2 * p + 1)).toNat = b + 2 * p + 1 := by rw [BitVec.toNat_ofNat]; omega
    dsimp only
    rw [sto_one (N := 5008) _ _ (by omega) _ _ v (mask_zero v) (mask_rest v), sto_one (N := 5008) _ _ (by omega) _ _ 1#1 lane_zero lane_rest, w1, w2]
    show (if v = 1#1 ∧ e.val = b + 2 * p + 1 then Scalar.select d zero one else if 1#1 = 1#1 ∧ e.val = b + 2 * p then Scalar.select sA zero one else s.keep (ix1 e)) = _
    by_cases h1 : 2 * p + 1 < n ∧ e.val = b + 2 * p + 1
    · rw [if_pos (⟨hv.2 h1.1, h1.2⟩ : v = 1#1 ∧ e.val = b + 2 * p + 1), if_pos h1, hsel, ekB, hv.2 h1.1]
      congr 1
      rcases bit_cases (Scalar.xori d 1#1) with h | h <;> rw [h] <;> rfl
    · rw [if_neg (fun h => h1 ⟨hv.1 h.1, h.2⟩ : ¬ (v = 1#1 ∧ e.val = b + 2 * p + 1)), if_neg h1, hsel, ← ekA]
      by_cases h2 : e.val = b + 2 * p
      · rw [if_pos ⟨rfl, h2⟩, if_pos h2]
      · rw [if_neg fun h => h2 h.2, if_neg h2]

/-! ## The pass -/

/-- One box strikes another, by places within the class. -/
def strikes (T : Tab Ideal) (b : ℕ) (r q : ℕ) : Prop := hit (cnd T (b + r)) (cnd T (b + q)) = 1#1

/-- What the state says of the first `t` boxes of the class. -/
structure Inv (T : Tab Ideal) (b t : ℕ) (s : St Ideal) : Prop where
  le : s.n.toNat ≤ t
  from_kept : ∀ j, j < s.n.toNat → ∃ r, r < t ∧ greedy (strikes T b) r ∧ keptBox s j = cnd T (b + r)
  to_slot : ∀ r, r < t → greedy (strikes T b) r → ∃ j, j < s.n.toNat ∧ keptBox s j = cnd T (b + r)
  rest : ∀ j, s.n.toNat ≤ j → j < 5024 → keptBox s j = far
  flag_one : ∀ e : Fin 5008, b ≤ e.val → e.val < b + t → greedy (strikes T b) (e.val - b) → s.keep (ix1 e) = one
  flag_zero : ∀ e : Fin 5008, ¬ (b ≤ e.val ∧ e.val < b + t ∧ greedy (strikes T b) (e.val - b)) → s.keep (ix1 e) = zero

theorem inv_zero (T : Tab Ideal) (b : ℕ) : Inv T b 0 st0 where
  le := le_refl 0
  from_kept j hj := absurd hj (Nat.not_lt_zero j)
  to_slot r hr := absurd hr (Nat.not_lt_zero r)
  rest _ _ _ := rfl
  flag_one e h1 h2 := absurd h2 (by omega)
  flag_zero _ _ := rfl

theorem inv_hit {T : Tab Ideal} {b t : ℕ} {s : St Ideal} (h : Inv T b t s) (ht : t ≤ 5000) (c : C5) :
    (∃ j, j < 32 * ((s.n.toNat + 31) / 32) ∧ hit (keptBox s j) c = 1#1) ↔ ∃ r, r < t ∧ greedy (strikes T b) r ∧ hit (cnd T (b + r)) c = 1#1 := by
  have := h.le
  constructor
  · rintro ⟨j, hj, hh⟩
    by_cases hjn : j < s.n.toNat
    · obtain ⟨r, h1, h2, h3⟩ := h.from_kept j hjn
      exact ⟨r, h1, h2, by rw [← h3]; exact hh⟩
    · rw [h.rest j (by omega) (by omega), far_hit] at hh
      exact absurd hh (by decide)
  · rintro ⟨r, h1, h2, h3⟩
    obtain ⟨j, hj, hs⟩ := h.to_slot r h1 h2
    exact ⟨j, by omega, by rw [hs]; exact h3⟩

theorem inv_step (T : Tab Ideal) {start cnt : BitVec 32} {b n p : ℕ} (hs : start.toNat = b) (hc : cnt.toNat = n) (hbn : b + n ≤ 5000) (hp : 2 * p < n)
    (s : St Ideal) (h : Inv T b (2 * p) s) : Inv T b (min (2 * p + 2) n) (trip T lanes k0_pay108 start cnt p s) := by
  obtain ⟨kA, kB, hA, hB, hn, hsl, hkp⟩ := trip_means T hs hc hbn hp s _ rfl h.le
  have gA : kA = 1#1 ↔ greedy (strikes T b) (2 * p) := by
    rw [hA, inv_hit h (by omega), greedy_iff]
    rfl
  have gB : kB = 1#1 ↔ 2 * p + 1 < n ∧ greedy (strikes T b) (2 * p + 1) := by
    rw [hB, inv_hit h (by omega), gA, greedy_iff (strikes T b) (2 * p + 1)]
    refine and_congr Iff.rfl ?_
    rw [← not_or]
    refine not_congr ⟨?_, ?_⟩
    · rintro (⟨r, h1, h2, h3⟩ | ⟨h1, h2⟩)
      · exact ⟨r, by omega, h2, h3⟩
      · exact ⟨2 * p, by omega, h1, h2⟩
    · rintro ⟨r, h1, h2, h3⟩
      by_cases hr : r < 2 * p
      · exact Or.inl ⟨r, hr, h2, h3⟩
      · obtain rfl : r = 2 * p := by omega
        exact Or.inr ⟨h2, h3⟩
  have hle := h.le
  have tA : kA = 1#1 → kA.toNat = 1 := by rintro rfl; rfl
  have tA' : ¬ kA = 1#1 → kA.toNat = 0 := by intro h; rcases bit_cases kA with rfl | rfl; rfl; exact absurd rfl h
  have tB : kB = 1#1 → kB.toNat = 1 := by rintro rfl; rfl
  have tB' : ¬ kB = 1#1 → kB.toNat = 0 := by intro h; rcases bit_cases kB with rfl | rfl; rfl; exact absurd rfl h
  have kA1 : kA.toNat ≤ 1 := by rcases bit_cases kA with rfl | rfl <;> decide
  have kB1 : kB.toNat ≤ 1 := by rcases bit_cases kB with rfl | rfl <;> decide
  refine ⟨?_, ?_, ?_, ?_, ?_, ?_⟩
  · rw [hn]
    by_cases h2 : kB = 1#1
    · have := (gB.1 h2).1; omega
    · have := tB' h2; omega
  · intro j hj
    rw [hn] at hj
    rw [hsl j (by omega)]
    by_cases h1 : kB = 1#1 ∧ j = s.n.toNat + kA.toNat
    · rw [if_pos h1]
      have := gB.1 h1.1
      exact ⟨2 * p + 1, by omega, this.2, rfl⟩
    · rw [if_neg h1]
      by_cases h2 : kA = 1#1 ∧ j = s.n.toNat
      · rw [if_pos h2]
        exact ⟨2 * p, by omega, gA.1 h2.1, rfl⟩
      · rw [if_neg h2]
        have : j < s.n.toNat := by
          by_cases hb' : kB = 1#1
          · have t1 := tB hb'
            have : j ≠ s.n.toNat + kA.toNat := fun h => h1 ⟨hb', h⟩
            by_cases ha' : kA = 1#1
            · have t2 := tA ha'
              have : j ≠ s.n.toNat := fun h => h2 ⟨ha', h⟩
              omega
            · have := tA' ha'; omega
          · have t1 := tB' hb'
            by_cases ha' : kA = 1#1
            · have t2 := tA ha'
              have : j ≠ s.n.toNat := fun h => h2 ⟨ha', h⟩
              omega
            · have := tA' ha'; omega
        obtain ⟨r, h3, h4, h5⟩ := h.from_kept j this
        exact ⟨r, by omega, h4, h5⟩
  · intro r hr hg
    rw [hn]
    by_cases h1 : r < 2 * p
    · obtain ⟨j, hj, hj'⟩ := h.to_slot r h1 hg
      refine ⟨j, by omega, ?_⟩
      rw [hsl j (by omega), if_neg (by omega), if_neg (by omega)]
      exact hj'
    · by_cases h2 : r = 2 * p
      · subst h2
        have ha' := gA.2 hg
        refine ⟨s.n.toNat, by have := tA ha'; omega, ?_⟩
        rw [hsl _ (by omega), if_neg (by have := tA ha'; omega), if_pos ⟨ha', rfl⟩]
      · obtain rfl : r = 2 * p + 1 := by omega
        have hb' := gB.2 ⟨by omega, hg⟩
        refine ⟨s.n.toNat + kA.toNat, by have := tB hb'; omega, ?_⟩
        rw [hsl _ (by omega), if_pos ⟨hb', rfl⟩]
        rfl
  · intro j h1 h2
    rw [hn] at h1
    rw [hsl j h2, if_neg (fun h => by have := tB h.1; omega), if_neg (fun h => by have := tA h.1; omega)]
    exact h.rest j (by omega) h2
  · intro e h1 h2 hg
    rw [hkp]
    by_cases h3 : 2 * p + 1 < n ∧ e.val = b + 2 * p + 1
    · rw [if_pos h3]
      rw [show e.val - b = 2 * p + 1 by omega] at hg
      rw [gB.2 ⟨h3.1, hg⟩]
      rfl
    · rw [if_neg h3]
      by_cases h4 : e.val = b + 2 * p
      · rw [if_pos h4]
        rw [show e.val - b = 2 * p by omega] at hg
        rw [gA.2 hg]
        rfl
      · rw [if_neg h4]
        exact h.flag_one e h1 (by omega) hg
  · intro e hg
    rw [hkp]
    by_cases h3 : 2 * p + 1 < n ∧ e.val = b + 2 * p + 1
    · rw [if_pos h3]
      rcases bit_cases kB with rfl | rfl
      · rfl
      · refine absurd ⟨by omega, by omega, ?_⟩ hg
        rw [show e.val - b = 2 * p + 1 by omega]
        exact (gB.1 rfl).2
    · rw [if_neg h3]
      by_cases h4 : e.val = b + 2 * p
      · rw [if_pos h4]
        rcases bit_cases kA with rfl | rfl
        · rfl
        · refine absurd ⟨by omega, by omega, ?_⟩ hg
          rw [show e.val - b = 2 * p by omega]
          exact gA.1 rfl
      · rw [if_neg h4]
        exact h.flag_zero e fun ⟨h5, h6, h7⟩ => hg ⟨h5, by omega, h7⟩

theorem inv_st (T : Tab Ideal) {start cnt : BitVec 32} {b n : ℕ} (hs : start.toNat = b) (hc : cnt.toNat = n) (hbn : b + n ≤ 5000) (p : ℕ) (hp : 2 * p < n + 2) :
    Inv T b (min (2 * p) n) (st T start cnt p) := by
  induction p with
  | zero => rw [show min (2 * 0) n = 0 by omega]; exact inv_zero T b
  | succ p ih =>
    have h := ih (by omega)
    rw [show min (2 * p) n = 2 * p by omega] at h
    rw [show 2 * (p + 1) = 2 * p + 2 by omega]
    exact inv_step T hs hc hbn (by omega) _ h

/-- The flags a pass ends with. -/
theorem pass_flags (T : Tab Ideal) {start cnt : BitVec 32} {b n : ℕ} (hs : start.toNat = b) (hc : cnt.toNat = n) (hbn : b + n ≤ 5000) (e : Fin 5008) :
    (b ≤ e.val ∧ e.val < b + n ∧ greedy (strikes T b) (e.val - b) → (st T start cnt (k0_t3_loop cnt).trips).keep (ix1 e) = one) ∧
    (¬ (b ≤ e.val ∧ e.val < b + n ∧ greedy (strikes T b) (e.val - b)) → (st T start cnt (k0_t3_loop cnt).trips).keep (ix1 e) = zero) := by
  rw [t3_trips hc (by omega)]
  have h := inv_st T hs hc hbn ((n + 1) / 2) (by omega)
  rw [show min (2 * ((n + 1) / 2)) n = n by omega] at h
  exact ⟨fun ⟨h1, h2, h3⟩ => h.flag_one e h1 h2 h3, h.flag_zero e⟩

end Cert.Proof.Nms

end
-- ==== Proof.RefVal.lean ====
/-
  The reference's arrays at the extended reals, place by place, and its loop as the greedy rule over the score order.
-/
module

public import proofs.«01_k».proof.Proof.RefArr
public import proofs.«01_k».proof.Proof.Places
public import proofs.«01_k».proof.Proof.Pass
public import Idealize.ShloMosaic.Lib.IdealHost
public import Idealize.ShloMosaic.Lib.DynamicIndex

@[expose] public section

noncomputable section

namespace Cert.Proof.Ref

open Cert.ReferenceIdeal Cert.ReferenceIdeal.Gen Cert.ReferenceIdeal.Value
open Cert.Proof.Nms Cert.Proof.Greedy
open Idealize.ShloMosaic Idealize.ShloMosaic.StableHlo Idealize.ShloMosaic.ValueIdx Idealize.ShloMosaic.Routing

/-! ## Orders as indices -/

/-- A place below five thousand is its own index. -/
theorem wrap_nat (k : Fin 5000) (y : BitVec 32) :
    Scalar.select (IntOp.cmpi .slt (BitVec.ofNat 32 k.val) 0#32) y (BitVec.ofNat 32 k.val) = BitVec.ofNat 32 k.val := by
  have h : IntOp.cmpi .slt (BitVec.ofNat 32 k.val) 0#32 = 0#1 := by
    show BitVec.ofBool (BitVec.slt _ _) = 0#1
    rw [BitVec.slt_eq_decide, toInt_ofNat_of_lt (by have := k.isLt; omega)]
    exact congrArg BitVec.ofBool (decide_eq_false (by rw [show (0#32).toInt = 0 from rfl]; omega))
  rw [h]; rfl

theorem idxV_apply (o : IVec S5000 32) (i k : Fin 5000) (h : o (ix1 i) = BitVec.ofNat 32 k.val) : idxV o (ix2 i (0 : Fin 1)) = BitVec.ofNat 32 k.val := by
  unfold idxV
  refine (bcCol bcast_S5000_S5000x1_0 _ i).trans ?_
  show Scalar.select (IntOp.cmpi .slt (o (ix1 i)) (broadcastInDim S5000 ![] bcast_S_S5000 (constantI S_ 32 0#32) (ix1 i)))
    (IntOp.addi (o (ix1 i)) (broadcastInDim S5000 ![] bcast_S_S5000 (constantI S_ 32 5000#32) (ix1 i))) (o (ix1 i)) = _
  rw [bc0 bcast_S_S5000, h]
  exact wrap_nat k _

theorem byV_apply (sc : FVec Ideal S5000 .f32) (i : Fin 5000) : byV sc (ix1 i) = BitVec.ofNat 32 (refσ sc i).val := by
  unfold byV refσ byScore
  rw [Host.sort2_eq_sortBy]
  dsimp only
  rw [sortBy_vec, iota_vec]
  simp only [iota_vec]

theorem gbV_apply (bx : FVec Ideal S5000x4 .f32) (sc : FVec Ideal S5000 .f32) (i : Fin 5000) (c : Fin 4) :
    gbV bx (byV sc) (ix2 i c) = bx (ix2 (refσ sc i) c) :=
  gather_row gather_S5000x4_S5000x1_S5000x4_1_0_n_n_0_1_14 rfl rfl rfl rfl rfl bx _ i c (refσ sc i) (idxV_apply _ i _ (byV_apply sc i)) (by decide)

theorem glV_apply (lab : IVec S5000 32) (sc : FVec Ideal S5000 .f32) (i : Fin 5000) : glV lab (byV sc) (ix1 i) = lab (ix1 (refσ sc i)) :=
  gather_take1 gather_S5000_S5000x1_S5000_n_0_n_n_0_1_1 rfl rfl rfl rfl lab _ i (refσ sc i) (idxV_apply _ i _ (byV_apply sc i)) (by decide)

/-! ## The pairs -/

/-- A column of a table of boxes. -/
theorem col_apply {α : Type} (g : (shape2 5000 4).Idx → α) (c : Fin 4) (hk : (shape2 5000 4).Slices ![0, c.val] (shape2 5000 1)) (hs : (shape2 5000 1).ShapeCasts (shape1 5000)) (i : Fin 5000) :
    shapeCast (shape1 5000) (extractStridedSlice (shape2 5000 1) ![0, c.val] g hk) hs (ix1 i) = g (ix2 i c) := by
  refine (shapeCast_apply _ hs (ix1 i) (ix2 i (0 : Fin 1)) ?_).trans ?_
  · rw [Shape.rowMajor_val_one, Shape.rowMajor_val_two]
    show i.val * 1 + 0 = i.val
    omega
  · refine congrArg g (funext fun a => Fin.ext ?_)
    match a with
    | ⟨0, _⟩ => exact Nat.zero_add _
    | ⟨1, _⟩ => exact Nat.add_zero _

/-- A box from the table of centres and extents. -/
def boxOf (bx : FVec Ideal S5000x4 .f32) (i : Fin 5000) : C5 := mkBox (bx (ix2 i 0)) (bx (ix2 i 1)) (bx (ix2 i 2)) (bx (ix2 i 3))

theorem rowsV_apply {α : Type} (v : S5000.Idx → α) (i j : Fin 5000) : rowsV v (ix2 i j) = v (ix1 i) := bcRows bcast_S5000_S5000x1_0 bcast_S5000x1_S5000x5000_0_1 v i j
theorem colsV_apply {α : Type} (v : S5000.Idx → α) (i j : Fin 5000) : colsV v (ix2 i j) = v (ix1 j) := bcCols bcast_S5000_S1x5000_1 bcast_S1x5000_S5000x5000_0_1 v i j

theorem two_eq : Ideal.ofBits .f32 0x40000000#32 = (((2 : ℝ) : ℝ) : EReal) := by
  simp only [Ideal.ofBits, Ideal.ieee]
  simp
  rw [← EReal.coe_mul]
  exact congrArg _ (by norm_num)

/-- Halving is multiplying by a half. -/
theorem half_div (x : R) : FloatOps.hostDivf x (FloatOps.ofBits .f32 0x40000000#32 : R) = FloatOps.mulf half x := by
  show Ideal.div x (Ideal.ofBits .f32 0x40000000#32) = (half : EReal) * x
  rw [two_eq, half_eq]
  unfold Ideal.div
  rw [if_neg (by intro h; have : (2 : ℝ) = 0 := by exact_mod_cast h
                 norm_num at this)]
  rw [mul_comm, ← EReal.coe_inv]
  norm_num

theorem hfV_apply (h : FVec Ideal S5000 .f32) (i : Fin 5000) : hfV h (ix1 i) = FloatOps.mulf half (FloatOps.absf (h (ix1 i))) := by
  unfold hfV
  show FloatOps.hostDivf (FloatOps.hostAbsf (h (ix1 i))) (broadcastInDim S5000 ![] bcast_S_S5000 (constant S_ .f32 0x40000000#32) (ix1 i)) = _
  rw [bc0 bcast_S_S5000]
  exact half_div _

theorem clV_apply (g : FVec Ideal S5000x5000 .f32) (x : S5000x5000.Idx) : clV g x = FloatOps.maximumf (g x) zero := by
  unfold clV
  show FloatOps.maximumf (broadcastInDim S5000x5000 ![] bcast_S_S5000x5000 (constant S_ .f32 0x00000000#32) x) (g x) = _
  rw [bc0 bcast_S_S5000x5000]
  exact max_comm _ _

theorem mxV_apply (v : FVec Ideal S5000 .f32) (i j : Fin 5000) : mxV v (ix2 i j) = FloatOps.maximumf (v (ix1 i)) (v (ix1 j)) := by
  show FloatOps.maximumf (rowsV v (ix2 i j)) (colsV v (ix2 i j)) = _
  rw [rowsV_apply, colsV_apply]
theorem mnV_apply (v : FVec Ideal S5000 .f32) (i j : Fin 5000) : mnV v (ix2 i j) = FloatOps.minimumf (v (ix1 i)) (v (ix1 j)) := by
  show FloatOps.minimumf (rowsV v (ix2 i j)) (colsV v (ix2 i j)) = _
  rw [rowsV_apply, colsV_apply]

section Table
variable (g : FVec Ideal S5000x4 .f32)

theorem c0_apply (i : Fin 5000) : c0 g (ix1 i) = g (ix2 i 0) := col_apply g 0 slices_S5000x4_S5000x1_0_0 shapeCasts_S5000x1_S5000 i
theorem c1_apply (i : Fin 5000) : c1 g (ix1 i) = g (ix2 i 1) := col_apply g 1 slices_S5000x4_S5000x1_0_1 shapeCasts_S5000x1_S5000 i
theorem c2_apply (i : Fin 5000) : c2 g (ix1 i) = g (ix2 i 2) := col_apply g 2 slices_S5000x4_S5000x1_0_2 shapeCasts_S5000x1_S5000 i
theorem c3_apply (i : Fin 5000) : c3 g (ix1 i) = g (ix2 i 3) := col_apply g 3 slices_S5000x4_S5000x1_0_3 shapeCasts_S5000x1_S5000 i

theorem y1_apply (i : Fin 5000) : subf (c0 g) (hfV (c2 g)) (ix1 i) = (boxOf g i).y1 := by
  show FloatOps.subf (c0 g (ix1 i)) (hfV (c2 g) (ix1 i)) = _
  rw [hfV_apply, c0_apply, c2_apply]; rfl
theorem x1_apply (i : Fin 5000) : subf (c1 g) (hfV (c3 g)) (ix1 i) = (boxOf g i).x1 := by
  show FloatOps.subf (c1 g (ix1 i)) (hfV (c3 g) (ix1 i)) = _
  rw [hfV_apply, c1_apply, c3_apply]; rfl
theorem y2_apply (i : Fin 5000) : addf (c0 g) (hfV (c2 g)) (ix1 i) = (boxOf g i).y2 := by
  show FloatOps.addf (c0 g (ix1 i)) (hfV (c2 g) (ix1 i)) = _
  rw [hfV_apply, c0_apply, c2_apply]; rfl
theorem x2_apply (i : Fin 5000) : addf (c1 g) (hfV (c3 g)) (ix1 i) = (boxOf g i).x2 := by
  show FloatOps.addf (c1 g (ix1 i)) (hfV (c3 g) (ix1 i)) = _
  rw [hfV_apply, c1_apply, c3_apply]; rfl
theorem ar_apply (i : Fin 5000) : arV g (ix1 i) = (boxOf g i).ar := by
  show FloatOps.mulf (FloatOps.hostAbsf (c2 g (ix1 i))) (FloatOps.hostAbsf (c3 g (ix1 i))) = _
  rw [c2_apply, c3_apply]; rfl

theorem itV_apply (i j : Fin 5000) : itV g (ix2 i j) = inter (boxOf g i) (boxOf g j) := by
  show FloatOps.mulf (clV (subf (mnV (addf (c0 g) (hfV (c2 g)))) (mxV (subf (c0 g) (hfV (c2 g))))) (ix2 i j))
    (clV (subf (mnV (addf (c1 g) (hfV (c3 g)))) (mxV (subf (c1 g) (hfV (c3 g))))) (ix2 i j)) = _
  rw [clV_apply, clV_apply]
  show FloatOps.mulf (FloatOps.maximumf (FloatOps.subf (mnV (addf (c0 g) (hfV (c2 g))) (ix2 i j)) (mxV (subf (c0 g) (hfV (c2 g))) (ix2 i j))) zero)
    (FloatOps.maximumf (FloatOps.subf (mnV (addf (c1 g) (hfV (c3 g))) (ix2 i j)) (mxV (subf (c1 g) (hfV (c3 g))) (ix2 i j))) zero) = _
  rw [mnV_apply, mnV_apply, mxV_apply, mxV_apply, y1_apply, y1_apply, x1_apply, x1_apply, y2_apply, y2_apply, x2_apply, x2_apply]
  rfl

/-- A pair's bit: they overlap and are of one class. -/
theorem sup_bit (l : IVec S5000 32) (i j : Fin 5000) :
    supV (itV g) (arV g) l (ix2 i j) = hit (boxOf g i) (boxOf g j) &&& BitVec.ofBool (l (ix1 i) == l (ix1 j)) := by
  show (FloatOps.cmpf .ogt (FloatOps.hostDivf (itV g (ix2 i j))
      (FloatOps.maximumf (FloatOps.subf (FloatOps.addf (rowsV (arV g) (ix2 i j)) (colsV (arV g) (ix2 i j))) (itV g (ix2 i j)))
        (broadcastInDim S5000x5000 ![] bcast_S_S5000x5000 (constant (F := Ideal) S_ .f32 0x3089705F#32) (ix2 i j))))
      (broadcastInDim S5000x5000 ![] bcast_S_S5000x5000 (constant S_ .f32 0x3F000000#32) (ix2 i j)))
    &&& BitVec.ofBool (rowsV l (ix2 i j) == colsV l (ix2 i j)) = _
  rw [bc0 bcast_S_S5000x5000, bc0 bcast_S_S5000x5000, rowsV_apply, rowsV_apply, colsV_apply, colsV_apply, itV_apply, ar_apply, ar_apply]
  rfl

end Table

/-- One box strikes another out: they overlap and are of one class. -/
def Over (bx : FVec Ideal S5000x4 .f32) (lab : IVec S5000 32) (i j : Fin 5000) : Prop :=
  labI lab i = labI lab j ∧ hit (boxOf bx i) (boxOf bx j) = 1#1

/-- The pairs the loop reads. -/
def pairs (bx : FVec Ideal S5000x4 .f32) (lab : IVec S5000 32) (sc : FVec Ideal S5000 .f32) : IVec S5000x5000 1 :=
  supV (itV (gbV bx (byV sc))) (arV (gbV bx (byV sc))) (glV lab (byV sc))

theorem pairs_iff (bx : FVec Ideal S5000x4 .f32) (lab : IVec S5000 32) (sc : FVec Ideal S5000 .f32) (i j : Fin 5000) :
    pairs bx lab sc (ix2 i j) = 1#1 ↔ Over bx lab (refσ sc i) (refσ sc j) := by
  have hb : ∀ k, boxOf (gbV bx (byV sc)) k = boxOf bx (refσ sc k) := fun k => by
    unfold boxOf; rw [gbV_apply, gbV_apply, gbV_apply, gbV_apply]
  unfold pairs Over labI
  rw [sup_bit, hb, hb, glV_apply, glV_apply, BitVec.toInt_inj]
  have hc : ∀ (b : BitVec 1) (c : Bool), b &&& BitVec.ofBool c = 1#1 ↔ c = true ∧ b = 1#1 := by decide
  rw [hc, beq_iff_eq]

/-! ## The loop -/

/-- A row of the pairs, -/
theorem row_apply (X : IVec S5000x5000 1) (st : Fin 2 → ℤ) (k b : Fin 5000) (h0 : st 0 = (k.val : ℤ)) (h1 : st 1 = 0) :
    shapeCast S5000 (Host.dynamicSlice S1x5000 X st sliceFits_S5000x5000_S1x5000) shapeCasts_S1x5000_S5000 (ix1 b) = X (ix2 k b) := by
  refine (shapeCast_apply _ shapeCasts_S1x5000_S5000 (ix1 b) (ix2 (0 : Fin 1) b) ?_).trans ?_
  · rw [Shape.rowMajor_val_one, Shape.rowMajor_val_two]
    show 0 * 5000 + b.val = b.val
    omega
  · refine congrArg X (funext fun a => Fin.ext ?_)
    match a with
    | ⟨0, _⟩ =>
      show (min (max (st 0) 0) ((5000 - 1 : ℕ) : ℤ)).toNat + 0 = k.val
      rw [h0]; have := k.isLt; omega
    | ⟨1, _⟩ =>
      show (min (max (st 1) 0) ((5000 - 5000 : ℕ) : ℤ)).toNat + b.val = b.val
      rw [h1]; omega

/-- and one flag. -/
theorem one_apply (X : IVec S5000 1) (st : Fin 1 → ℤ) (k : Fin 5000) (h0 : st 0 = (k.val : ℤ)) (x : S_.Idx) :
    shapeCast S_ (Host.dynamicSlice S1 X st sliceFits_S5000_S1) shapeCasts_S1_S_ x = X (ix1 k) := by
  refine (shapeCast_apply _ shapeCasts_S1_S_ x (ix1 (0 : Fin 1)) ?_).trans ?_
  · have h := (S_.rowMajor x).isLt
    have h' : S_.numel = 1 := by decide
    rw [Shape.rowMajor_val_one]
    show 0 = _
    omega
  · refine congrArg X (funext fun a => Fin.ext ?_)
    match a with
    | ⟨0, _⟩ =>
      show (min (max (st 0) 0) ((5000 - 1 : ℕ) : ℤ)).toNat + 0 = k.val
      rw [h0]; have := k.isLt; omega

theorem after_bit (k b : Fin 5000) : IntOp.cmpi .sgt (BitVec.ofNat 32 b.val) (BitVec.ofNat 32 k.val) = BitVec.ofBool (decide (k < b)) := by
  show BitVec.ofBool (BitVec.slt _ _) = _
  rw [BitVec.slt_eq_decide, toInt_ofNat_of_lt (by have := k.isLt; omega), toInt_ofNat_of_lt (by have := b.isLt; omega)]
  exact congrArg BitVec.ofBool (by rw [decide_eq_decide]; rw [Fin.lt_def]; omega)

theorem flag_step (V : Valuation τ sig (Elt Ideal)) (k b : Fin 5000) (A : IVec S5000 1) (X : IVec S5000x5000 1) (h0 : V (Proc.devRef .tc main_v83_0) = X)
    (h1 : V (Proc.devRef .tc main_v83_1) = iotaInDim S5000 32 0)
    (h3 : V (Proc.devRef .tc main_v83_3) = constantI S_ 32 (BitVec.ofNat 32 k.val)) (h4 : V (Proc.devRef .tc main_v83_4) = A) :
    (step_main_v83_4 V : IVec S5000 1) (ix1 b) = A (ix1 b) &&& ~~~((X (ix2 k b) &&& A (ix1 k)) &&& BitVec.ofBool (decide (k < b))) := by
  have hk : k.val < 2 ^ 31 := by have := k.isLt; omega
  unfold step_main_v83_4 res_main_while0b_v100
  rw [h0, h3, h1, h4]
  refine congrArg₂ (fun p q : BitVec 1 => A (ix1 b) &&& ~~~(p &&& q)) (congrArg₂ (fun p q : BitVec 1 => p &&& q) ?_ ?_) ?_
  · exact row_apply X _ k b (toInt_wrap_ofNat k.val hk) rfl
  · refine (bc0 bcast_S_S5000 _ (ix1 b)).trans ?_
    exact one_apply A _ k (toInt_wrap_ofNat k.val hk) _
  · show IntOp.cmpi .sgt (BitVec.ofNat 32 b.val) (broadcastInDim S5000 ![] bcast_S_S5000 (constantI S_ 32 (BitVec.ofNat 32 k.val)) (ix1 b)) = _
    rw [bc0 bcast_S_S5000]
    exact after_bit k b

variable (m : (ℓ : Loc nD τ sig) → Buf (Elt Ideal) ℓ) (c : Dev nD)

/-- The carried buffers before the `k`-th trip. -/
def CK (k : ℕ) : Valuation τ sig (Elt Ideal) := STEP^[k] (entryContents preI m c)

theorem CK_succ (k : ℕ) : CK m c (k + 1) = STEP (CK m c k) := Function.iterate_succ_apply' _ _ _

def bxR : FVec Ideal S5000x4 .f32 := m (c, Proc.devRef .tc main_arg0)
def lbR : IVec S5000 32 := m (c, Proc.devRef .tc main_arg1)
def scR : FVec Ideal S5000 .f32 := m (c, Proc.devRef .tc main_arg2)

theorem CK_0 : ∀ k, CK m c k (Proc.devRef .tc main_v83_0) = pairs (bxR m c) (lbR m c) (scR m c)
  | 0 => pre_0 (fun b => m (c, b))
  | k + 1 => by rw [CK_succ, STEP_main_v83_0, CK_0 k]
theorem CK_1 : ∀ k, CK m c k (Proc.devRef .tc main_v83_1) = iotaInDim S5000 32 0
  | 0 => pre_1 (fun b => m (c, b))
  | k + 1 => by rw [CK_succ, STEP_main_v83_1, CK_1 k]
theorem CK_3 : ∀ k, CK m c k (Proc.devRef .tc main_v83_3) = constantI S_ 32 (BitVec.ofNat 32 k)
  | 0 => pre_3 (fun b => m (c, b))
  | k + 1 => by
    rw [CK_succ, STEP_main_v83_3]
    unfold step_main_v83_3
    rw [CK_3 k]
    funext x
    show BitVec.ofNat 32 k + 1#32 = BitVec.ofNat 32 (k + 1)
    exact (BitVec.ofNat_add _ _).symm

/-- A flag stands before the `k`-th trip. -/
def KP (k : ℕ) (b : Fin 5000) : Prop := (CK m c k (Proc.devRef .tc main_v83_4) : IVec S5000 1) (ix1 b) = 1#1

theorem KP_zero (b : Fin 5000) : KP m c 0 b := by
  unfold KP
  have h : (CK m c 0 (Proc.devRef .tc main_v83_4) : IVec S5000 1) = broadcastInDim S5000 ![] bcast_S_S5000 (constantI S_ 1 1#1) := pre_4 (fun b => m (c, b))
  rw [h]
  exact bc0 bcast_S_S5000 _ (ix1 b)

theorem KP_succ (k b : Fin 5000) : KP m c (k.val + 1) b ↔ KP m c k.val b ∧ ¬ (Over (bxR m c) (lbR m c) (refσ (scR m c) k) (refσ (scR m c) b) ∧ KP m c k.val k ∧ k < b) := by
  have h : (CK m c (k.val + 1) (Proc.devRef .tc main_v83_4) : IVec S5000 1) (ix1 b) = _ :=
    (congrFun (show (CK m c (k.val + 1) (Proc.devRef .tc main_v83_4) : IVec S5000 1) = step_main_v83_4 (CK m c k.val) by rw [CK_succ, STEP_main_v83_4]) (ix1 b)).trans
      (flag_step (CK m c k.val) k b (CK m c k.val (Proc.devRef .tc main_v83_4)) _ (CK_0 m c k.val) (CK_1 m c k.val) (CK_3 m c k.val) rfl)
  unfold KP
  rw [h, ← pairs_iff]
  have hb : ∀ (p q r : BitVec 1) (d : Bool), p &&& ~~~((q &&& r) &&& BitVec.ofBool d) = 1#1 ↔ p = 1#1 ∧ ¬ (q = 1#1 ∧ r = 1#1 ∧ d = true) := by decide
  rw [hb, decide_eq_true_iff]

/-- At the end a box stands iff no standing box before it strikes it out. -/
theorem KP_rule (b : Fin 5000) : KP m c 5000 b ↔ ¬ ∃ a, a < b ∧ KP m c 5000 a ∧ Over (bxR m c) (lbR m c) (refσ (scR m c) a) (refσ (scR m c) b) :=
  pass_rule (fun a b => Over (bxR m c) (lbR m c) (refσ (scR m c) a) (refσ (scR m c) b)) (KP m c) (KP_zero m c) (KP_succ m c) b

/-! ## The flags box by box -/

theorem sortedFrom_perm {n : ℕ} (τ : Equiv.Perm (Fin n)) (i : Fin n) : sortedFrom (fun k k' : Fin n => decide (τ.symm k < τ.symm k')) i = τ i := by
  unfold sortedFrom
  rw [List.get_of_eq (sortPositions_of_perm τ)]
  simp

/-- The places of an order's sort. -/
theorem invV_apply (o : IVec S5000 32) (σ : Equiv.Perm (Fin 5000)) (ho : ∀ i, o (ix1 i) = BitVec.ofNat 32 (σ i).val) (i : Fin 5000) :
    invV o (ix1 i) = BitVec.ofNat 32 (σ.symm i).val := by
  unfold invV
  rw [Host.sort2_eq_sortBy]
  dsimp only
  rw [sortBy_vec, iota_vec]
  have hf : (fun k k' : Fin 5000 => comparator_i32_i32_d0 (o (ix1 k), iotaInDim S5000 32 0 (ix1 k)) (o (ix1 k'), iotaInDim S5000 32 0 (ix1 k')) == 1#1)
      = fun k k' => decide (σ.symm.symm k < σ.symm.symm k') := by
    funext k k'
    unfold comparator_i32_i32_d0
    dsimp only
    rw [ho, ho]
    show (BitVec.ofBool (BitVec.slt _ _) == 1#1) = _
    rw [BitVec.slt_eq_decide, toInt_ofNat_of_lt (by have := (σ k).isLt; omega), toInt_ofNat_of_lt (by have := (σ k').isLt; omega), Equiv.symm_symm]
    have hb : ∀ d : Bool, (BitVec.ofBool d == 1#1) = d := by decide
    rw [hb, decide_eq_decide, Fin.lt_def]
    omega
  rw [← sortedFrom_perm σ.symm i, ← hf]

/-- The score order as a permutation. -/
def refE (sc : FVec Ideal S5000 .f32) : Equiv.Perm (Fin 5000) := Equiv.ofBijective (refσ sc) (refσ_bij sc)

theorem keptV_apply (k : IVec S5000 1) (sc : FVec Ideal S5000 .f32) (b : Fin 5000) :
    keptV (F := Ideal) k (byV sc) (ix1 (refσ sc b)) = ind (k (ix1 b)) := by
  have hi : invV (byV sc) (ix1 (refσ sc b)) = BitVec.ofNat 32 b.val := by
    rw [invV_apply (byV sc) (refE sc) (byV_apply sc) (refσ sc b)]
    rw [show (refE sc).symm (refσ sc b) = b from Equiv.ofBijective_symm_apply_apply (refσ sc) (refσ_bij sc) b]
  have hg := gather_take1 gather_S5000_S5000x1_S5000_n_0_n_n_0_1_1 rfl rfl rfl rfl k _ (refσ sc b) b (idxV_apply _ (refσ sc b) b hi) (by decide)
  show FloatOps.uitofp .f32 (Host.gather gather_S5000_S5000x1_S5000_n_0_n_n_0_1_1 k (idxV (invV (byV sc))) (ix1 (refσ sc b))) = _
  rw [hg]
  rcases bit_cases (k (ix1 b)) with h | h <;> rw [h]
  · rw [ind_zero, zero_eq]
    show (((0 : ℕ) : ℝ) : EReal) = 0
    rw [Nat.cast_zero, EReal.coe_zero]
  · rw [ind_one, one_eq]
    show (((1 : ℕ) : ℝ) : EReal) = 1
    rw [Nat.cast_one, EReal.coe_one]

theorem CK_agree (k : ℕ) : AT m k c (Proc.devRef .tc main_v83_4) = CK m c k (Proc.devRef .tc main_v83_4) := atK_agree m c k main_v83_4 (by decide)

/-- The reference's result. -/
def refKept : FVec Ideal S5000 .f32 := keptV (CK m c 5000 (Proc.devRef .tc main_v83_4)) (byV (scR m c))

theorem ref_result : afterL postI (VL m c) (Proc.devRef .tc main_v98) = resV (refKept m c) (bxR m c) (scR m c) := by
  refine (post_v98 _).trans ?_
  have h4 : VL m c (Proc.devRef .tc main_v83_4) = CK m c 5000 (Proc.devRef .tc main_v83_4) := by
    unfold VL
    rw [after_of_writes_sub condOps _ condOps_writes (by decide +kernel : main_v83_4 ∉ condOps_W)]
    exact CK_agree m c 5000
  have h1 : VL m c (Proc.devRef .tc main_v1) = byV (scR m c) :=
    (VL_keep m c main_v1 (by decide +kernel) (by decide +kernel)).trans (pre_v1 (fun b => m (c, b)))
  rw [h4, h1, VL_arg0, VL_arg2]
  rfl

theorem refKept_apply (b : Fin 5000) : (KP m c 5000 b → refKept m c (ix1 (refσ (scR m c) b)) = one) ∧ (¬ KP m c 5000 b → refKept m c (ix1 (refσ (scR m c) b)) = zero) := by
  unfold refKept KP
  rw [keptV_apply]
  constructor
  · intro h; rw [h]; rfl
  · intro h
    rcases bit_cases ((CK m c 5000 (Proc.devRef .tc main_v83_4) : IVec S5000 1) (ix1 b)) with h' | h'
    · rw [h']; rfl
    · exact absurd h' h

end Cert.Proof.Ref

end
-- ==== Proof.Alg.lean ====
/-
  The kernel's result at the extended reals is the reference's: a class's tile keeps, along the class's stretch of the order,
  the boxes the reference keeps along the score order.
-/
module

public import proofs.«01_k».proof.Proof.RefVal
public import proofs.«01_k».proof.Proof.Frames
public import Idealize.ShloMosaic.Lib.Pointwise.Reduce

@[expose] public section

noncomputable section

namespace Cert.Proof.Alg

open Cert.KernelIdeal Cert.KernelIdeal.Gen
open Cert.Proof.Nms Cert.Proof.Greedy Cert.Proof.Ref
open Idealize.ShloMosaic hiding ix1 ix2 eq_ix1
open Idealize.ShloMosaic.ValueIdx Idealize.ShloMosaic.Routing
open Idealize.SL.Sem

/-! ## What a tile's pass reads -/

theorem gat_at (f : Vec Ideal S5008 .f32) (n : ℕ) (hn : n < 5008) (j : S16.Idx) : gat f (broadcast S16 (BitVec.ofNat 32 n)) j = f (ix1 ⟨n, hn⟩) := by
  have hx : ∀ a x, ((![broadcast S16 (BitVec.ofNat 32 n)] : Fin 1 → IVec S16 32) a x).toNat < S5008.size a := by
    intro a x
    match a with
    | ⟨0, _⟩ =>
      show (BitVec.ofNat 32 n).toNat < 5008
      rw [BitVec.toNat_ofNat, Nat.mod_eq_of_lt (by omega)]; exact hn
  unfold gat
  rw [dif_pos hx]
  refine congrArg f (funext fun a => Fin.ext ?_)
  match a with
  | ⟨0, _⟩ =>
    show (BitVec.ofNat 32 n).toNat = n
    rw [BitVec.toNat_ofNat, Nat.mod_eq_of_lt (by omega)]

/-- The tables the tiles read, of the boxes, the labels and the scores. -/
structure Reads (T : Tab Ideal) (bx : FVec Ideal S5000x4 .f32) (lab : IVec S5000 32) (sc : FVec Ideal S5000 .f32) : Prop where
  ord : T.ord = padV (sitofp (F := Ideal) .f32 (ordV lab sc))
  yc : T.yc = padV (colV ![0, 0] slices_S5000x4_S5000x1_0_0 bx)
  xc : T.xc = padV (colV ![0, 1] slices_S5000x4_S5000x1_0_1 bx)
  h : T.h = padV (colV ![0, 2] slices_S5000x4_S5000x1_0_2 bx)
  w : T.w = padV (colV ![0, 3] slices_S5000x4_S5000x1_0_3 bx)

section Pass

variable {T : Tab Ideal} {bx : FVec Ideal S5000x4 .f32} {lab : IVec S5000 32} {sc : FVec Ideal S5000 .f32} (hT : Reads T bx lab sc)

/-- A column's entry at a box. -/
theorem col_at (x : FVec Ideal S5000 .f32) (g : FVec Ideal S5000x4 .f32) (c : Fin 4) (hx : ∀ i, x (ix1 i) = g (ix2 i c)) (i : Fin 5000) (j : S16.Idx) :
    gat (padV x) (broadcast S16 (BitVec.ofNat 32 i.val)) j = g (ix2 i c) := by
  rw [gat_at _ _ (by have := i.isLt; omega), padV_apply, dif_pos i.isLt]
  exact hx i

include hT in
/-- The candidate at a place is the box that stands there. -/
theorem cnd_at (e : Fin 5000) : cnd T e.val = boxOf bx (ordσ lab sc e) := by
  have hi : fptosi (φ := .f32) 32 (gat T.ord (broadcast S16 (BitVec.ofNat 32 e.val))) = broadcast S16 (BitVec.ofNat 32 (ordσ lab sc e).val) := by
    funext x
    show FloatOps.fptosi (F := Ideal) (φ := .f32) 32 (gat T.ord (broadcast S16 (BitVec.ofNat 32 e.val)) x) = _
    rw [gat_at _ _ (by have := e.isLt; omega), hT.ord, ord_at conv_ideal, dif_pos e.isLt]
    rfl
  unfold cnd laneBox ent boxOf
  dsimp only
  rw [hi, hT.yc, hT.xc, hT.h, hT.w]
  exact congr (congr (congr (congrArg mkBox
    (col_at (colV ![0, 0] slices_S5000x4_S5000x1_0_0 bx) bx 0 (fun i => col_apply bx 0 slices_S5000x4_S5000x1_0_0 shapeCasts_S5000x1_S5000 i) _ _))
    (col_at (colV ![0, 1] slices_S5000x4_S5000x1_0_1 bx) bx 1 (fun i => col_apply bx 1 slices_S5000x4_S5000x1_0_1 shapeCasts_S5000x1_S5000 i) _ _))
    (col_at (colV ![0, 2] slices_S5000x4_S5000x1_0_2 bx) bx 2 (fun i => col_apply bx 2 slices_S5000x4_S5000x1_0_2 shapeCasts_S5000x1_S5000 i) _ _))
    (col_at (colV ![0, 3] slices_S5000x4_S5000x1_0_3 bx) bx 3 (fun i => col_apply bx 3 slices_S5000x4_S5000x1_0_3 shapeCasts_S5000x1_S5000 i) _ _)

/-! ## The rule a pass keeps by -/

variable (T lab sc) in
/-- The box at a place is kept by its class's pass. -/
def KK (f : Fin 5000) : Prop :=
  greedy (strikes T (startN lab (labI lab (ordσ lab sc f)).toNat)) (f.val - startN lab (labI lab (ordσ lab sc f)).toNat)

variable (hl : ∀ i, 0 ≤ labI lab i ∧ labI lab i < 8)

theorem KK_of {c : ℕ} {f : Fin 5000} (h : labI lab (ordσ lab sc f) = (c : ℤ)) : KK T lab sc f ↔ greedy (strikes T (startN lab c)) (f.val - startN lab c) := by
  unfold KK; rw [h, Int.toNat_natCast]

include hl hT in
theorem KK_rule (f : Fin 5000) : KK T lab sc f ↔ ¬ ∃ e, e < f ∧ KK T lab sc e ∧ Over bx lab (ordσ lab sc e) (ordσ lab sc f) := by
  obtain ⟨c, hc⟩ : ∃ c : ℕ, labI lab (ordσ lab sc f) = (c : ℤ) := ⟨(labI lab (ordσ lab sc f)).toNat, (Int.toNat_of_nonneg (hl _).1).symm⟩
  have hf := (stretch_iff lab sc hl c f).2 hc
  rw [KK_of hc, greedy_iff]
  refine not_congr ⟨?_, ?_⟩
  · rintro ⟨r, hr, hg, hs⟩
    have he5 : startN lab c + r < 5000 := by have := f.isLt; omega
    have hec : labI lab (ordσ lab sc ⟨startN lab c + r, he5⟩) = (c : ℤ) := (stretch_iff lab sc hl c _).1 ⟨by show _ ≤ startN lab c + r; omega, by show startN lab c + r < _; omega⟩
    refine ⟨⟨startN lab c + r, he5⟩, by rw [Fin.lt_def]; show startN lab c + r < f.val; omega, ?_, hec.trans hc.symm, ?_⟩
    · rw [KK_of hec]
      show greedy _ (startN lab c + r - startN lab c)
      rw [Nat.add_sub_cancel_left]; exact hg
    · rw [← cnd_at hT, ← cnd_at hT]
      unfold strikes at hs
      rw [Nat.add_sub_cancel' hf.1] at hs
      exact hs
  · rintro ⟨e, he, hk, hlab, hh⟩
    have hec : labI lab (ordσ lab sc e) = (c : ℤ) := hlab.trans hc
    have hes := (stretch_iff lab sc hl c e).2 hec
    rw [KK_of hec] at hk
    rw [Fin.lt_def] at he
    refine ⟨e.val - startN lab c, by omega, hk, ?_⟩
    unfold strikes
    rw [Nat.add_sub_cancel' hes.1, Nat.add_sub_cancel' hf.1, cnd_at hT, cnd_at hT]
    exact hh

/-! ## The eight rows of flags -/

/-- The table of starts and counts, as the tiles read it. -/
abbrev tableOf (lab : IVec S5000 32) : Vec Ideal S16 .f32 := sitofp (F := Ideal) .f32 (metaV (cntV lab))

theorem tileOf_val (c : Fin 8) : (tileOf c 1).val = c.val := rfl

theorem row_at (mt : Vec Ideal S16 .f32) (c : Fin 8) (e : Fin 5008) : allFlags T mt (ix2 c e) = flags T mt (tileOf c) (ix1 e) := by
  unfold allFlags rowsOf
  refine congrArg (flags T mt (tileOf c)) (funext fun a => Fin.ext ?_)
  match a with
  | ⟨0, _⟩ => rfl

theorem row_pass (c : Fin 8) (e : Fin 5008) :
    (startN lab c.val ≤ e.val ∧ e.val < startN lab c.val + cntN lab c.val ∧ greedy (strikes T (startN lab c.val)) (e.val - startN lab c.val) → allFlags T (tableOf lab) (ix2 c e) = one) ∧
    (¬ (startN lab c.val ≤ e.val ∧ e.val < startN lab c.val + cntN lab c.val ∧ greedy (strikes T (startN lab c.val)) (e.val - startN lab c.val)) → allFlags T (tableOf lab) (ix2 c e) = zero) := by
  have hle := startN_add_le lab c.val
  have hs : (startOf (tableOf lab) (tileOf c)).toNat = startN lab c.val := by
    have h := startOf_meta conv_ideal lab (tileOf c) ((tileOf_val c).trans_lt c.isLt)
    rw [h, tileOf_val, BitVec.toNat_ofNat, Nat.mod_eq_of_lt (by omega)]
  have hc : (cntOf (tableOf lab) (tileOf c)).toNat = cntN lab c.val := by
    have h := cntOf_meta conv_ideal lab (tileOf c) ((tileOf_val c).trans_lt c.isLt)
    rw [h, tileOf_val, BitVec.toNat_ofNat, Nat.mod_eq_of_lt (by omega)]
  rw [row_at]
  unfold flags
  exact pass_flags T hs hc hle e

/-- The rows added up. -/
def total (fl : FVec Ideal S8x5008 .f32) : FVec Ideal S5000 .f32 :=
  extractStridedSlice S5000 ![0] (Host.reduceAdd fl (constant S_ .f32 0x00000000#32) reducesTo_S8x5008_S5008_d0 h_S_) slices_S5008_S5000_0

theorem total_apply (fl : FVec Ideal S8x5008 .f32) (e : Fin 5000) :
    total fl (ix1 e) = (0 : EReal) + ∑ c : Fin 8, (fl (ix2 c (⟨e.val, by have := e.isLt; omega⟩ : Fin 5008)) : EReal) := by
  have h : total fl (ix1 e) = Host.reduceAdd fl (constant S_ .f32 0x00000000#32) reducesTo_S8x5008_S5008_d0 h_S_ (ix1 (⟨e.val, by have := e.isLt; omega⟩ : Fin 5008)) := by
    unfold total
    refine congrArg (Host.reduceAdd fl (constant S_ .f32 0x00000000#32) reducesTo_S8x5008_S5008_d0 h_S_) (funext fun a => Fin.ext ?_)
    match a with
    | ⟨0, _⟩ => exact Nat.zero_add _
  rw [h, hostReduceAdd_apply]
  refine (Ideal.hostReduceAdd_r2_a0 reducesTo_S8x5008_S5008_d0 fl _ _).trans ?_
  exact congrArg (· + _) zero_eq

include hl in
theorem total_kept (e : Fin 5000) :
    (KK T lab sc e → total (allFlags T (tableOf lab)) (ix1 e) = one) ∧ (¬ KK T lab sc e → total (allFlags T (tableOf lab)) (ix1 e) = zero) := by
  obtain ⟨c, hc⟩ : ∃ c : Fin 8, labI lab (ordσ lab sc e) = (c.val : ℤ) :=
    ⟨⟨(labI lab (ordσ lab sc e)).toNat, by have := hl (ordσ lab sc e); omega⟩, (Int.toNat_of_nonneg (hl _).1).symm⟩
  have hst := (stretch_iff lab sc hl c.val e).2 hc
  have hot : ∀ c' : Fin 8, c' ≠ c → (allFlags T (tableOf lab) (ix2 c' (⟨e.val, by have := e.isLt; omega⟩ : Fin 5008)) : EReal) = 0 := by
    intro c' hne
    rw [(row_pass c' ⟨e.val, by have := e.isLt; omega⟩).2 ?_]
    · exact zero_eq
    · rintro ⟨h1, h2, -⟩
      have := (stretch_iff lab sc hl c'.val e).1 ⟨h1, h2⟩
      exact hne (Fin.ext (by omega))
  rw [total_apply, Finset.sum_eq_single c (fun c' _ hne => hot c' hne) (fun h => absurd (Finset.mem_univ _) h), zero_add, KK_of hc]
  exact ⟨fun h => (row_pass c ⟨e.val, by have := e.isLt; omega⟩).1 ⟨hst.1, hst.2, h⟩,
    fun h => (row_pass c ⟨e.val, by have := e.isLt; omega⟩).2 fun h' => h h'.2.2⟩

/-! ## Box by box -/

/-- The flags put back by the order. -/
def keptK (fl : FVec Ideal S8x5008 .f32) (ord : IVec S5000 32) : FVec Ideal S5000 .f32 :=
  Host.scatter scatter_S5000_S5000x1_S5000_n_0_0_1 (fun _ b => b) (broadcastInDim S5000 ![] bcast_S_S5000 (constant S_ .f32 0x00000000#32)) (idxV ord) (total fl)

theorem outV_eq (fl : FVec Ideal S8x5008 .f32) (ord : IVec S5000 32) (bx : FVec Ideal S5000x4 .f32) (sc : FVec Ideal S5000 .f32) :
    outV fl ord bx sc = resV (keptK fl ord) bx sc := rfl

theorem keptK_apply (fl : FVec Ideal S8x5008 .f32) (e : Fin 5000) : keptK fl (ordV lab sc) (ix1 (ordσ lab sc e)) = total fl (ix1 e) := by
  have hi : ∀ i : Fin 5000, (idxV (ordV lab sc) (ix2 i (0 : Fin 1))).toInt = ((ordσ lab sc i).val : ℤ) := fun i => by
    rw [idxV_apply (ordV lab sc) i _ (ordV_apply lab sc i), toInt_ofNat_of_lt (by have := (ordσ lab sc i).isLt; omega)]
  refine (scatter_set_signed scatter_S5000_S5000x1_S5000_n_0_0_1 rfl rfl rfl _ (idxV (ordV lab sc)) (total fl) (ordσ lab sc e) (total fl (ix1 e)) fun i h => ?_).1 ⟨e, hi e⟩
  rw [hi] at h
  rw [(ordσ_bij lab sc).1 (Fin.ext (by omega) : ordσ lab sc i = ordσ lab sc e)]

end Pass

/-! ## The two results -/

variable (m : (ℓ : Loc nD τ sig) → Buf (Elt Ideal) ℓ)
variable (m' : (ℓ : Loc Cert.ReferenceIdeal.nD Cert.ReferenceIdeal.τ Cert.ReferenceIdeal.sig) → Buf (Elt Ideal) ℓ)

theorem reads (d : Dev nD) : Reads (TT m d) (bxOf m d) (lbOf m d) (scOf m d) := ⟨TT_ord m d, TT_yc m d, TT_xc m d, TT_h m d, TT_w m d⟩

theorem kept_eq (d : Dev nD) (c : Dev Cert.ReferenceIdeal.nD) (h0 : bxR m' c = bxOf m d) (h1 : lbR m' c = lbOf m d) (h2 : scR m' c = scOf m d)
    (hl : ∀ i, 0 ≤ labI (lbOf m d) i ∧ labI (lbOf m d) i < 8) :
    keptK (allFlags (TT m d) (MM m d)) (ordV (lbOf m d) (scOf m d)) = refKept m' c := by
  rw [MM_eq]
  funext x
  obtain ⟨i, rfl⟩ : ∃ i : Fin 5000, x = ix1 i := ⟨x 0, eq_ix1 x⟩
  obtain ⟨e, rfl⟩ := (ordσ_bij (lbOf m d) (scOf m d)).2 i
  obtain ⟨b, hb⟩ := (refσ_bij (scOf m d)).2 (ordσ (lbOf m d) (scOf m d) e)
  have hK : KP m' c 5000 b ↔ KK (TT m d) (lbOf m d) (scOf m d) e := by
    refine same_kept (refσ (scOf m d)) (ordσ (lbOf m d) (scOf m d)) (refσ_bij _) (ordσ_bij _ _) (Over (bxOf m d) (lbOf m d)) ?_
      (KP m' c 5000) (KK (TT m d) (lbOf m d) (scOf m d)) ?_ (KK_rule (reads m d) hl) b e hb.symm
    · intro a b hS e f he hf
      exact orders_agree (lbOf m d) (scOf m d) a b e f hS.1 he hf
    · intro b
      have := KP_rule m' c b
      rw [h0, h1, h2] at this
      exact this
  have hr := refKept_apply m' c b
  rw [h2, hb] at hr
  rw [keptK_apply]
  by_cases h : KK (TT m d) (lbOf m d) (scOf m d) e
  · exact ((total_kept hl e).1 h).trans (hr.1 (hK.2 h)).symm
  · exact ((total_kept hl e).2 h).trans (hr.2 fun h' => h (hK.1 h')).symm

/-- The kernel's result is the reference's. -/
theorem results_eq (d : Dev nD) (c : Dev Cert.ReferenceIdeal.nD) (h0 : bxR m' c = bxOf m d) (h1 : lbR m' c = lbOf m d) (h2 : scR m' c = scOf m d)
    (hl : ∀ i, 0 ≤ labI (lbOf m d) i ∧ labI (lbOf m d) i < 8) :
    outV (allFlags (TT m d) (MM m d)) (ordV (lbOf m d) (scOf m d)) (bxOf m d) (scOf m d) = resV (refKept m' c) (bxR m' c) (scR m' c) := by
  rw [outV_eq, kept_eq m m' d c h0 h1 h2 hl, h0, h2]

end Cert.Proof.Alg

end
-- ==== Proof.Classes.lean ====
/-
  The condition on the labels, read off the function that states it: every label is one of the eight classes.
-/
module

public import proofs.«01_k».proof.Pre_in_classes
public import proofs.«01_k».proof.Proof.Places
public import proofs.«01_k».proof.Proof.Lanes
public import Idealize.ShloMosaic.Lib.ReduceAll

@[expose] public section

noncomputable section

namespace Cert.Proof.Alg

open Cert.Proof.Nms
open Idealize.ShloMosaic
open Idealize.ShloMosaic.ValueIdx

/-- A label that passes both comparisons is one of the eight classes. -/
theorem in_range (v : BitVec 32) (h : IntOp.andi (IntOp.cmpi .sge v 0#32) (IntOp.cmpi .slt v 8#32) = 1#1) : 0 ≤ v.toInt ∧ v.toInt < 8 := by
  have h1 : IntOp.cmpi .sge v 0#32 = 1#1 ∧ IntOp.cmpi .slt v 8#32 = 1#1 := by
    rcases bit_cases (IntOp.cmpi .sge v 0#32) with a | a <;> rcases bit_cases (IntOp.cmpi .slt v 8#32) with b | b <;> rw [a, b] at h <;> first | exact ⟨a, b⟩ | exact absurd h (by decide)
  have h2 : BitVec.ofBool ((0#32).sle v) = 1#1 := h1.1
  have h3 : BitVec.ofBool (v.slt 8#32) = 1#1 := h1.2
  have t2 : (0#32).sle v = true := by
    by_contra hn; rw [Bool.not_eq_true] at hn; rw [hn] at h2; exact absurd h2 (by decide)
  have t3 : v.slt 8#32 = true := by
    by_contra hn; rw [Bool.not_eq_true] at hn; rw [hn] at h3; exact absurd h3 (by decide)
  rw [BitVec.sle_iff_toInt_le] at t2
  rw [BitVec.slt_iff_toInt_lt] at t3
  exact ⟨t2, t3⟩

theorem labels_in [Cert.Pre_in_classes.Facts] (bx : FVec Ideal Cert.Pre_in_classes.S5000x4 .f32) (lab : IVec Cert.Pre_in_classes.S5000 32) (sc : FVec Ideal Cert.Pre_in_classes.S5000 .f32)
    (h : Cert.Pre_in_classes.fn bx lab sc = fun _ => 1#1) (i : Fin 5000) : 0 ≤ labI lab i ∧ labI lab i < 8 := by
  unfold Cert.Pre_in_classes.fn at h
  dsimp only at h
  have hs : Subsingleton Cert.Pre_in_classes.S_.Idx := ⟨fun a b => funext fun d => d.elim0⟩
  exact in_range _ (Host.reduce_andi_all _ _ _ _ (fun a => a.elim0) (congrFun h _) (ix1 i))

end Cert.Proof.Alg

end
-- ==== Proof.lean ====
/-
  The proof of the claims: the frames of the kernel (at the machine's floats and at the ideal ones) and of the reference,
  and that the kernel's result at the extended reals is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_classes
public import proofs.«01_k».proof.Proof.Frames
public import proofs.«01_k».proof.Proof.RefRun
public import proofs.«01_k».proof.Proof.RefVal
public import proofs.«01_k».proof.Proof.Alg
public import proofs.«01_k».proof.Proof.Classes
public import Idealize.ShloMosaic.Adequacy
public import Idealize.ShloMosaic.Init

@[expose] public section

noncomputable section

namespace Cert.Proof

open Idealize.ShloMosaic Idealize.SL.Sem

set_option maxHeartbeats 8000000 in
set_option maxRecDepth 100000 in
theorem frame_kernel : Cert.quiescent_Kernel := fun m ρ _ => (θ_run Cert.KernelIdeal.defs _ _).mono (fun _ h => h) (Nms.frame_bits m ρ)

theorem frame_kernelIdeal : Cert.quiescent_KernelIdeal := fun m ρ _ => Nms.frame_ideal m ρ

theorem frame_referenceIdeal : Cert.quiescent_ReferenceIdeal := fun m ρ _ =>
  (θ_run _ _ _).mono (fun _ h => ⟨fun c => (h.1 c).2, h.2⟩) (Ref.run_ref m ρ)

theorem frame_kernelIdeal_in_classes : Cert.quiescent_KernelIdeal_pre_in_classes := fun m ρ _ => Nms.frame_ideal m ρ

theorem frame_referenceIdeal_in_classes : Cert.quiescent_ReferenceIdeal_pre_in_classes := fun m ρ _ =>
  (θ_run _ _ _).mono (fun _ h => ⟨fun c => (h.1 c).2, h.2⟩) (Ref.run_ref m ρ)

/-- From one input the two programs end with one result: the reference's array of kept boxes and scores. -/
theorem same_result : Cert.algebraic_KernelIdeal_ReferenceIdeal_pre_in_classes := fun m ρ m' ρ' hpre hargs =>
  ⟨fun c => Ref.resV (Ref.refKept m' c) (Ref.bxR m' c) (Ref.scR m' c),
    (θ_run _ _ _).mono (fun _ h c => ⟨(h.1 c).1.trans (Alg.results_eq m m' c c (hargs c).1 (hargs c).2.1 (hargs c).2.2
      (Alg.labels_in _ _ _ (hpre c))), (h.1 c).2⟩) (Nms.run_values m ρ Nms.conv_ideal),
    (θ_run _ _ _).mono (fun _ h c => ⟨(h.1 c).1.trans (Ref.ref_result m' c), (h.1 c).2⟩) (Ref.run_ref m' ρ')⟩

theorem claim : Cert.Claim := ⟨Cert.Kernel.Gen.facts, Cert.KernelIdeal.Gen.facts, Cert.ReferenceIdeal.Gen.facts, Cert.Pre_in_classes.Gen.facts,
  frame_kernel, frame_kernelIdeal, frame_kernelIdeal_in_classes, frame_referenceIdeal, frame_referenceIdeal_in_classes, trivial, same_result⟩

end Cert.Proof

end
